-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed [hPre_packed : Cert.Pre_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.2.2.2.2 = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_packed [hPre_packed : Cert.Pre_packed.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.2.2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.2.2.2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.2.2.2.2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.2.2.2.2.2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.2.2.2.2.2.2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.2.2.2.2.2.2.2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.2.2.2.2.2.2.2.2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.2.2.2.2.2.2.2.2.2.1 = (fun _ => 1#1)
    ∧ (Cert.Pre_packed.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7))).2.2.2.2.2.2.2.2.2.2.2.2 = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_packed [hPre_packed : Cert.Pre_packed.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.2.2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.2.2.2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.2.2.2.2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.2.2.2.2.2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.2.2.2.2.2.2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.2.2.2.2.2.2.2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.2.2.2.2.2.2.2.2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.2.2.2.2.2.2.2.2.2.1 = (fun _ => 1#1)
    ∧ (Cert.Pre_packed.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7))).2.2.2.2.2.2.2.2.2.2.2.2 = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_packed [hPre_packed : Cert.Pre_packed.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.2.2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.2.2.2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.2.2.2.2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.2.2.2.2.2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.2.2.2.2.2.2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.2.2.2.2.2.2.2.1 = (fun _ => 1#1)
    ∧ (Cert.Pre_packed.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.2.2.2.2.2.2.2.2 = (fun _ => 1#1)

def Pre_ReferenceCIdeal (m : (ℓ : Loc Cert.ReferenceCIdeal.nD Cert.ReferenceCIdeal.τ Cert.ReferenceCIdeal.sig) → Buf (Elt Ideal) ℓ) : Prop :=
  True

def Pre_ReferenceCIdeal_packed [hPre_packed : Cert.Pre_packed.Facts] (m : (ℓ : Loc Cert.ReferenceCIdeal.nD Cert.ReferenceCIdeal.τ Cert.ReferenceCIdeal.sig) → Buf (Elt Ideal) ℓ) : Prop :=
  ∀ c : Dev Cert.ReferenceCIdeal.nD,
    (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.2.2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.2.2.2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.2.2.2.2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.2.2.2.2.2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.2.2.2.2.2.2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.2.2.2.2.2.2.2.1 = (fun _ => 1#1)
    ∧ (Cert.Pre_packed.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.2.2.2.2.2.2.2.2 = (fun _ => 1#1)

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_KernelDIdeal_packed [hPre_packed : Cert.Pre_packed.Facts] (m : (ℓ : Loc Cert.KernelDIdeal.nD Cert.KernelDIdeal.τ Cert.KernelDIdeal.sig) → Buf (Elt Ideal) ℓ) : Prop :=
  ∀ c : Dev Cert.KernelDIdeal.nD,
    (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.2.2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.2.2.2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.2.2.2.2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.2.2.2.2.2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.2.2.2.2.2.2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.2.2.2.2.2.2.2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.2.2.2.2.2.2.2.2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.2.2.2.2.2.2.2.2.2.1 = (fun _ => 1#1)
    ∧ (Cert.Pre_packed.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7))).2.2.2.2.2.2.2.2.2.2.2.2 = (fun _ => 1#1)

def Pre_ReferenceDIdeal (m : (ℓ : Loc Cert.ReferenceDIdeal.nD Cert.ReferenceDIdeal.τ Cert.ReferenceDIdeal.sig) → Buf (Elt Ideal) ℓ) : Prop :=
  True

def Pre_ReferenceDIdeal_packed [hPre_packed : Cert.Pre_packed.Facts] (m : (ℓ : Loc Cert.ReferenceDIdeal.nD Cert.ReferenceDIdeal.τ Cert.ReferenceDIdeal.sig) → Buf (Elt Ideal) ℓ) : Prop :=
  ∀ c : Dev Cert.ReferenceDIdeal.nD,
    (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.2.2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.2.2.2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.2.2.2.2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.2.2.2.2.2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.2.2.2.2.2.2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.2.2.2.2.2.2.2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.2.2.2.2.2.2.2.2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.2.2.2.2.2.2.2.2.2.1 = (fun _ => 1#1)
    ∧ (Cert.Pre_packed.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7))).2.2.2.2.2.2.2.2.2.2.2.2 = (fun _ => 1#1)

def Pre_Table (m : (ℓ : Loc Cert.Table.nD Cert.Table.τ Cert.Table.sig) → Buf (Elt Bits) ℓ) : Prop :=
  True

def Pre_TableReference (m : (ℓ : Loc Cert.TableReference.nD Cert.TableReference.τ Cert.TableReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_packed [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_packed [hReferenceIdeal : Cert.ReferenceIdeal.Facts] [hPre_packed : Cert.Pre_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5)
      ∧ r.2.mem ((c.tc : Thread Cert.KernelB.nD Cert.KernelB.τ).loc Cert.KernelB.main_arg6) = m ((c.tc : Thread Cert.KernelB.nD Cert.KernelB.τ).loc Cert.KernelB.main_arg6)
      ∧ r.2.mem ((c.tc : Thread Cert.KernelB.nD Cert.KernelB.τ).loc Cert.KernelB.main_arg7) = m ((c.tc : Thread Cert.KernelB.nD Cert.KernelB.τ).loc Cert.KernelB.main_arg7))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7))
      ∧ r.2.sem = fun _ => 0)

def quiescent_KernelBIdeal_pre_packed [hKernelBIdeal : Cert.KernelBIdeal.Facts] [hPre_packed : Cert.Pre_packed.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_packed m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7))
      ∧ r.2.sem = fun _ => 0)

def quiescent_ReferenceBIdeal_pre_packed [hReferenceBIdeal : Cert.ReferenceBIdeal.Facts] [hPre_packed : Cert.Pre_packed.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_packed m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5)
      ∧ r.2.mem ((c.tc : Thread Cert.KernelC.nD Cert.KernelC.τ).loc Cert.KernelC.main_arg6) = m ((c.tc : Thread Cert.KernelC.nD Cert.KernelC.τ).loc Cert.KernelC.main_arg6)
      ∧ r.2.mem ((c.tc : Thread Cert.KernelC.nD Cert.KernelC.τ).loc Cert.KernelC.main_arg7) = m ((c.tc : Thread Cert.KernelC.nD Cert.KernelC.τ).loc Cert.KernelC.main_arg7))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7))
      ∧ r.2.sem = fun _ => 0)

def quiescent_KernelCIdeal_pre_packed [hKernelCIdeal : Cert.KernelCIdeal.Facts] [hPre_packed : Cert.Pre_packed.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_packed m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6)
      ∧ r.2.mem ((c.tc : Thread Cert.ReferenceCIdeal.nD Cert.ReferenceCIdeal.τ).loc Cert.ReferenceCIdeal.main_arg7) = m ((c.tc : Thread Cert.ReferenceCIdeal.nD Cert.ReferenceCIdeal.τ).loc Cert.ReferenceCIdeal.main_arg7))
      ∧ r.2.sem = fun _ => 0)

def quiescent_ReferenceCIdeal_pre_packed [hReferenceCIdeal : Cert.ReferenceCIdeal.Facts] [hPre_packed : Cert.Pre_packed.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal_packed m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6)
      ∧ r.2.mem ((c.tc : Thread Cert.ReferenceCIdeal.nD Cert.ReferenceCIdeal.τ).loc Cert.ReferenceCIdeal.main_arg7) = m ((c.tc : Thread Cert.ReferenceCIdeal.nD Cert.ReferenceCIdeal.τ).loc Cert.ReferenceCIdeal.main_arg7))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1)
      ∧ r.2.mem ((c.tc : Thread Cert.KernelD.nD Cert.KernelD.τ).loc Cert.KernelD.main_arg2) = m ((c.tc : Thread Cert.KernelD.nD Cert.KernelD.τ).loc Cert.KernelD.main_arg2)
      ∧ r.2.mem ((c.tc : Thread Cert.KernelD.nD Cert.KernelD.τ).loc Cert.KernelD.main_arg3) = m ((c.tc : Thread Cert.KernelD.nD Cert.KernelD.τ).loc Cert.KernelD.main_arg3)
      ∧ r.2.mem ((c.tc : Thread Cert.KernelD.nD Cert.KernelD.τ).loc Cert.KernelD.main_arg4) = m ((c.tc : Thread Cert.KernelD.nD Cert.KernelD.τ).loc Cert.KernelD.main_arg4)
      ∧ r.2.mem ((c.tc : Thread Cert.KernelD.nD Cert.KernelD.τ).loc Cert.KernelD.main_arg5) = m ((c.tc : Thread Cert.KernelD.nD Cert.KernelD.τ).loc Cert.KernelD.main_arg5)
      ∧ r.2.mem ((c.tc : Thread Cert.KernelD.nD Cert.KernelD.τ).loc Cert.KernelD.main_arg6) = m ((c.tc : Thread Cert.KernelD.nD Cert.KernelD.τ).loc Cert.KernelD.main_arg6)
      ∧ r.2.mem ((c.tc : Thread Cert.KernelD.nD Cert.KernelD.τ).loc Cert.KernelD.main_arg7) = m ((c.tc : Thread Cert.KernelD.nD Cert.KernelD.τ).loc Cert.KernelD.main_arg7))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
      ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5)
      ∧ r.2.mem ((c.tc : Thread Cert.KernelDIdeal.nD Cert.KernelDIdeal.τ).loc Cert.KernelDIdeal.main_arg6) = m ((c.tc : Thread Cert.KernelDIdeal.nD Cert.KernelDIdeal.τ).loc Cert.KernelDIdeal.main_arg6)
      ∧ r.2.mem ((c.tc : Thread Cert.KernelDIdeal.nD Cert.KernelDIdeal.τ).loc Cert.KernelDIdeal.main_arg7) = m ((c.tc : Thread Cert.KernelDIdeal.nD Cert.KernelDIdeal.τ).loc Cert.KernelDIdeal.main_arg7))
      ∧ r.2.sem = fun _ => 0)

def quiescent_KernelDIdeal_pre_packed [hKernelDIdeal : Cert.KernelDIdeal.Facts] [hPre_packed : Cert.Pre_packed.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal_packed m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
      ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5)
      ∧ r.2.mem ((c.tc : Thread Cert.KernelDIdeal.nD Cert.KernelDIdeal.τ).loc Cert.KernelDIdeal.main_arg6) = m ((c.tc : Thread Cert.KernelDIdeal.nD Cert.KernelDIdeal.τ).loc Cert.KernelDIdeal.main_arg6)
      ∧ r.2.mem ((c.tc : Thread Cert.KernelDIdeal.nD Cert.KernelDIdeal.τ).loc Cert.KernelDIdeal.main_arg7) = m ((c.tc : Thread Cert.KernelDIdeal.nD Cert.KernelDIdeal.τ).loc Cert.KernelDIdeal.main_arg7))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4)
      ∧ r.2.mem ((c.tc : Thread Cert.ReferenceDIdeal.nD Cert.ReferenceDIdeal.τ).loc Cert.ReferenceDIdeal.main_arg5) = m ((c.tc : Thread Cert.ReferenceDIdeal.nD Cert.ReferenceDIdeal.τ).loc Cert.ReferenceDIdeal.main_arg5)
      ∧ r.2.mem ((c.tc : Thread Cert.ReferenceDIdeal.nD Cert.ReferenceDIdeal.τ).loc Cert.ReferenceDIdeal.main_arg6) = m ((c.tc : Thread Cert.ReferenceDIdeal.nD Cert.ReferenceDIdeal.τ).loc Cert.ReferenceDIdeal.main_arg6)
      ∧ r.2.mem ((c.tc : Thread Cert.ReferenceDIdeal.nD Cert.ReferenceDIdeal.τ).loc Cert.ReferenceDIdeal.main_arg7) = m ((c.tc : Thread Cert.ReferenceDIdeal.nD Cert.ReferenceDIdeal.τ).loc Cert.ReferenceDIdeal.main_arg7))
      ∧ r.2.sem = fun _ => 0)

def quiescent_ReferenceDIdeal_pre_packed [hReferenceDIdeal : Cert.ReferenceDIdeal.Facts] [hPre_packed : Cert.Pre_packed.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal_packed m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4)
      ∧ r.2.mem ((c.tc : Thread Cert.ReferenceDIdeal.nD Cert.ReferenceDIdeal.τ).loc Cert.ReferenceDIdeal.main_arg5) = m ((c.tc : Thread Cert.ReferenceDIdeal.nD Cert.ReferenceDIdeal.τ).loc Cert.ReferenceDIdeal.main_arg5)
      ∧ r.2.mem ((c.tc : Thread Cert.ReferenceDIdeal.nD Cert.ReferenceDIdeal.τ).loc Cert.ReferenceDIdeal.main_arg6) = m ((c.tc : Thread Cert.ReferenceDIdeal.nD Cert.ReferenceDIdeal.τ).loc Cert.ReferenceDIdeal.main_arg6)
      ∧ r.2.mem ((c.tc : Thread Cert.ReferenceDIdeal.nD Cert.ReferenceDIdeal.τ).loc Cert.ReferenceDIdeal.main_arg7) = m ((c.tc : Thread Cert.ReferenceDIdeal.nD Cert.ReferenceDIdeal.τ).loc Cert.ReferenceDIdeal.main_arg7))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1))
      ∧ r.2.sem = fun _ => 0)

def quiescent_TableReference [hTableReference : Cert.TableReference.Facts] : Prop :=
  ∀ (m : (ℓ : Loc Cert.TableReference.nD Cert.TableReference.τ Cert.TableReference.sig) → Buf (Elt Bits) ℓ) (g : Dev Cert.TableReference.nD → PrngReg), Pre_TableReference m →
    θ_run (Cert.TableReference.defs (F := Bits)) (onTc (τ := Cert.TableReference.τ) (Cert.TableReference.main (F := Bits))) ⟨m, fun _ => 0, g⟩ (fun r => (∀ c : Dev Cert.TableReference.nD,
      r.2.mem ((c.tc : Thread Cert.TableReference.nD Cert.TableReference.τ).loc Cert.TableReference.main_arg0) = m ((c.tc : Thread Cert.TableReference.nD Cert.TableReference.τ).loc Cert.TableReference.main_arg0)
      ∧ r.2.mem ((c.tc : Thread Cert.TableReference.nD Cert.TableReference.τ).loc Cert.TableReference.main_arg1) = m ((c.tc : Thread Cert.TableReference.nD Cert.TableReference.τ).loc Cert.TableReference.main_arg1))
      ∧ r.2.sem = fun _ => 0)

def preserves_Kernel_KernelIdeal : Prop :=
  True

def algebraic_KernelIdeal_ReferenceIdeal_pre_packed [hKernelIdeal : Cert.KernelIdeal.Facts] [hReferenceIdeal : Cert.ReferenceIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44_0) = v0 c
          ∧ r.2.mem ((c.tc : Thread Cert.ReferenceIdeal.nD Cert.ReferenceIdeal.τ).loc Cert.ReferenceIdeal.main_v44_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelB_KernelBIdeal : Prop :=
  True

def algebraic_KernelBIdeal_ReferenceBIdeal_pre_packed [hKernelBIdeal : Cert.KernelBIdeal.Facts] [hReferenceBIdeal : Cert.ReferenceBIdeal.Facts] [hPre_packed : Cert.Pre_packed.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_packed m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)
      ∧ m' ((c.tc : Thread Cert.ReferenceBIdeal.nD Cert.ReferenceBIdeal.τ).loc Cert.ReferenceBIdeal.main_arg5) = m ((c.tc : Thread Cert.KernelBIdeal.nD Cert.KernelBIdeal.τ).loc Cert.KernelBIdeal.main_arg5)
      ∧ m' ((c.tc : Thread Cert.ReferenceBIdeal.nD Cert.ReferenceBIdeal.τ).loc Cert.ReferenceBIdeal.main_arg6) = m ((c.tc : Thread Cert.KernelBIdeal.nD Cert.KernelBIdeal.τ).loc Cert.KernelBIdeal.main_arg6)
      ∧ m' ((c.tc : Thread Cert.ReferenceBIdeal.nD Cert.ReferenceBIdeal.τ).loc Cert.ReferenceBIdeal.main_arg7) = m ((c.tc : Thread Cert.KernelBIdeal.nD Cert.KernelBIdeal.τ).loc Cert.KernelBIdeal.main_arg7)) →
    ∃ (v0 : (c : Dev Cert.KernelBIdeal.nD) → Buf (Elt Ideal) ((c.tc : Thread Cert.KernelBIdeal.nD Cert.KernelBIdeal.τ).loc Cert.KernelBIdeal.main_v8)) (v1 : (c : Dev Cert.KernelBIdeal.nD) → Buf (Elt Ideal) ((c.tc : Thread Cert.KernelBIdeal.nD Cert.KernelBIdeal.τ).loc Cert.KernelBIdeal.main_v9)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v8) = v0 c
          ∧ r.2.mem ((c.tc : Thread Cert.KernelBIdeal.nD Cert.KernelBIdeal.τ).loc Cert.KernelBIdeal.main_v9) = v1 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
          ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
          ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v44_0) = v0 c
          ∧ r.2.mem ((c.tc : Thread Cert.ReferenceBIdeal.nD Cert.ReferenceBIdeal.τ).loc Cert.ReferenceBIdeal.main_v44_1) = v1 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4)
          ∧ r.2.mem ((c.tc : Thread Cert.ReferenceBIdeal.nD Cert.ReferenceBIdeal.τ).loc Cert.ReferenceBIdeal.main_arg5) = m' ((c.tc : Thread Cert.ReferenceBIdeal.nD Cert.ReferenceBIdeal.τ).loc Cert.ReferenceBIdeal.main_arg5)
          ∧ r.2.mem ((c.tc : Thread Cert.ReferenceBIdeal.nD Cert.ReferenceBIdeal.τ).loc Cert.ReferenceBIdeal.main_arg6) = m' ((c.tc : Thread Cert.ReferenceBIdeal.nD Cert.ReferenceBIdeal.τ).loc Cert.ReferenceBIdeal.main_arg6)
          ∧ r.2.mem ((c.tc : Thread Cert.ReferenceBIdeal.nD Cert.ReferenceBIdeal.τ).loc Cert.ReferenceBIdeal.main_arg7) = m' ((c.tc : Thread Cert.ReferenceBIdeal.nD Cert.ReferenceBIdeal.τ).loc Cert.ReferenceBIdeal.main_arg7))

def preserves_KernelC_KernelCIdeal : Prop :=
  True

def algebraic_KernelCIdeal_ReferenceCIdeal_pre_packed [hKernelCIdeal : Cert.KernelCIdeal.Facts] [hReferenceCIdeal : Cert.ReferenceCIdeal.Facts] [hPre_packed : Cert.Pre_packed.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal_packed m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
      ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
      ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)
      ∧ m' ((c.tc : Thread Cert.ReferenceCIdeal.nD Cert.ReferenceCIdeal.τ).loc Cert.ReferenceCIdeal.main_arg6) = m ((c.tc : Thread Cert.KernelCIdeal.nD Cert.KernelCIdeal.τ).loc Cert.KernelCIdeal.main_arg6)
      ∧ m' ((c.tc : Thread Cert.ReferenceCIdeal.nD Cert.ReferenceCIdeal.τ).loc Cert.ReferenceCIdeal.main_arg7) = m ((c.tc : Thread Cert.KernelCIdeal.nD Cert.KernelCIdeal.τ).loc Cert.KernelCIdeal.main_arg7)) →
    ∃ (v0 : (c : Dev Cert.KernelCIdeal.nD) → Buf (Elt Ideal) ((c.tc : Thread Cert.KernelCIdeal.nD Cert.KernelCIdeal.τ).loc Cert.KernelCIdeal.main_v8)) (v1 : (c : Dev Cert.KernelCIdeal.nD) → Buf (Elt Ideal) ((c.tc : Thread Cert.KernelCIdeal.nD Cert.KernelCIdeal.τ).loc Cert.KernelCIdeal.main_v9)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v8) = v0 c
          ∧ r.2.mem ((c.tc : Thread Cert.KernelCIdeal.nD Cert.KernelCIdeal.τ).loc Cert.KernelCIdeal.main_v9) = v1 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
          ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
          ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
          ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
          ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v44_0) = v0 c
          ∧ r.2.mem ((c.tc : Thread Cert.ReferenceCIdeal.nD Cert.ReferenceCIdeal.τ).loc Cert.ReferenceCIdeal.main_v44_1) = v1 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3)
          ∧ r.2.mem ((c.tc : Thread Cert.ReferenceCIdeal.nD Cert.ReferenceCIdeal.τ).loc Cert.ReferenceCIdeal.main_arg4) = m' ((c.tc : Thread Cert.ReferenceCIdeal.nD Cert.ReferenceCIdeal.τ).loc Cert.ReferenceCIdeal.main_arg4)
          ∧ r.2.mem ((c.tc : Thread Cert.ReferenceCIdeal.nD Cert.ReferenceCIdeal.τ).loc Cert.ReferenceCIdeal.main_arg5) = m' ((c.tc : Thread Cert.ReferenceCIdeal.nD Cert.ReferenceCIdeal.τ).loc Cert.ReferenceCIdeal.main_arg5)
          ∧ r.2.mem ((c.tc : Thread Cert.ReferenceCIdeal.nD Cert.ReferenceCIdeal.τ).loc Cert.ReferenceCIdeal.main_arg6) = m' ((c.tc : Thread Cert.ReferenceCIdeal.nD Cert.ReferenceCIdeal.τ).loc Cert.ReferenceCIdeal.main_arg6)
          ∧ r.2.mem ((c.tc : Thread Cert.ReferenceCIdeal.nD Cert.ReferenceCIdeal.τ).loc Cert.ReferenceCIdeal.main_arg7) = m' ((c.tc : Thread Cert.ReferenceCIdeal.nD Cert.ReferenceCIdeal.τ).loc Cert.ReferenceCIdeal.main_arg7))

def preserves_KernelD_KernelDIdeal : Prop :=
  True

def algebraic_KernelDIdeal_ReferenceDIdeal_pre_packed [hKernelDIdeal : Cert.KernelDIdeal.Facts] [hReferenceDIdeal : Cert.ReferenceDIdeal.Facts] [hPre_packed : Cert.Pre_packed.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal_packed m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)
      ∧ m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2)
      ∧ m' ((c.tc : Thread Cert.ReferenceDIdeal.nD Cert.ReferenceDIdeal.τ).loc Cert.ReferenceDIdeal.main_arg3) = m ((c.tc : Thread Cert.KernelDIdeal.nD Cert.KernelDIdeal.τ).loc Cert.KernelDIdeal.main_arg3)
      ∧ m' ((c.tc : Thread Cert.ReferenceDIdeal.nD Cert.ReferenceDIdeal.τ).loc Cert.ReferenceDIdeal.main_arg4) = m ((c.tc : Thread Cert.KernelDIdeal.nD Cert.KernelDIdeal.τ).loc Cert.KernelDIdeal.main_arg4)
      ∧ m' ((c.tc : Thread Cert.ReferenceDIdeal.nD Cert.ReferenceDIdeal.τ).loc Cert.ReferenceDIdeal.main_arg5) = m ((c.tc : Thread Cert.KernelDIdeal.nD Cert.KernelDIdeal.τ).loc Cert.KernelDIdeal.main_arg5)
      ∧ m' ((c.tc : Thread Cert.ReferenceDIdeal.nD Cert.ReferenceDIdeal.τ).loc Cert.ReferenceDIdeal.main_arg6) = m ((c.tc : Thread Cert.KernelDIdeal.nD Cert.KernelDIdeal.τ).loc Cert.KernelDIdeal.main_arg6)
      ∧ m' ((c.tc : Thread Cert.ReferenceDIdeal.nD Cert.ReferenceDIdeal.τ).loc Cert.ReferenceDIdeal.main_arg7) = m ((c.tc : Thread Cert.KernelDIdeal.nD Cert.KernelDIdeal.τ).loc Cert.KernelDIdeal.main_arg7)) →
    ∃ (v0 : (c : Dev Cert.KernelDIdeal.nD) → Buf (Elt Ideal) ((c.tc : Thread Cert.KernelDIdeal.nD Cert.KernelDIdeal.τ).loc Cert.KernelDIdeal.main_v8)) (v1 : (c : Dev Cert.KernelDIdeal.nD) → Buf (Elt Ideal) ((c.tc : Thread Cert.KernelDIdeal.nD Cert.KernelDIdeal.τ).loc Cert.KernelDIdeal.main_v9)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v8) = v0 c
          ∧ r.2.mem ((c.tc : Thread Cert.KernelDIdeal.nD Cert.KernelDIdeal.τ).loc Cert.KernelDIdeal.main_v9) = v1 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
          ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
          ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
          ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
          ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5)
          ∧ r.2.mem ((c.tc : Thread Cert.KernelDIdeal.nD Cert.KernelDIdeal.τ).loc Cert.KernelDIdeal.main_arg6) = m ((c.tc : Thread Cert.KernelDIdeal.nD Cert.KernelDIdeal.τ).loc Cert.KernelDIdeal.main_arg6)
          ∧ r.2.mem ((c.tc : Thread Cert.KernelDIdeal.nD Cert.KernelDIdeal.τ).loc Cert.KernelDIdeal.main_arg7) = m ((c.tc : Thread Cert.KernelDIdeal.nD Cert.KernelDIdeal.τ).loc Cert.KernelDIdeal.main_arg7))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v44_0) = v0 c
          ∧ r.2.mem ((c.tc : Thread Cert.ReferenceDIdeal.nD Cert.ReferenceDIdeal.τ).loc Cert.ReferenceDIdeal.main_v44_1) = v1 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1)
          ∧ r.2.mem ((c.tc : Thread Cert.ReferenceDIdeal.nD Cert.ReferenceDIdeal.τ).loc Cert.ReferenceDIdeal.main_arg2) = m' ((c.tc : Thread Cert.ReferenceDIdeal.nD Cert.ReferenceDIdeal.τ).loc Cert.ReferenceDIdeal.main_arg2)
          ∧ r.2.mem ((c.tc : Thread Cert.ReferenceDIdeal.nD Cert.ReferenceDIdeal.τ).loc Cert.ReferenceDIdeal.main_arg3) = m' ((c.tc : Thread Cert.ReferenceDIdeal.nD Cert.ReferenceDIdeal.τ).loc Cert.ReferenceDIdeal.main_arg3)
          ∧ r.2.mem ((c.tc : Thread Cert.ReferenceDIdeal.nD Cert.ReferenceDIdeal.τ).loc Cert.ReferenceDIdeal.main_arg4) = m' ((c.tc : Thread Cert.ReferenceDIdeal.nD Cert.ReferenceDIdeal.τ).loc Cert.ReferenceDIdeal.main_arg4)
          ∧ r.2.mem ((c.tc : Thread Cert.ReferenceDIdeal.nD Cert.ReferenceDIdeal.τ).loc Cert.ReferenceDIdeal.main_arg5) = m' ((c.tc : Thread Cert.ReferenceDIdeal.nD Cert.ReferenceDIdeal.τ).loc Cert.ReferenceDIdeal.main_arg5)
          ∧ r.2.mem ((c.tc : Thread Cert.ReferenceDIdeal.nD Cert.ReferenceDIdeal.τ).loc Cert.ReferenceDIdeal.main_arg6) = m' ((c.tc : Thread Cert.ReferenceDIdeal.nD Cert.ReferenceDIdeal.τ).loc Cert.ReferenceDIdeal.main_arg6)
          ∧ r.2.mem ((c.tc : Thread Cert.ReferenceDIdeal.nD Cert.ReferenceDIdeal.τ).loc Cert.ReferenceDIdeal.main_arg7) = m' ((c.tc : Thread Cert.ReferenceDIdeal.nD Cert.ReferenceDIdeal.τ).loc Cert.ReferenceDIdeal.main_arg7))

def bitexact_Table_TableReference_on_items [hTable : Cert.Table.Facts] [hTableReference : Cert.TableReference.Facts] [hOn_items : Cert.On_items.Facts] : Prop :=
  ∀ (m : (ℓ : Loc Cert.Table.nD Cert.Table.τ Cert.Table.sig) → Buf (Elt Bits) ℓ) (g : Dev Cert.Table.nD → PrngReg)
    (m' : (ℓ : Loc Cert.TableReference.nD Cert.TableReference.τ Cert.TableReference.sig) → Buf (Elt Bits) ℓ) (g' : Dev Cert.TableReference.nD → PrngReg), Pre_Table m →
    (∀ c : Dev Cert.Table.nD,
      m' ((c.tc : Thread Cert.TableReference.nD Cert.TableReference.τ).loc Cert.TableReference.main_arg0) = m ((c.tc : Thread Cert.Table.nD Cert.Table.τ).loc Cert.Table.main_arg0)
      ∧ m' ((c.tc : Thread Cert.TableReference.nD Cert.TableReference.τ).loc Cert.TableReference.main_arg1) = m ((c.tc : Thread Cert.Table.nD Cert.Table.τ).loc Cert.Table.main_arg1)) →
    ∃ (v0 : (c : Dev Cert.Table.nD) → Buf (Elt Bits) ((c.tc : Thread Cert.Table.nD Cert.Table.τ).loc Cert.Table.main_v0)),
      θ_run (Cert.Table.defs (F := Bits)) (onTc (τ := Cert.Table.τ) (Cert.Table.main (F := Bits))) ⟨m, fun _ => 0, g⟩ (fun r => ∀ c : Dev Cert.Table.nD,
          (∀ i : (⟨2, ![220160, 128]⟩ : Shape).Idx, (Cert.On_items.fn (F := Bits) (m ((c.tc : Thread Cert.Table.nD Cert.Table.τ).loc Cert.Table.main_arg0)) (m ((c.tc : Thread Cert.Table.nD Cert.Table.τ).loc Cert.Table.main_arg1))) i = 1#1 → r.2.mem ((c.tc : Thread Cert.Table.nD Cert.Table.τ).loc Cert.Table.main_v0) i = v0 c i)
          ∧ r.2.mem ((c.tc : Thread Cert.Table.nD Cert.Table.τ).loc Cert.Table.main_arg0) = m ((c.tc : Thread Cert.Table.nD Cert.Table.τ).loc Cert.Table.main_arg0)
          ∧ r.2.mem ((c.tc : Thread Cert.Table.nD Cert.Table.τ).loc Cert.Table.main_arg1) = m ((c.tc : Thread Cert.Table.nD Cert.Table.τ).loc Cert.Table.main_arg1))
      ∧ θ_run (Cert.TableReference.defs (F := Bits)) (onTc (τ := Cert.TableReference.τ) (Cert.TableReference.main (F := Bits))) ⟨m', fun _ => 0, g'⟩ (fun r => ∀ c : Dev Cert.TableReference.nD,
          (∀ i : (⟨2, ![220160, 128]⟩ : Shape).Idx, (Cert.On_items.fn (F := Bits) (m ((c.tc : Thread Cert.Table.nD Cert.Table.τ).loc Cert.Table.main_arg0)) (m ((c.tc : Thread Cert.Table.nD Cert.Table.τ).loc Cert.Table.main_arg1))) i = 1#1 → r.2.mem ((c.tc : Thread Cert.TableReference.nD Cert.TableReference.τ).loc Cert.TableReference.main_v4) i = v0 c i)
          ∧ r.2.mem ((c.tc : Thread Cert.TableReference.nD Cert.TableReference.τ).loc Cert.TableReference.main_arg0) = m' ((c.tc : Thread Cert.TableReference.nD Cert.TableReference.τ).loc Cert.TableReference.main_arg0)
          ∧ r.2.mem ((c.tc : Thread Cert.TableReference.nD Cert.TableReference.τ).loc Cert.TableReference.main_arg1) = m' ((c.tc : Thread Cert.TableReference.nD Cert.TableReference.τ).loc Cert.TableReference.main_arg1))

def Claim : Prop :=
  ∃ (hKernel : Cert.Kernel.Facts) (hKernelIdeal : Cert.KernelIdeal.Facts) (hReferenceIdeal : Cert.ReferenceIdeal.Facts) (hKernelB : Cert.KernelB.Facts) (hKernelBIdeal : Cert.KernelBIdeal.Facts) (hReferenceBIdeal : Cert.ReferenceBIdeal.Facts) (hKernelC : Cert.KernelC.Facts) (hKernelCIdeal : Cert.KernelCIdeal.Facts) (hReferenceCIdeal : Cert.ReferenceCIdeal.Facts) (hKernelD : Cert.KernelD.Facts) (hKernelDIdeal : Cert.KernelDIdeal.Facts) (hReferenceDIdeal : Cert.ReferenceDIdeal.Facts) (hTable : Cert.Table.Facts) (hTableReference : Cert.TableReference.Facts) (hPre_packed : Cert.Pre_packed.Facts) (hOn_items : Cert.On_items.Facts),
    quiescent_Kernel (hKernel := hKernel)
    ∧ quiescent_KernelIdeal (hKernelIdeal := hKernelIdeal)
    ∧ quiescent_KernelIdeal_pre_packed (hKernelIdeal := hKernelIdeal) (hPre_packed := hPre_packed)
    ∧ quiescent_ReferenceIdeal (hReferenceIdeal := hReferenceIdeal)
    ∧ quiescent_ReferenceIdeal_pre_packed (hReferenceIdeal := hReferenceIdeal) (hPre_packed := hPre_packed)
    ∧ quiescent_KernelB (hKernelB := hKernelB)
    ∧ quiescent_KernelBIdeal (hKernelBIdeal := hKernelBIdeal)
    ∧ quiescent_KernelBIdeal_pre_packed (hKernelBIdeal := hKernelBIdeal) (hPre_packed := hPre_packed)
    ∧ quiescent_ReferenceBIdeal (hReferenceBIdeal := hReferenceBIdeal)
    ∧ quiescent_ReferenceBIdeal_pre_packed (hReferenceBIdeal := hReferenceBIdeal) (hPre_packed := hPre_packed)
    ∧ quiescent_KernelC (hKernelC := hKernelC)
    ∧ quiescent_KernelCIdeal (hKernelCIdeal := hKernelCIdeal)
    ∧ quiescent_KernelCIdeal_pre_packed (hKernelCIdeal := hKernelCIdeal) (hPre_packed := hPre_packed)
    ∧ quiescent_ReferenceCIdeal (hReferenceCIdeal := hReferenceCIdeal)
    ∧ quiescent_ReferenceCIdeal_pre_packed (hReferenceCIdeal := hReferenceCIdeal) (hPre_packed := hPre_packed)
    ∧ quiescent_KernelD (hKernelD := hKernelD)
    ∧ quiescent_KernelDIdeal (hKernelDIdeal := hKernelDIdeal)
    ∧ quiescent_KernelDIdeal_pre_packed (hKernelDIdeal := hKernelDIdeal) (hPre_packed := hPre_packed)
    ∧ quiescent_ReferenceDIdeal (hReferenceDIdeal := hReferenceDIdeal)
    ∧ quiescent_ReferenceDIdeal_pre_packed (hReferenceDIdeal := hReferenceDIdeal) (hPre_packed := hPre_packed)
    ∧ quiescent_Table (hTable := hTable)
    ∧ quiescent_TableReference (hTableReference := hTableReference)
    ∧ preserves_Kernel_KernelIdeal
    ∧ algebraic_KernelIdeal_ReferenceIdeal_pre_packed (hKernelIdeal := hKernelIdeal) (hReferenceIdeal := hReferenceIdeal) (hPre_packed := hPre_packed)
    ∧ preserves_KernelB_KernelBIdeal
    ∧ algebraic_KernelBIdeal_ReferenceBIdeal_pre_packed (hKernelBIdeal := hKernelBIdeal) (hReferenceBIdeal := hReferenceBIdeal) (hPre_packed := hPre_packed)
    ∧ preserves_KernelC_KernelCIdeal
    ∧ algebraic_KernelCIdeal_ReferenceCIdeal_pre_packed (hKernelCIdeal := hKernelCIdeal) (hReferenceCIdeal := hReferenceCIdeal) (hPre_packed := hPre_packed)
    ∧ preserves_KernelD_KernelDIdeal
    ∧ algebraic_KernelDIdeal_ReferenceDIdeal_pre_packed (hKernelDIdeal := hKernelDIdeal) (hReferenceDIdeal := hReferenceDIdeal) (hPre_packed := hPre_packed)
    ∧ bitexact_Table_TableReference_on_items (hTable := hTable) (hTableReference := hTableReference) (hOn_items := hOn_items)
-- ==== On_items.lean ====
abbrev S288x350000 : Shape := ⟨2, ![288, 350000]⟩
abbrev S9x350000 : Shape := ⟨2, ![9, 350000]⟩
abbrev S80x352256 : Shape := ⟨2, ![80, 352256]⟩
abbrev S_ : Shape := ⟨0, ![]⟩
abbrev S80x344x8x128 : Shape := ⟨4, ![80, 344, 8, 128]⟩
abbrev S344x128x8x80 : Shape := ⟨4, ![344, 128, 8, 80]⟩
abbrev S220160x128 : Shape := ⟨2, ![220160, 128]⟩

class Facts : Prop where
  bcast_S_S80x352256 : S_.BroadcastsInDim S80x352256 (![] : Fin 0 → Fin S80x352256.rank)
  shapeCasts_S80x352256_S80x344x8x128 : S80x352256.ShapeCasts S80x344x8x128
  transposes_S80x344x8x128_S344x128x8x80_1_3_2_0 : S80x344x8x128.Transposes [1, 3, 2, 0] S344x128x8x80
  shapeCasts_S344x128x8x80_S220160x128 : S344x128x8x80.ShapeCasts S220160x128

variable [Facts]

def fn {F : FTy → Type} [FloatOps F] (main_arg0 : FVec F S288x350000 .fp8e4m3) (main_arg1 : FVec F S9x350000 .f32) : IVec S220160x128 1 :=
  let main_v0 : IVec S80x352256 32 := iotaInDim S80x352256 32 1
  let main_c : IVec S_ 32 := constantI S_ 32 350000#32
  let main_v1 : IVec S80x352256 32 := broadcastInDim S80x352256 ![] bcast_S_S80x352256 main_c
  let main_v2 : IVec S80x352256 1 := cmpi .slt main_v0 main_v1
  let main_v3 : IVec S80x344x8x128 1 := shapeCast S80x344x8x128 main_v2 shapeCasts_S80x352256_S80x344x8x128
  let main_v4 : IVec S344x128x8x80 1 := (transpose S344x128x8x80 [1, 3, 2, 0] · transposes_S80x344x8x128_S344x128x8x80_1_3_2_0) main_v3
  let main_v5 : IVec S220160x128 1 := shapeCast S220160x128 main_v4 shapeCasts_S344x128x8x80_S220160x128
  main_v5
-- ==== Pre_packed.lean ====
abbrev S1664 : Shape := ⟨1, ![1664]⟩
abbrev S106496x64 : Shape := ⟨2, ![106496, 64]⟩
abbrev S416x4096 : Shape := ⟨2, ![416, 4096]⟩
abbrev S416x3072 : Shape := ⟨2, ![416, 3072]⟩
abbrev S416x128 : Shape := ⟨2, ![416, 128]⟩
abbrev S416x32x8x16 : Shape := ⟨4, ![416, 32, 8, 16]⟩
abbrev S416x24x4x32 : Shape := ⟨4, ![416, 24, 4, 32]⟩
abbrev S416x8x4x32 : Shape := ⟨4, ![416, 8, 4, 32]⟩
abbrev S_ : Shape := ⟨0, ![]⟩
abbrev S416x8x16 : Shape := ⟨3, ![416, 8, 16]⟩
abbrev S416x32x8x8 : Shape := ⟨4, ![416, 32, 8, 8]⟩
abbrev S416x16x4x32 : Shape := ⟨4, ![416, 16, 4, 32]⟩
abbrev S416x64 : Shape := ⟨2, ![416, 64]⟩
abbrev S416x8 : Shape := ⟨2, ![416, 8]⟩
abbrev S416x8x8 : Shape := ⟨3, ![416, 8, 8]⟩
abbrev S416x1x8 : Shape := ⟨3, ![416, 1, 8]⟩
abbrev S416x2x8x8 : Shape := ⟨4, ![416, 2, 8, 8]⟩
abbrev S416x1x8x1 : Shape := ⟨4, ![416, 1, 8, 1]⟩
abbrev S416x1 : Shape := ⟨2, ![416, 1]⟩
abbrev S416x1x1 : Shape := ⟨3, ![416, 1, 1]⟩

class Facts : Prop where
  shapeCasts_S416x4096_S416x32x8x16 : S416x4096.ShapeCasts S416x32x8x16
  shapeCasts_S416x3072_S416x24x4x32 : S416x3072.ShapeCasts S416x24x4x32
  bcast_S_S416x8x4x32 : S_.BroadcastsInDim S416x8x4x32 (![] : Fin 0 → Fin S416x8x4x32.rank)
  shapeCasts_S416x128_S416x8x16 : S416x128.ShapeCasts S416x8x16
  bcast_S_S106496x64 : S_.BroadcastsInDim S106496x64 (![] : Fin 0 → Fin S106496x64.rank)
  slices_S416x32x8x16_S416x32x8x8_0_0_0_0 : S416x32x8x16.Slices ![0, 0, 0, 0] S416x32x8x8
  bcast_S_S416x32x8x8 : S_.BroadcastsInDim S416x32x8x8 (![] : Fin 0 → Fin S416x32x8x8.rank)
  slices_S416x24x4x32_S416x16x4x32_0_0_0_0 : S416x24x4x32.Slices ![0, 0, 0, 0] S416x16x4x32
  bcast_S_S416x16x4x32 : S_.BroadcastsInDim S416x16x4x32 (![] : Fin 0 → Fin S416x16x4x32.rank)
  slices_S416x24x4x32_S416x8x4x32_0_16_0_0 : S416x24x4x32.Slices ![0, 16, 0, 0] S416x8x4x32
  slices_S416x128_S416x64_0_0 : S416x128.Slices ![0, 0] S416x64
  bcast_S_S416x64 : S_.BroadcastsInDim S416x64 (![] : Fin 0 → Fin S416x64.rank)
  slices_S416x128_S416x64_0_64 : S416x128.Slices ![0, 64] S416x64
  slices_S416x128_S416x8_0_0 : S416x128.Slices ![0, 0] S416x8
  bcast_S_S416x8 : S_.BroadcastsInDim S416x8 (![] : Fin 0 → Fin S416x8.rank)
  slices_S416x8x16_S416x8x8_0_0_0 : S416x8x16.Slices ![0, 0, 0] S416x8x8
  bcast_S416x8_S416x1x8_0_2 : S416x8.BroadcastsInDim S416x1x8 (![0, 2] : Fin 2 → Fin S416x1x8.rank)
  bcast_S416x1x8_S416x8x8_0_1_2 : S416x1x8.BroadcastsInDim S416x8x8 (![0, 1, 2] : Fin 3 → Fin S416x8x8.rank)
  slices_S416x8x16_S416x8x8_0_0_8 : S416x8x16.Slices ![0, 0, 8] S416x8x8
  bcast_S_S416x8x8 : S_.BroadcastsInDim S416x8x8 (![] : Fin 0 → Fin S416x8x8.rank)
  slicesBy_S416x128_S416x8_0s1_0s8 : S416x128.SlicesBy (![0, 0] : Fin 2 → Nat) ![1, 8] S416x8
  shapeCasts_S416x128_S416x2x8x8 : S416x128.ShapeCasts S416x2x8x8
  bcast_S416x8_S416x1x8x1_0_2 : S416x8.BroadcastsInDim S416x1x8x1 (![0, 2] : Fin 2 → Fin S416x1x8x1.rank)
  bcast_S416x1x8x1_S416x2x8x8_0_1_2_3 : S416x1x8x1.BroadcastsInDim S416x2x8x8 (![0, 1, 2, 3] : Fin 4 → Fin S416x2x8x8.rank)
  slices_S416x128_S416x1_0_0 : S416x128.Slices ![0, 0] S416x1
  bcast_S_S416x1 : S_.BroadcastsInDim S416x1 (![] : Fin 0 → Fin S416x1.rank)
  bcast_S416x1_S416x1x1_0_1 : S416x1.BroadcastsInDim S416x1x1 (![0, 1] : Fin 2 → Fin S416x1x1.rank)
  bcast_S416x1x1_S416x8x8_0_1_2 : S416x1x1.BroadcastsInDim S416x8x8 (![0, 1, 2] : Fin 3 → Fin S416x8x8.rank)

variable [Facts]

def fn_where {F : FTy → Type} [FloatOps F] (arg0 : IVec S416x8x4x32 1) (arg1 : IVec S416x8x4x32 32) (arg2 : IVec S416x8x4x32 32) : IVec S416x8x4x32 32 :=
  let v0 : IVec S416x8x4x32 32 := select arg0 arg1 arg2
  v0

def fn_floor_divide {F : FTy → Type} [FloatOps F] (arg0 : IVec S416x8x4x32 32) (arg1 : IVec S_ 32) : IVec S416x8x4x32 32 :=
  let v0 : IVec S_ 32 := id arg1
  let v1 : IVec S416x8x4x32 32 := broadcastInDim S416x8x4x32 ![] bcast_S_S416x8x4x32 v0
  let v2 : IVec S416x8x4x32 32 := Host.divsi arg0 v1
  let v3 : IVec S416x8x4x32 32 := signi arg0
  let v4 : IVec S_ 32 := signi v0
  let v5 : IVec S416x8x4x32 32 := broadcastInDim S416x8x4x32 ![] bcast_S_S416x8x4x32 v4
  let v6 : IVec S416x8x4x32 1 := cmpi .ne v3 v5
  let v7 : IVec S416x8x4x32 32 := broadcastInDim S416x8x4x32 ![] bcast_S_S416x8x4x32 v0
  let v8 : IVec S416x8x4x32 32 := Host.remsi arg0 v7
  let c : IVec S_ 32 := constantI S_ 32 0#32
  let v9 : IVec S416x8x4x32 32 := broadcastInDim S416x8x4x32 ![] bcast_S_S416x8x4x32 c
  let v10 : IVec S416x8x4x32 1 := cmpi .ne v8 v9
  let v11 : IVec S416x8x4x32 1 := andi v6 v10
  let c_0 : IVec S_ 32 := constantI S_ 32 1#32
  let v12 : IVec S416x8x4x32 32 := broadcastInDim S416x8x4x32 ![] bcast_S_S416x8x4x32 c_0
  let v13 : IVec S416x8x4x32 32 := subi v2 v12
  let v14 : IVec S416x8x4x32 32 := fn_where (F := F) v11 v13 v2
  v14

def fn_part7 {F : FTy → Type} [FloatOps F] (main_arg7 : IVec S416x128 32) (main_v26 : IVec S106496x64 1) (main_v46 : IVec S416x32x8x8 1) (main_v51 : IVec S416x16x4x32 1) (main_v58 : IVec S416x8x4x32 1) (main_v78 : IVec S416x64 1) (main_v81 : IVec S416x64 1) (main_v101 : IVec S416x8 1) (main_v106 : IVec S416x8x8 1) (main_v109 : IVec S416x8x8 1) (main_v114 : IVec S416x8 1) (main_v119 : IVec S416x2x8x8 1) (main_v124 : IVec S416x1 1) (main_v125 : IVec S416x8x8 32) : IVec S106496x64 1 × IVec S416x32x8x8 1 × IVec S416x16x4x32 1 × IVec S416x8x4x32 1 × IVec S416x64 1 × IVec S416x64 1 × IVec S416x8 1 × IVec S416x8x8 1 × IVec S416x8x8 1 × IVec S416x8 1 × IVec S416x2x8x8 1 × IVec S416x1 1 × IVec S416x8x8 1 :=
  let main_v126 : IVec S416x1 32 := (extractStridedSlice S416x1 ![0, 0] · slices_S416x128_S416x1_0_0) main_arg7
  let main_v127 : IVec S416x1x1 32 := broadcastInDim S416x1x1 ![0, 1] bcast_S416x1_S416x1x1_0_1 main_v126
  let main_v128 : IVec S416x8x8 32 := broadcastInDim S416x8x8 ![0, 1, 2] bcast_S416x1x1_S416x8x8_0_1_2 main_v127
  let main_v129 : IVec S416x8x8 1 := cmpi .eq main_v125 main_v128
  (main_v26, main_v46, main_v51, main_v58, main_v78, main_v81, main_v101, main_v106, main_v109, main_v114, main_v119, main_v124, main_v129)

def fn_part6 {F : FTy → Type} [FloatOps F] (main_arg6 : IVec S416x128 32) (main_arg7 : IVec S416x128 32) (main_v6 : IVec S416x8x16 32) (main_v7 : IVec S416x8x16 32) (main_v26 : IVec S106496x64 1) (main_v46 : IVec S416x32x8x8 1) (main_v51 : IVec S416x16x4x32 1) (main_v58 : IVec S416x8x4x32 1) (main_v78 : IVec S416x64 1) (main_v81 : IVec S416x64 1) (main_v101 : IVec S416x8 1) (main_v106 : IVec S416x8x8 1) : IVec S106496x64 1 × IVec S416x32x8x8 1 × IVec S416x16x4x32 1 × IVec S416x8x4x32 1 × IVec S416x64 1 × IVec S416x64 1 × IVec S416x8 1 × IVec S416x8x8 1 × IVec S416x8x8 1 × IVec S416x8 1 × IVec S416x2x8x8 1 × IVec S416x1 1 × IVec S416x8x8 1 :=
  let main_v107 : IVec S416x8x8 32 := (extractStridedSlice S416x8x8 ![0, 0, 8] · slices_S416x8x16_S416x8x8_0_0_8) main_v6
  let main_c_36 : IVec S_ 32 := constantI S_ 32 0#32
  let main_v108 : IVec S416x8x8 32 := broadcastInDim S416x8x8 ![] bcast_S_S416x8x8 main_c_36
  let main_v109 : IVec S416x8x8 1 := cmpi .eq main_v107 main_v108
  let main_v110 : IVec S416x8 32 := (Host.slice S416x8 ![0, 0] ![1, 8] · slicesBy_S416x128_S416x8_0s1_0s8) main_arg6
  let main_c_37 : IVec S_ 32 := constantI S_ 32 2139095040#32
  let main_v111 : IVec S416x8 32 := broadcastInDim S416x8 ![] bcast_S_S416x8 main_c_37
  let main_v112 : IVec S416x8 32 := andi main_v110 main_v111
  let main_c_38 : IVec S_ 32 := constantI S_ 32 2139095040#32
  let main_v113 : IVec S416x8 32 := broadcastInDim S416x8 ![] bcast_S_S416x8 main_c_38
  let main_v114 : IVec S416x8 1 := cmpi .ne main_v112 main_v113
  let main_v115 : IVec S416x2x8x8 32 := shapeCast S416x2x8x8 main_arg6 shapeCasts_S416x128_S416x2x8x8
  let main_v116 : IVec S416x8 32 := (Host.slice S416x8 ![0, 0] ![1, 8] · slicesBy_S416x128_S416x8_0s1_0s8) main_arg6
  let main_v117 : IVec S416x1x8x1 32 := broadcastInDim S416x1x8x1 ![0, 2] bcast_S416x8_S416x1x8x1_0_2 main_v116
  let main_v118 : IVec S416x2x8x8 32 := broadcastInDim S416x2x8x8 ![0, 1, 2, 3] bcast_S416x1x8x1_S416x2x8x8_0_1_2_3 main_v117
  let main_v119 : IVec S416x2x8x8 1 := cmpi .eq main_v115 main_v118
  let main_v120 : IVec S416x1 32 := (extractStridedSlice S416x1 ![0, 0] · slices_S416x128_S416x1_0_0) main_arg7
  let main_c_39 : IVec S_ 32 := constantI S_ 32 2139095040#32
  let main_v121 : IVec S416x1 32 := broadcastInDim S416x1 ![] bcast_S_S416x1 main_c_39
  let main_v122 : IVec S416x1 32 := andi main_v120 main_v121
  let main_c_40 : IVec S_ 32 := constantI S_ 32 2139095040#32
  let main_v123 : IVec S416x1 32 := broadcastInDim S416x1 ![] bcast_S_S416x1 main_c_40
  let main_v124 : IVec S416x1 1 := cmpi .ne main_v122 main_v123
  let main_v125 : IVec S416x8x8 32 := (extractStridedSlice S416x8x8 ![0, 0, 0] · slices_S416x8x16_S416x8x8_0_0_0) main_v7
  fn_part7 (F := F) main_arg7 main_v26 main_v46 main_v51 main_v58 main_v78 main_v81 main_v101 main_v106 main_v109 main_v114 main_v119 main_v124 main_v125

def fn_part5 {F : FTy → Type} [FloatOps F] (main_arg5 : IVec S416x128 32) (main_arg6 : IVec S416x128 32) (main_arg7 : IVec S416x128 32) (main_v6 : IVec S416x8x16 32) (main_v7 : IVec S416x8x16 32) (main_v26 : IVec S106496x64 1) (main_v46 : IVec S416x32x8x8 1) (main_v51 : IVec S416x16x4x32 1) (main_v58 : IVec S416x8x4x32 1) (main_v78 : IVec S416x64 1) (main_v81 : IVec S416x64 1) (main_v82 : IVec S416x8 32) (main_v86 : IVec S416x8 1) (main_v87 : IVec S416x8 32) : IVec S106496x64 1 × IVec S416x32x8x8 1 × IVec S416x16x4x32 1 × IVec S416x8x4x32 1 × IVec S416x64 1 × IVec S416x64 1 × IVec S416x8 1 × IVec S416x8x8 1 × IVec S416x8x8 1 × IVec S416x8 1 × IVec S416x2x8x8 1 × IVec S416x1 1 × IVec S416x8x8 1 :=
  let main_v88 : IVec S416x8 32 := andi main_v82 main_v87
  let main_c_31 : IVec S_ 32 := constantI S_ 32 32512#32
  let main_v89 : IVec S416x8 32 := broadcastInDim S416x8 ![] bcast_S_S416x8 main_c_31
  let main_v90 : IVec S416x8 1 := cmpi .ne main_v88 main_v89
  let main_v91 : IVec S416x8 1 := andi main_v86 main_v90
  let main_c_32 : IVec S_ 32 := constantI S_ 32 8323072#32
  let main_v92 : IVec S416x8 32 := broadcastInDim S416x8 ![] bcast_S_S416x8 main_c_32
  let main_v93 : IVec S416x8 32 := andi main_v82 main_v92
  let main_c_33 : IVec S_ 32 := constantI S_ 32 8323072#32
  let main_v94 : IVec S416x8 32 := broadcastInDim S416x8 ![] bcast_S_S416x8 main_c_33
  let main_v95 : IVec S416x8 1 := cmpi .ne main_v93 main_v94
  let main_v96 : IVec S416x8 1 := andi main_v91 main_v95
  let main_c_34 : IVec S_ 32 := constantI S_ 32 2130706432#32
  let main_v97 : IVec S416x8 32 := broadcastInDim S416x8 ![] bcast_S_S416x8 main_c_34
  let main_v98 : IVec S416x8 32 := andi main_v82 main_v97
  let main_c_35 : IVec S_ 32 := constantI S_ 32 2130706432#32
  let main_v99 : IVec S416x8 32 := broadcastInDim S416x8 ![] bcast_S_S416x8 main_c_35
  let main_v100 : IVec S416x8 1 := cmpi .ne main_v98 main_v99
  let main_v101 : IVec S416x8 1 := andi main_v96 main_v100
  let main_v102 : IVec S416x8x8 32 := (extractStridedSlice S416x8x8 ![0, 0, 0] · slices_S416x8x16_S416x8x8_0_0_0) main_v6
  let main_v103 : IVec S416x8 32 := (extractStridedSlice S416x8 ![0, 0] · slices_S416x128_S416x8_0_0) main_arg5
  let main_v104 : IVec S416x1x8 32 := broadcastInDim S416x1x8 ![0, 2] bcast_S416x8_S416x1x8_0_2 main_v103
  let main_v105 : IVec S416x8x8 32 := broadcastInDim S416x8x8 ![0, 1, 2] bcast_S416x1x8_S416x8x8_0_1_2 main_v104
  let main_v106 : IVec S416x8x8 1 := cmpi .eq main_v102 main_v105
  fn_part6 (F := F) main_arg6 main_arg7 main_v6 main_v7 main_v26 main_v46 main_v51 main_v58 main_v78 main_v81 main_v101 main_v106

def fn_part4 {F : FTy → Type} [FloatOps F] (main_arg4 : IVec S416x128 32) (main_arg5 : IVec S416x128 32) (main_arg6 : IVec S416x128 32) (main_arg7 : IVec S416x128 32) (main_v6 : IVec S416x8x16 32) (main_v7 : IVec S416x8x16 32) (main_v26 : IVec S106496x64 1) (main_v46 : IVec S416x32x8x8 1) (main_v51 : IVec S416x16x4x32 1) (main_v58 : IVec S416x8x4x32 1) (main_v59 : IVec S416x64 32) (main_v68 : IVec S416x64 1) (main_v69 : IVec S416x64 32) : IVec S106496x64 1 × IVec S416x32x8x8 1 × IVec S416x16x4x32 1 × IVec S416x8x4x32 1 × IVec S416x64 1 × IVec S416x64 1 × IVec S416x8 1 × IVec S416x8x8 1 × IVec S416x8x8 1 × IVec S416x8 1 × IVec S416x2x8x8 1 × IVec S416x1 1 × IVec S416x8x8 1 :=
  let main_v70 : IVec S416x64 32 := andi main_v59 main_v69
  let main_c_25 : IVec S_ 32 := constantI S_ 32 8323072#32
  let main_v71 : IVec S416x64 32 := broadcastInDim S416x64 ![] bcast_S_S416x64 main_c_25
  let main_v72 : IVec S416x64 1 := cmpi .ne main_v70 main_v71
  let main_v73 : IVec S416x64 1 := andi main_v68 main_v72
  let main_c_26 : IVec S_ 32 := constantI S_ 32 2130706432#32
  let main_v74 : IVec S416x64 32 := broadcastInDim S416x64 ![] bcast_S_S416x64 main_c_26
  let main_v75 : IVec S416x64 32 := andi main_v59 main_v74
  let main_c_27 : IVec S_ 32 := constantI S_ 32 2130706432#32
  let main_v76 : IVec S416x64 32 := broadcastInDim S416x64 ![] bcast_S_S416x64 main_c_27
  let main_v77 : IVec S416x64 1 := cmpi .ne main_v75 main_v76
  let main_v78 : IVec S416x64 1 := andi main_v73 main_v77
  let main_v79 : IVec S416x64 32 := (extractStridedSlice S416x64 ![0, 64] · slices_S416x128_S416x64_0_64) main_arg4
  let main_v80 : IVec S416x64 32 := (extractStridedSlice S416x64 ![0, 0] · slices_S416x128_S416x64_0_0) main_arg4
  let main_v81 : IVec S416x64 1 := cmpi .eq main_v79 main_v80
  let main_v82 : IVec S416x8 32 := (extractStridedSlice S416x8 ![0, 0] · slices_S416x128_S416x8_0_0) main_arg5
  let main_c_28 : IVec S_ 32 := constantI S_ 32 127#32
  let main_v83 : IVec S416x8 32 := broadcastInDim S416x8 ![] bcast_S_S416x8 main_c_28
  let main_v84 : IVec S416x8 32 := andi main_v82 main_v83
  let main_c_29 : IVec S_ 32 := constantI S_ 32 127#32
  let main_v85 : IVec S416x8 32 := broadcastInDim S416x8 ![] bcast_S_S416x8 main_c_29
  let main_v86 : IVec S416x8 1 := cmpi .ne main_v84 main_v85
  let main_c_30 : IVec S_ 32 := constantI S_ 32 32512#32
  let main_v87 : IVec S416x8 32 := broadcastInDim S416x8 ![] bcast_S_S416x8 main_c_30
  fn_part5 (F := F) main_arg5 main_arg6 main_arg7 main_v6 main_v7 main_v26 main_v46 main_v51 main_v58 main_v78 main_v81 main_v82 main_v86 main_v87

def fn_part3 {F : FTy → Type} [FloatOps F] (main_arg4 : IVec S416x128 32) (main_arg5 : IVec S416x128 32) (main_arg6 : IVec S416x128 32) (main_arg7 : IVec S416x128 32) (main_v5 : IVec S416x8x4x32 1) (main_v6 : IVec S416x8x16 32) (main_v7 : IVec S416x8x16 32) (main_v26 : IVec S106496x64 1) (main_v46 : IVec S416x32x8x8 1) (main_v51 : IVec S416x16x4x32 1) (main_v52 : IVec S416x8x4x32 32) : IVec S106496x64 1 × IVec S416x32x8x8 1 × IVec S416x16x4x32 1 × IVec S416x8x4x32 1 × IVec S416x64 1 × IVec S416x64 1 × IVec S416x8 1 × IVec S416x8x8 1 × IVec S416x8x8 1 × IVec S416x8 1 × IVec S416x2x8x8 1 × IVec S416x1 1 × IVec S416x8x8 1 :=
  let main_c_18 : IVec S_ 32 := constantI S_ 32 2139095040#32
  let main_v53 : IVec S416x8x4x32 32 := broadcastInDim S416x8x4x32 ![] bcast_S_S416x8x4x32 main_c_18
  let main_v54 : IVec S416x8x4x32 32 := andi main_v52 main_v53
  let main_c_19 : IVec S_ 32 := constantI S_ 32 2139095040#32
  let main_v55 : IVec S416x8x4x32 32 := broadcastInDim S416x8x4x32 ![] bcast_S_S416x8x4x32 main_c_19
  let main_v56 : IVec S416x8x4x32 1 := cmpi .ne main_v54 main_v55
  let main_v57 : IVec S416x8x4x32 1 := noti main_v5
  let main_v58 : IVec S416x8x4x32 1 := ori main_v56 main_v57
  let main_v59 : IVec S416x64 32 := (extractStridedSlice S416x64 ![0, 0] · slices_S416x128_S416x64_0_0) main_arg4
  let main_c_20 : IVec S_ 32 := constantI S_ 32 127#32
  let main_v60 : IVec S416x64 32 := broadcastInDim S416x64 ![] bcast_S_S416x64 main_c_20
  let main_v61 : IVec S416x64 32 := andi main_v59 main_v60
  let main_c_21 : IVec S_ 32 := constantI S_ 32 127#32
  let main_v62 : IVec S416x64 32 := broadcastInDim S416x64 ![] bcast_S_S416x64 main_c_21
  let main_v63 : IVec S416x64 1 := cmpi .ne main_v61 main_v62
  let main_c_22 : IVec S_ 32 := constantI S_ 32 32512#32
  let main_v64 : IVec S416x64 32 := broadcastInDim S416x64 ![] bcast_S_S416x64 main_c_22
  let main_v65 : IVec S416x64 32 := andi main_v59 main_v64
  let main_c_23 : IVec S_ 32 := constantI S_ 32 32512#32
  let main_v66 : IVec S416x64 32 := broadcastInDim S416x64 ![] bcast_S_S416x64 main_c_23
  let main_v67 : IVec S416x64 1 := cmpi .ne main_v65 main_v66
  let main_v68 : IVec S416x64 1 := andi main_v63 main_v67
  let main_c_24 : IVec S_ 32 := constantI S_ 32 8323072#32
  let main_v69 : IVec S416x64 32 := broadcastInDim S416x64 ![] bcast_S_S416x64 main_c_24
  fn_part4 (F := F) main_arg4 main_arg5 main_arg6 main_arg7 main_v6 main_v7 main_v26 main_v46 main_v51 main_v58 main_v59 main_v68 main_v69

def fn_part2 {F : FTy → Type} [FloatOps F] (main_arg4 : IVec S416x128 32) (main_arg5 : IVec S416x128 32) (main_arg6 : IVec S416x128 32) (main_arg7 : IVec S416x128 32) (main_v1 : IVec S416x24x4x32 32) (main_v5 : IVec S416x8x4x32 1) (main_v6 : IVec S416x8x16 32) (main_v7 : IVec S416x8x16 32) (main_v26 : IVec S106496x64 1) (main_v27 : IVec S416x32x8x8 32) (main_v31 : IVec S416x32x8x8 1) (main_v33 : IVec S416x32x8x8 32) (main_v34 : IVec S416x32x8x8 32) : IVec S106496x64 1 × IVec S416x32x8x8 1 × IVec S416x16x4x32 1 × IVec S416x8x4x32 1 × IVec S416x64 1 × IVec S416x64 1 × IVec S416x8 1 × IVec S416x8x8 1 × IVec S416x8x8 1 × IVec S416x8 1 × IVec S416x2x8x8 1 × IVec S416x1 1 × IVec S416x8x8 1 :=
  let main_v35 : IVec S416x32x8x8 1 := cmpi .ne main_v33 main_v34
  let main_v36 : IVec S416x32x8x8 1 := andi main_v31 main_v35
  let main_c_12 : IVec S_ 32 := constantI S_ 32 8323072#32
  let main_v37 : IVec S416x32x8x8 32 := broadcastInDim S416x32x8x8 ![] bcast_S_S416x32x8x8 main_c_12
  let main_v38 : IVec S416x32x8x8 32 := andi main_v27 main_v37
  let main_c_13 : IVec S_ 32 := constantI S_ 32 8323072#32
  let main_v39 : IVec S416x32x8x8 32 := broadcastInDim S416x32x8x8 ![] bcast_S_S416x32x8x8 main_c_13
  let main_v40 : IVec S416x32x8x8 1 := cmpi .ne main_v38 main_v39
  let main_v41 : IVec S416x32x8x8 1 := andi main_v36 main_v40
  let main_c_14 : IVec S_ 32 := constantI S_ 32 2130706432#32
  let main_v42 : IVec S416x32x8x8 32 := broadcastInDim S416x32x8x8 ![] bcast_S_S416x32x8x8 main_c_14
  let main_v43 : IVec S416x32x8x8 32 := andi main_v27 main_v42
  let main_c_15 : IVec S_ 32 := constantI S_ 32 2130706432#32
  let main_v44 : IVec S416x32x8x8 32 := broadcastInDim S416x32x8x8 ![] bcast_S_S416x32x8x8 main_c_15
  let main_v45 : IVec S416x32x8x8 1 := cmpi .ne main_v43 main_v44
  let main_v46 : IVec S416x32x8x8 1 := andi main_v41 main_v45
  let main_v47 : IVec S416x16x4x32 32 := (extractStridedSlice S416x16x4x32 ![0, 0, 0, 0] · slices_S416x24x4x32_S416x16x4x32_0_0_0_0) main_v1
  let main_c_16 : IVec S_ 32 := constantI S_ 32 2139095040#32
  let main_v48 : IVec S416x16x4x32 32 := broadcastInDim S416x16x4x32 ![] bcast_S_S416x16x4x32 main_c_16
  let main_v49 : IVec S416x16x4x32 32 := andi main_v47 main_v48
  let main_c_17 : IVec S_ 32 := constantI S_ 32 2139095040#32
  let main_v50 : IVec S416x16x4x32 32 := broadcastInDim S416x16x4x32 ![] bcast_S_S416x16x4x32 main_c_17
  let main_v51 : IVec S416x16x4x32 1 := cmpi .ne main_v49 main_v50
  let main_v52 : IVec S416x8x4x32 32 := (extractStridedSlice S416x8x4x32 ![0, 16, 0, 0] · slices_S416x24x4x32_S416x8x4x32_0_16_0_0) main_v1
  fn_part3 (F := F) main_arg4 main_arg5 main_arg6 main_arg7 main_v5 main_v6 main_v7 main_v26 main_v46 main_v51 main_v52

def fn_part1 {F : FTy → Type} [FloatOps F] (main_arg1 : IVec S106496x64 32) (main_arg4 : IVec S416x128 32) (main_arg5 : IVec S416x128 32) (main_arg6 : IVec S416x128 32) (main_arg7 : IVec S416x128 32) (main_v0 : IVec S416x32x8x16 32) (main_v1 : IVec S416x24x4x32 32) (main_v5 : IVec S416x8x4x32 1) (main_v6 : IVec S416x8x16 32) (main_v7 : IVec S416x8x16 32) (main_v16 : IVec S106496x64 1) (main_v17 : IVec S106496x64 32) : IVec S106496x64 1 × IVec S416x32x8x8 1 × IVec S416x16x4x32 1 × IVec S416x8x4x32 1 × IVec S416x64 1 × IVec S416x64 1 × IVec S416x8 1 × IVec S416x8x8 1 × IVec S416x8x8 1 × IVec S416x8 1 × IVec S416x2x8x8 1 × IVec S416x1 1 × IVec S416x8x8 1 :=
  let main_v18 : IVec S106496x64 32 := andi main_arg1 main_v17
  let main_c_5 : IVec S_ 32 := constantI S_ 32 8323072#32
  let main_v19 : IVec S106496x64 32 := broadcastInDim S106496x64 ![] bcast_S_S106496x64 main_c_5
  let main_v20 : IVec S106496x64 1 := cmpi .ne main_v18 main_v19
  let main_v21 : IVec S106496x64 1 := andi main_v16 main_v20
  let main_c_6 : IVec S_ 32 := constantI S_ 32 2130706432#32
  let main_v22 : IVec S106496x64 32 := broadcastInDim S106496x64 ![] bcast_S_S106496x64 main_c_6
  let main_v23 : IVec S106496x64 32 := andi main_arg1 main_v22
  let main_c_7 : IVec S_ 32 := constantI S_ 32 2130706432#32
  let main_v24 : IVec S106496x64 32 := broadcastInDim S106496x64 ![] bcast_S_S106496x64 main_c_7
  let main_v25 : IVec S106496x64 1 := cmpi .ne main_v23 main_v24
  let main_v26 : IVec S106496x64 1 := andi main_v21 main_v25
  let main_v27 : IVec S416x32x8x8 32 := (extractStridedSlice S416x32x8x8 ![0, 0, 0, 0] · slices_S416x32x8x16_S416x32x8x8_0_0_0_0) main_v0
  let main_c_8 : IVec S_ 32 := constantI S_ 32 127#32
  let main_v28 : IVec S416x32x8x8 32 := broadcastInDim S416x32x8x8 ![] bcast_S_S416x32x8x8 main_c_8
  let main_v29 : IVec S416x32x8x8 32 := andi main_v27 main_v28
  let main_c_9 : IVec S_ 32 := constantI S_ 32 127#32
  let main_v30 : IVec S416x32x8x8 32 := broadcastInDim S416x32x8x8 ![] bcast_S_S416x32x8x8 main_c_9
  let main_v31 : IVec S416x32x8x8 1 := cmpi .ne main_v29 main_v30
  let main_c_10 : IVec S_ 32 := constantI S_ 32 32512#32
  let main_v32 : IVec S416x32x8x8 32 := broadcastInDim S416x32x8x8 ![] bcast_S_S416x32x8x8 main_c_10
  let main_v33 : IVec S416x32x8x8 32 := andi main_v27 main_v32
  let main_c_11 : IVec S_ 32 := constantI S_ 32 32512#32
  let main_v34 : IVec S416x32x8x8 32 := broadcastInDim S416x32x8x8 ![] bcast_S_S416x32x8x8 main_c_11
  fn_part2 (F := F) main_arg4 main_arg5 main_arg6 main_arg7 main_v1 main_v5 main_v6 main_v7 main_v26 main_v27 main_v31 main_v33 main_v34

def fn {F : FTy → Type} [FloatOps F] (main_arg0 : IVec S1664 32) (main_arg1 : IVec S106496x64 32) (main_arg2 : IVec S416x4096 32) (main_arg3 : IVec S416x3072 32) (main_arg4 : IVec S416x128 32) (main_arg5 : IVec S416x128 32) (main_arg6 : IVec S416x128 32) (main_arg7 : IVec S416x128 32) : IVec S106496x64 1 × IVec S416x32x8x8 1 × IVec S416x16x4x32 1 × IVec S416x8x4x32 1 × IVec S416x64 1 × IVec S416x64 1 × IVec S416x8 1 × IVec S416x8x8 1 × IVec S416x8x8 1 × IVec S416x8 1 × IVec S416x2x8x8 1 × IVec S416x1 1 × IVec S416x8x8 1 :=
  let main_v0 : IVec S416x32x8x16 32 := shapeCast S416x32x8x16 main_arg2 shapeCasts_S416x4096_S416x32x8x16
  let main_v1 : IVec S416x24x4x32 32 := shapeCast S416x24x4x32 main_arg3 shapeCasts_S416x3072_S416x24x4x32
  let main_v2 : IVec S416x8x4x32 32 := iotaInDim S416x8x4x32 32 1
  let main_c : IVec S_ 32 := constantI S_ 32 2#32
  let main_v3 : IVec S416x8x4x32 32 := fn_floor_divide (F := F) main_v2 main_c
  let main_v4 : IVec S416x8x4x32 32 := iotaInDim S416x8x4x32 32 2
  let main_v5 : IVec S416x8x4x32 1 := cmpi .eq main_v3 main_v4
  let main_v6 : IVec S416x8x16 32 := shapeCast S416x8x16 main_arg5 shapeCasts_S416x128_S416x8x16
  let main_v7 : IVec S416x8x16 32 := shapeCast S416x8x16 main_arg7 shapeCasts_S416x128_S416x8x16
  let main_c_0 : IVec S_ 32 := constantI S_ 32 127#32
  let main_v8 : IVec S106496x64 32 := broadcastInDim S106496x64 ![] bcast_S_S106496x64 main_c_0
  let main_v9 : IVec S106496x64 32 := andi main_arg1 main_v8
  let main_c_1 : IVec S_ 32 := constantI S_ 32 127#32
  let main_v10 : IVec S106496x64 32 := broadcastInDim S106496x64 ![] bcast_S_S106496x64 main_c_1
  let main_v11 : IVec S106496x64 1 := cmpi .ne main_v9 main_v10
  let main_c_2 : IVec S_ 32 := constantI S_ 32 32512#32
  let main_v12 : IVec S106496x64 32 := broadcastInDim S106496x64 ![] bcast_S_S106496x64 main_c_2
  let main_v13 : IVec S106496x64 32 := andi main_arg1 main_v12
  let main_c_3 : IVec S_ 32 := constantI S_ 32 32512#32
  let main_v14 : IVec S106496x64 32 := broadcastInDim S106496x64 ![] bcast_S_S106496x64 main_c_3
  let main_v15 : IVec S106496x64 1 := cmpi .ne main_v13 main_v14
  let main_v16 : IVec S106496x64 1 := andi main_v11 main_v15
  let main_c_4 : IVec S_ 32 := constantI S_ 32 8323072#32
  let main_v17 : IVec S106496x64 32 := broadcastInDim S106496x64 ![] bcast_S_S106496x64 main_c_4
  fn_part1 (F := F) main_arg1 main_arg4 main_arg5 main_arg6 main_arg7 main_v0 main_v1 main_v5 main_v6 main_v7 main_v16 main_v17
-- ==== Kernel.lean ====
abbrev S1664 : Shape := ⟨1, ![1664]⟩
abbrev S106496x64 : Shape := ⟨2, ![106496, 64]⟩
abbrev S416x4096 : Shape := ⟨2, ![416, 4096]⟩
abbrev S416x3072 : Shape := ⟨2, ![416, 3072]⟩
abbrev S416x128 : Shape := ⟨2, ![416, 128]⟩
abbrev S53248x128 : Shape := ⟨2, ![53248, 128]⟩
abbrev S416x128x128 : Shape := ⟨3, ![416, 128, 128]⟩
abbrev S416x32x128 : Shape := ⟨3, ![416, 32, 128]⟩
abbrev S416x24x128 : Shape := ⟨3, ![416, 24, 128]⟩
abbrev S416x4x128 : Shape := ⟨3, ![416, 4, 128]⟩
abbrev S416x2x128 : Shape := ⟨3, ![416, 2, 128]⟩
abbrev S8x128x128 : Shape := ⟨3, ![8, 128, 128]⟩
abbrev S8x32x128 : Shape := ⟨3, ![8, 32, 128]⟩
abbrev S8x24x128 : Shape := ⟨3, ![8, 24, 128]⟩
abbrev S8x128 : Shape := ⟨2, ![8, 128]⟩
abbrev S8x4x128 : Shape := ⟨3, ![8, 4, 128]⟩
abbrev S8x2x128 : Shape := ⟨3, ![8, 2, 128]⟩
abbrev S16x128 : Shape := ⟨2, ![16, 128]⟩
abbrev S128x512 : Shape := ⟨2, ![128, 512]⟩
abbrev S32x128 : Shape := ⟨2, ![32, 128]⟩
abbrev S8x1x128 : Shape := ⟨3, ![8, 1, 128]⟩
abbrev S1 : Shape := ⟨1, ![1]⟩
abbrev S1x128x128 : Shape := ⟨3, ![1, 128, 128]⟩
abbrev S128x128 : Shape := ⟨2, ![128, 128]⟩
abbrev S512x128 : Shape := ⟨2, ![512, 128]⟩
abbrev S1x32x128 : Shape := ⟨3, ![1, 32, 128]⟩
abbrev S1x24x128 : Shape := ⟨3, ![1, 24, 128]⟩
abbrev S24x128 : Shape := ⟨2, ![24, 128]⟩
abbrev S24x512 : Shape := ⟨2, ![24, 512]⟩
abbrev S1x128 : Shape := ⟨2, ![1, 128]⟩
abbrev S64x128 : Shape := ⟨2, ![64, 128]⟩
abbrev S64x512 : Shape := ⟨2, ![64, 512]⟩
abbrev S2x8x128 : Shape := ⟨3, ![2, 8, 128]⟩
abbrev S2x128 : Shape := ⟨2, ![2, 128]⟩
abbrev S1x8x128 : Shape := ⟨3, ![1, 8, 128]⟩
abbrev S1x1x1 : Shape := ⟨3, ![1, 1, 1]⟩
abbrev S8x128x1 : Shape := ⟨3, ![8, 128, 1]⟩
abbrev S2x4x128 : Shape := ⟨3, ![2, 4, 128]⟩
abbrev S1x2x128 : Shape := ⟨3, ![1, 2, 128]⟩
abbrev S128 : Shape := ⟨1, ![128]⟩
abbrev S4x128 : Shape := ⟨2, ![4, 128]⟩
abbrev S1x4x128 : Shape := ⟨3, ![1, 4, 128]⟩
abbrev S416x4x72 : Shape := ⟨3, ![416, 4, 72]⟩
abbrev S416x72x4 : Shape := ⟨3, ![416, 72, 4]⟩
abbrev S416x288 : Shape := ⟨2, ![416, 288]⟩
abbrev S416x256 : Shape := ⟨2, ![416, 256]⟩

abbrev nBuf : Space → Nat
  | .hbm => 18
  | .vmem => 18
  | .smem => 1
  | _ => 0

abbrev bufTy : (tb : Table) → Fin (tcTables nBuf tb) → BufTy
  | .hbm, ⟨0, _⟩ => ⟨S106496x64, .i32⟩
  | .hbm, ⟨1, _⟩ => ⟨S416x4096, .i32⟩
  | .hbm, ⟨2, _⟩ => ⟨S416x3072, .i32⟩
  | .hbm, ⟨3, _⟩ => ⟨S416x128, .i32⟩
  | .hbm, ⟨4, _⟩ => ⟨S416x128, .i32⟩
  | .hbm, ⟨5, _⟩ => ⟨S416x128, .i32⟩
  | .hbm, ⟨6, _⟩ => ⟨S416x128, .i32⟩
  | .hbm, ⟨7, _⟩ => ⟨S53248x128, .i32⟩
  | .hbm, ⟨8, _⟩ => ⟨S416x128x128, .i32⟩
  | .hbm, ⟨9, _⟩ => ⟨S416x32x128, .i32⟩
  | .hbm, ⟨10, _⟩ => ⟨S416x24x128, .i32⟩
  | .hbm, ⟨11, _⟩ => ⟨S416x4x128, .f32⟩
  | .hbm, ⟨12, _⟩ => ⟨S416x2x128, .f32⟩
  | .hbm, ⟨13, _⟩ => ⟨S416x4x72, .f32⟩
  | .hbm, ⟨14, _⟩ => ⟨S416x4x72, .bf16⟩
  | .hbm, ⟨15, _⟩ => ⟨S416x72x4, .bf16⟩
  | .hbm, ⟨16, _⟩ => ⟨S416x288, .bf16⟩
  | .hbm, ⟨17, _⟩ => ⟨S416x256, .f32⟩
  | .local _ .vmem, ⟨0, _⟩ => ⟨S8x128x128, .i32⟩
  | .local _ .vmem, ⟨1, _⟩ => ⟨S8x128x128, .i32⟩
  | .local _ .vmem, ⟨2, _⟩ => ⟨S8x32x128, .i32⟩
  | .local _ .vmem, ⟨3, _⟩ => ⟨S8x32x128, .i32⟩
  | .local _ .vmem, ⟨4, _⟩ => ⟨S8x24x128, .i32⟩
  | .local _ .vmem, ⟨5, _⟩ => ⟨S8x24x128, .i32⟩
  | .local _ .vmem, ⟨6, _⟩ => ⟨S8x128, .i32⟩
  | .local _ .vmem, ⟨7, _⟩ => ⟨S8x128, .i32⟩
  | .local _ .vmem, ⟨8, _⟩ => ⟨S8x128, .i32⟩
  | .local _ .vmem, ⟨9, _⟩ => ⟨S8x128, .i32⟩
  | .local _ .vmem, ⟨10, _⟩ => ⟨S8x128, .i32⟩
  | .local _ .vmem, ⟨11, _⟩ => ⟨S8x128, .i32⟩
  | .local _ .vmem, ⟨12, _⟩ => ⟨S8x128, .i32⟩
  | .local _ .vmem, ⟨13, _⟩ => ⟨S8x128, .i32⟩
  | .local _ .vmem, ⟨14, _⟩ => ⟨S8x4x128, .f32⟩
  | .local _ .vmem, ⟨15, _⟩ => ⟨S8x4x128, .f32⟩
  | .local _ .vmem, ⟨16, _⟩ => ⟨S8x2x128, .f32⟩
  | .local _ .vmem, ⟨17, _⟩ => ⟨S8x2x128, .f32⟩
  | .local _ .smem, ⟨0, _⟩ => ⟨S1664, .i32⟩
  | _, _ => ⟨S106496x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![52], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_37 : BitVec 32) : Fin 1 → Nat :=
  let c0_i32 : BitVec 32 := 0#32
  let arg0 : BitVec 32 := BitVec.ofNat 32 (i 0).val
  let c8_i32 : BitVec 32 := 8#32
  let v0 : BitVec 32 := Scalar.muli arg0 c8_i32
  let v1 : BitVec 32 := Scalar.addi c0_i32 v0
  let v138 : BitVec 32 := Scalar.addi v1 c0_i32_37
  let v139 : Index := Scalar.indexCast v138
  ![v139.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x24x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1664 : Shape := ⟨1, ![1664]⟩
abbrev S106496x64 : Shape := ⟨2, ![106496, 64]⟩
abbrev S416x4096 : Shape := ⟨2, ![416, 4096]⟩
abbrev S416x3072 : Shape := ⟨2, ![416, 3072]⟩
abbrev S416x128 : Shape := ⟨2, ![416, 128]⟩
abbrev S416x4x32x2x64 : Shape := ⟨5, ![416, 4, 32, 2, 64]⟩
abbrev S416x64x4x2x32 : Shape := ⟨5, ![416, 64, 4, 2, 32]⟩
abbrev S416x64x256 : Shape := ⟨3, ![416, 64, 256]⟩
abbrev S416x32x4x2x16 : Shape := ⟨5, ![416, 32, 4, 2, 16]⟩
abbrev S416x32x4x2x8 : Shape := ⟨5, ![416, 32, 4, 2, 8]⟩
abbrev S416x8x4x2x32 : Shape := ⟨5, ![416, 8, 4, 2, 32]⟩
abbrev S416x8x256 : Shape := ⟨3, ![416, 8, 256]⟩
abbrev S416x72x256 : Shape := ⟨3, ![416, 72, 256]⟩
abbrev S29952x256 : Shape := ⟨2, ![29952, 256]⟩
abbrev S416x24x128 : Shape := ⟨3, ![416, 24, 128]⟩
abbrev S416x16x128 : Shape := ⟨3, ![416, 16, 128]⟩
abbrev S416x2x8x4x32 : Shape := ⟨5, ![416, 2, 8, 4, 32]⟩
abbrev S416x8x128 : Shape := ⟨3, ![416, 8, 128]⟩
abbrev S416x4x2x4x32 : Shape := ⟨5, ![416, 4, 2, 4, 32]⟩
abbrev S416x1x2x1x32 : Shape := ⟨5, ![416, 1, 2, 1, 32]⟩
abbrev S416x2x32 : Shape := ⟨3, ![416, 2, 32]⟩
abbrev S416x1x2x32 : Shape := ⟨4, ![416, 1, 2, 32]⟩
abbrev S416x4x2x32 : Shape := ⟨4, ![416, 4, 2, 32]⟩
abbrev S416x1x256 : Shape := ⟨3, ![416, 1, 256]⟩
abbrev S416x9x256 : Shape := ⟨3, ![416, 9, 256]⟩
abbrev S416x9x32x256 : Shape := ⟨4, ![416, 9, 32, 256]⟩
abbrev S416x288x256 : Shape := ⟨3, ![416, 288, 256]⟩
abbrev S416x64 : Shape := ⟨2, ![416, 64]⟩
abbrev S416x8 : Shape := ⟨2, ![416, 8]⟩
abbrev S416x72 : Shape := ⟨2, ![416, 72]⟩
abbrev S29952x1 : Shape := ⟨2, ![29952, 1]⟩
abbrev S416x1 : Shape := ⟨2, ![416, 1]⟩
abbrev S416x9 : Shape := ⟨2, ![416, 9]⟩
abbrev S416x9x32 : Shape := ⟨3, ![416, 9, 32]⟩
abbrev S416x288 : Shape := ⟨2, ![416, 288]⟩
abbrev S416x288x1 : Shape := ⟨3, ![416, 288, 1]⟩
abbrev S1664x1 : Shape := ⟨2, ![1664, 1]⟩
abbrev S416x256 : Shape := ⟨2, ![416, 256]⟩
abbrev S119808x256 : Shape := ⟨2, ![119808, 256]⟩
abbrev S119808x1 : Shape := ⟨2, ![119808, 1]⟩
abbrev S416 : Shape := ⟨1, ![416]⟩

abbrev nBuf : Space → Nat
  | .hbm => 54
  | .vmem => 7
  | .smem => 0
  | _ => 0

abbrev bufTy : (tb : Table) → Fin (tcTables nBuf tb) → BufTy
  | .hbm, ⟨0, _⟩ => ⟨S1664, .i32⟩
  | .hbm, ⟨1, _⟩ => ⟨S106496x64, .i32⟩
  | .hbm, ⟨2, _⟩ => ⟨S416x4096, .i32⟩
  | .hbm, ⟨3, _⟩ => ⟨S416x3072, .i32⟩
  | .hbm, ⟨4, _⟩ => ⟨S416x128, .i32⟩
  | .hbm, ⟨5, _⟩ => ⟨S416x128, .i32⟩
  | .hbm, ⟨6, _⟩ => ⟨S416x128, .i32⟩
  | .hbm, ⟨7, _⟩ => ⟨S416x128, .i32⟩
  | .hbm, ⟨8, _⟩ => ⟨S416x4x32x2x64, .i32⟩
  | .hbm, ⟨9, _⟩ => ⟨S416x64x4x2x32, .i32⟩
  | .hbm, ⟨10, _⟩ => ⟨S416x64x256, .i32⟩
  | .hbm, ⟨11, _⟩ => ⟨S416x32x4x2x16, .i32⟩
  | .hbm, ⟨12, _⟩ => ⟨S416x32x4x2x8, .i32⟩
  | .hbm, ⟨13, _⟩ => ⟨S416x8x4x2x32, .i32⟩
  | .hbm, ⟨14, _⟩ => ⟨S416x8x256, .i32⟩
  | .hbm, ⟨15, _⟩ => ⟨S416x72x256, .i32⟩
  | .hbm, ⟨16, _⟩ => ⟨S29952x256, .i32⟩
  | .hbm, ⟨17, _⟩ => ⟨S416x24x128, .i32⟩
  | .hbm, ⟨18, _⟩ => ⟨S416x16x128, .i32⟩
  | .hbm, ⟨19, _⟩ => ⟨S416x2x8x4x32, .i32⟩
  | .hbm, ⟨20, _⟩ => ⟨S416x8x4x2x32, .i32⟩
  | .hbm, ⟨21, _⟩ => ⟨S416x8x256, .i32⟩
  | .hbm, ⟨22, _⟩ => ⟨S416x8x128, .i32⟩
  | .hbm, ⟨23, _⟩ => ⟨S416x4x2x4x32, .i32⟩
  | .hbm, ⟨24, _⟩ => ⟨S416x1x2x1x32, .i32⟩
  | .hbm, ⟨25, _⟩ => ⟨S416x2x32, .i32⟩
  | .hbm, ⟨26, _⟩ => ⟨S416x1x2x1x32, .i32⟩
  | .hbm, ⟨27, _⟩ => ⟨S416x2x32, .i32⟩
  | .hbm, ⟨28, _⟩ => ⟨S416x1x2x1x32, .i32⟩
  | .hbm, ⟨29, _⟩ => ⟨S416x2x32, .i32⟩
  | .hbm, ⟨30, _⟩ => ⟨S416x1x2x1x32, .i32⟩
  | .hbm, ⟨31, _⟩ => ⟨S416x2x32, .i32⟩
  | .hbm, ⟨32, _⟩ => ⟨S416x1x2x32, .i32⟩
  | .hbm, ⟨33, _⟩ => ⟨S416x1x2x32, .i32⟩
  | .hbm, ⟨34, _⟩ => ⟨S416x1x2x32, .i32⟩
  | .hbm, ⟨35, _⟩ => ⟨S416x1x2x32, .i32⟩
  | .hbm, ⟨36, _⟩ => ⟨S416x4x2x32, .i32⟩
  | .hbm, ⟨37, _⟩ => ⟨S416x1x256, .i32⟩
  | .hbm, ⟨38, _⟩ => ⟨S416x9x256, .i32⟩
  | .hbm, ⟨39, _⟩ => ⟨S416x9x32x256, .i32⟩
  | .hbm, ⟨40, _⟩ => ⟨S416x288x256, .i32⟩
  | .hbm, ⟨41, _⟩ => ⟨S416x64, .i32⟩
  | .hbm, ⟨42, _⟩ => ⟨S416x8, .i32⟩
  | .hbm, ⟨43, _⟩ => ⟨S416x72, .i32⟩
  | .hbm, ⟨44, _⟩ => ⟨S29952x1, .i32⟩
  | .hbm, ⟨45, _⟩ => ⟨S416x8, .i32⟩
  | .hbm, ⟨46, _⟩ => ⟨S416x1, .i32⟩
  | .hbm, ⟨47, _⟩ => ⟨S416x9, .i32⟩
  | .hbm, ⟨48, _⟩ => ⟨S416x9x32, .i32⟩
  | .hbm, ⟨49, _⟩ => ⟨S416x288, .i32⟩
  | .hbm, ⟨50, _⟩ => ⟨S416x288x1, .i32⟩
  | .hbm, ⟨51, _⟩ => ⟨S1664x1, .i32⟩
  | .hbm, ⟨52, _⟩ => ⟨S416x288, .bf16⟩
  | .hbm, ⟨53, _⟩ => ⟨S416x256, .f32⟩
  | .local _ .vmem, ⟨0, _⟩ => ⟨S1664x1, .i32⟩
  | .local _ .vmem, ⟨1, _⟩ => ⟨S29952x256, .i32⟩
  | .local _ .vmem, ⟨2, _⟩ => ⟨S416x288x256, .i32⟩
  | .local _ .vmem, ⟨3, _⟩ => ⟨S29952x1, .i32⟩
  | .local _ .vmem, ⟨4, _⟩ => ⟨S416x288x1, .i32⟩
  | .local _ .vmem, ⟨5, _⟩ => ⟨S416x288, .bf16⟩
  | .local _ .vmem, ⟨6, _⟩ => ⟨S416x256, .f32⟩
  | _, _ => ⟨S1664, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44_0 : Ref sig .tc := ⟨.hbm, 52, rfl⟩
abbrev main_v44_1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1664x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S29952x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S416x288x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S29952x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S416x288x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S416x288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S416x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelB.lean ====
abbrev S1664 : Shape := ⟨1, ![1664]⟩
abbrev S106496x64 : Shape := ⟨2, ![106496, 64]⟩
abbrev S416x4096 : Shape := ⟨2, ![416, 4096]⟩
abbrev S416x3072 : Shape := ⟨2, ![416, 3072]⟩
abbrev S416x128 : Shape := ⟨2, ![416, 128]⟩
abbrev S53248x128 : Shape := ⟨2, ![53248, 128]⟩
abbrev S416x128x128 : Shape := ⟨3, ![416, 128, 128]⟩
abbrev S416x32x128 : Shape := ⟨3, ![416, 32, 128]⟩
abbrev S416x24x128 : Shape := ⟨3, ![416, 24, 128]⟩
abbrev S416x4x128 : Shape := ⟨3, ![416, 4, 128]⟩
abbrev S416x2x128 : Shape := ⟨3, ![416, 2, 128]⟩
abbrev S8x128x128 : Shape := ⟨3, ![8, 128, 128]⟩
abbrev S8x32x128 : Shape := ⟨3, ![8, 32, 128]⟩
abbrev S8x24x128 : Shape := ⟨3, ![8, 24, 128]⟩
abbrev S8x128 : Shape := ⟨2, ![8, 128]⟩
abbrev S8x4x128 : Shape := ⟨3, ![8, 4, 128]⟩
abbrev S8x2x128 : Shape := ⟨3, ![8, 2, 128]⟩
abbrev S16x128 : Shape := ⟨2, ![16, 128]⟩
abbrev S128x512 : Shape := ⟨2, ![128, 512]⟩
abbrev S32x128 : Shape := ⟨2, ![32, 128]⟩
abbrev S8x1x128 : Shape := ⟨3, ![8, 1, 128]⟩
abbrev S1 : Shape := ⟨1, ![1]⟩
abbrev S1x128x128 : Shape := ⟨3, ![1, 128, 128]⟩
abbrev S128x128 : Shape := ⟨2, ![128, 128]⟩
abbrev S512x128 : Shape := ⟨2, ![512, 128]⟩
abbrev S1x32x128 : Shape := ⟨3, ![1, 32, 128]⟩
abbrev S1x24x128 : Shape := ⟨3, ![1, 24, 128]⟩
abbrev S24x128 : Shape := ⟨2, ![24, 128]⟩
abbrev S24x512 : Shape := ⟨2, ![24, 512]⟩
abbrev S1x128 : Shape := ⟨2, ![1, 128]⟩
abbrev S64x128 : Shape := ⟨2, ![64, 128]⟩
abbrev S64x512 : Shape := ⟨2, ![64, 512]⟩
abbrev S2x8x128 : Shape := ⟨3, ![2, 8, 128]⟩
abbrev S2x128 : Shape := ⟨2, ![2, 128]⟩
abbrev S1x8x128 : Shape := ⟨3, ![1, 8, 128]⟩
abbrev S1x1x1 : Shape := ⟨3, ![1, 1, 1]⟩
abbrev S8x128x1 : Shape := ⟨3, ![8, 128, 1]⟩
abbrev S2x4x128 : Shape := ⟨3, ![2, 4, 128]⟩
abbrev S1x2x128 : Shape := ⟨3, ![1, 2, 128]⟩
abbrev S128 : Shape := ⟨1, ![128]⟩
abbrev S4x128 : Shape := ⟨2, ![4, 128]⟩
abbrev S1x4x128 : Shape := ⟨3, ![1, 4, 128]⟩
abbrev S416x4x72 : Shape := ⟨3, ![416, 4, 72]⟩
abbrev S416x72x4 : Shape := ⟨3, ![416, 72, 4]⟩
abbrev S416x288 : Shape := ⟨2, ![416, 288]⟩
abbrev S416x256 : Shape := ⟨2, ![416, 256]⟩

abbrev nBuf : Space → Nat
  | .hbm => 18
  | .vmem => 18
  | .smem => 1
  | _ => 0

abbrev bufTy : (tb : Table) → Fin (tcTables nBuf tb) → BufTy
  | .hbm, ⟨0, _⟩ => ⟨S106496x64, .i32⟩
  | .hbm, ⟨1, _⟩ => ⟨S416x4096, .i32⟩
  | .hbm, ⟨2, _⟩ => ⟨S416x3072, .i32⟩
  | .hbm, ⟨3, _⟩ => ⟨S416x128, .i32⟩
  | .hbm, ⟨4, _⟩ => ⟨S416x128, .i32⟩
  | .hbm, ⟨5, _⟩ => ⟨S416x128, .i32⟩
  | .hbm, ⟨6, _⟩ => ⟨S416x128, .i32⟩
  | .hbm, ⟨7, _⟩ => ⟨S53248x128, .i32⟩
  | .hbm, ⟨8, _⟩ => ⟨S416x128x128, .i32⟩
  | .hbm, ⟨9, _⟩ => ⟨S416x32x128, .i32⟩
  | .hbm, ⟨10, _⟩ => ⟨S416x24x128, .i32⟩
  | .hbm, ⟨11, _⟩ => ⟨S416x4x128, .f32⟩
  | .hbm, ⟨12, _⟩ => ⟨S416x2x128, .f32⟩
  | .hbm, ⟨13, _⟩ => ⟨S416x4x72, .f32⟩
  | .hbm, ⟨14, _⟩ => ⟨S416x4x72, .bf16⟩
  | .hbm, ⟨15, _⟩ => ⟨S416x72x4, .bf16⟩
  | .hbm, ⟨16, _⟩ => ⟨S416x288, .bf16⟩
  | .hbm, ⟨17, _⟩ => ⟨S416x256, .f32⟩
  | .local _ .vmem, ⟨0, _⟩ => ⟨S8x128x128, .i32⟩
  | .local _ .vmem, ⟨1, _⟩ => ⟨S8x128x128, .i32⟩
  | .local _ .vmem, ⟨2, _⟩ => ⟨S8x32x128, .i32⟩
  | .local _ .vmem, ⟨3, _⟩ => ⟨S8x32x128, .i32⟩
  | .local _ .vmem, ⟨4, _⟩ => ⟨S8x24x128, .i32⟩
  | .local _ .vmem, ⟨5, _⟩ => ⟨S8x24x128, .i32⟩
  | .local _ .vmem, ⟨6, _⟩ => ⟨S8x128, .i32⟩
  | .local _ .vmem, ⟨7, _⟩ => ⟨S8x128, .i32⟩
  | .local _ .vmem, ⟨8, _⟩ => ⟨S8x128, .i32⟩
  | .local _ .vmem, ⟨9, _⟩ => ⟨S8x128, .i32⟩
  | .local _ .vmem, ⟨10, _⟩ => ⟨S8x128, .i32⟩
  | .local _ .vmem, ⟨11, _⟩ => ⟨S8x128, .i32⟩
  | .local _ .vmem, ⟨12, _⟩ => ⟨S8x128, .i32⟩
  | .local _ .vmem, ⟨13, _⟩ => ⟨S8x128, .i32⟩
  | .local _ .vmem, ⟨14, _⟩ => ⟨S8x4x128, .f32⟩
  | .local _ .vmem, ⟨15, _⟩ => ⟨S8x4x128, .f32⟩
  | .local _ .vmem, ⟨16, _⟩ => ⟨S8x2x128, .f32⟩
  | .local _ .vmem, ⟨17, _⟩ => ⟨S8x2x128, .f32⟩
  | .local _ .smem, ⟨0, _⟩ => ⟨S1664, .i32⟩
  | _, _ => ⟨S106496x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![52], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_36 : BitVec 32) : Fin 1 → Nat :=
  let c416_i32 : BitVec 32 := 416#32
  let arg0 : BitVec 32 := BitVec.ofNat 32 (i 0).val
  let c8_i32 : BitVec 32 := 8#32
  let v0 : BitVec 32 := Scalar.muli arg0 c8_i32
  let v1 : BitVec 32 := Scalar.addi c416_i32 v0
  let v138 : BitVec 32 := Scalar.addi v1 c0_i32_36
  let v139 : Index := Scalar.indexCast v138
  ![v139.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x24x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceBIdeal.lean ====
abbrev S1664 : Shape := ⟨1, ![1664]⟩
abbrev S106496x64 : Shape := ⟨2, ![106496, 64]⟩
abbrev S416x4096 : Shape := ⟨2, ![416, 4096]⟩
abbrev S416x3072 : Shape := ⟨2, ![416, 3072]⟩
abbrev S416x128 : Shape := ⟨2, ![416, 128]⟩
abbrev S416x4x32x2x64 : Shape := ⟨5, ![416, 4, 32, 2, 64]⟩
abbrev S416x64x4x2x32 : Shape := ⟨5, ![416, 64, 4, 2, 32]⟩
abbrev S416x64x256 : Shape := ⟨3, ![416, 64, 256]⟩
abbrev S416x32x4x2x16 : Shape := ⟨5, ![416, 32, 4, 2, 16]⟩
abbrev S416x32x4x2x8 : Shape := ⟨5, ![416, 32, 4, 2, 8]⟩
abbrev S416x8x4x2x32 : Shape := ⟨5, ![416, 8, 4, 2, 32]⟩
abbrev S416x8x256 : Shape := ⟨3, ![416, 8, 256]⟩
abbrev S416x72x256 : Shape := ⟨3, ![416, 72, 256]⟩
abbrev S29952x256 : Shape := ⟨2, ![29952, 256]⟩
abbrev S416x24x128 : Shape := ⟨3, ![416, 24, 128]⟩
abbrev S416x16x128 : Shape := ⟨3, ![416, 16, 128]⟩
abbrev S416x2x8x4x32 : Shape := ⟨5, ![416, 2, 8, 4, 32]⟩
abbrev S416x8x128 : Shape := ⟨3, ![416, 8, 128]⟩
abbrev S416x4x2x4x32 : Shape := ⟨5, ![416, 4, 2, 4, 32]⟩
abbrev S416x1x2x1x32 : Shape := ⟨5, ![416, 1, 2, 1, 32]⟩
abbrev S416x2x32 : Shape := ⟨3, ![416, 2, 32]⟩
abbrev S416x1x2x32 : Shape := ⟨4, ![416, 1, 2, 32]⟩
abbrev S416x4x2x32 : Shape := ⟨4, ![416, 4, 2, 32]⟩
abbrev S416x1x256 : Shape := ⟨3, ![416, 1, 256]⟩
abbrev S416x9x256 : Shape := ⟨3, ![416, 9, 256]⟩
abbrev S416x9x32x256 : Shape := ⟨4, ![416, 9, 32, 256]⟩
abbrev S416x288x256 : Shape := ⟨3, ![416, 288, 256]⟩
abbrev S416x64 : Shape := ⟨2, ![416, 64]⟩
abbrev S416x8 : Shape := ⟨2, ![416, 8]⟩
abbrev S416x72 : Shape := ⟨2, ![416, 72]⟩
abbrev S29952x1 : Shape := ⟨2, ![29952, 1]⟩
abbrev S416x1 : Shape := ⟨2, ![416, 1]⟩
abbrev S416x9 : Shape := ⟨2, ![416, 9]⟩
abbrev S416x9x32 : Shape := ⟨3, ![416, 9, 32]⟩
abbrev S416x288 : Shape := ⟨2, ![416, 288]⟩
abbrev S416x288x1 : Shape := ⟨3, ![416, 288, 1]⟩
abbrev S1664x1 : Shape := ⟨2, ![1664, 1]⟩
abbrev S416x256 : Shape := ⟨2, ![416, 256]⟩
abbrev S119808x256 : Shape := ⟨2, ![119808, 256]⟩
abbrev S119808x1 : Shape := ⟨2, ![119808, 1]⟩
abbrev S416 : Shape := ⟨1, ![416]⟩

abbrev nBuf : Space → Nat
  | .hbm => 54
  | .vmem => 7
  | .smem => 0
  | _ => 0

abbrev bufTy : (tb : Table) → Fin (tcTables nBuf tb) → BufTy
  | .hbm, ⟨0, _⟩ => ⟨S1664, .i32⟩
  | .hbm, ⟨1, _⟩ => ⟨S106496x64, .i32⟩
  | .hbm, ⟨2, _⟩ => ⟨S416x4096, .i32⟩
  | .hbm, ⟨3, _⟩ => ⟨S416x3072, .i32⟩
  | .hbm, ⟨4, _⟩ => ⟨S416x128, .i32⟩
  | .hbm, ⟨5, _⟩ => ⟨S416x128, .i32⟩
  | .hbm, ⟨6, _⟩ => ⟨S416x128, .i32⟩
  | .hbm, ⟨7, _⟩ => ⟨S416x128, .i32⟩
  | .hbm, ⟨8, _⟩ => ⟨S416x4x32x2x64, .i32⟩
  | .hbm, ⟨9, _⟩ => ⟨S416x64x4x2x32, .i32⟩
  | .hbm, ⟨10, _⟩ => ⟨S416x64x256, .i32⟩
  | .hbm, ⟨11, _⟩ => ⟨S416x32x4x2x16, .i32⟩
  | .hbm, ⟨12, _⟩ => ⟨S416x32x4x2x8, .i32⟩
  | .hbm, ⟨13, _⟩ => ⟨S416x8x4x2x32, .i32⟩
  | .hbm, ⟨14, _⟩ => ⟨S416x8x256, .i32⟩
  | .hbm, ⟨15, _⟩ => ⟨S416x72x256, .i32⟩
  | .hbm, ⟨16, _⟩ => ⟨S29952x256, .i32⟩
  | .hbm, ⟨17, _⟩ => ⟨S416x24x128, .i32⟩
  | .hbm, ⟨18, _⟩ => ⟨S416x16x128, .i32⟩
  | .hbm, ⟨19, _⟩ => ⟨S416x2x8x4x32, .i32⟩
  | .hbm, ⟨20, _⟩ => ⟨S416x8x4x2x32, .i32⟩
  | .hbm, ⟨21, _⟩ => ⟨S416x8x256, .i32⟩
  | .hbm, ⟨22, _⟩ => ⟨S416x8x128, .i32⟩
  | .hbm, ⟨23, _⟩ => ⟨S416x4x2x4x32, .i32⟩
  | .hbm, ⟨24, _⟩ => ⟨S416x1x2x1x32, .i32⟩
  | .hbm, ⟨25, _⟩ => ⟨S416x2x32, .i32⟩
  | .hbm, ⟨26, _⟩ => ⟨S416x1x2x1x32, .i32⟩
  | .hbm, ⟨27, _⟩ => ⟨S416x2x32, .i32⟩
  | .hbm, ⟨28, _⟩ => ⟨S416x1x2x1x32, .i32⟩
  | .hbm, ⟨29, _⟩ => ⟨S416x2x32, .i32⟩
  | .hbm, ⟨30, _⟩ => ⟨S416x1x2x1x32, .i32⟩
  | .hbm, ⟨31, _⟩ => ⟨S416x2x32, .i32⟩
  | .hbm, ⟨32, _⟩ => ⟨S416x1x2x32, .i32⟩
  | .hbm, ⟨33, _⟩ => ⟨S416x1x2x32, .i32⟩
  | .hbm, ⟨34, _⟩ => ⟨S416x1x2x32, .i32⟩
  | .hbm, ⟨35, _⟩ => ⟨S416x1x2x32, .i32⟩
  | .hbm, ⟨36, _⟩ => ⟨S416x4x2x32, .i32⟩
  | .hbm, ⟨37, _⟩ => ⟨S416x1x256, .i32⟩
  | .hbm, ⟨38, _⟩ => ⟨S416x9x256, .i32⟩
  | .hbm, ⟨39, _⟩ => ⟨S416x9x32x256, .i32⟩
  | .hbm, ⟨40, _⟩ => ⟨S416x288x256, .i32⟩
  | .hbm, ⟨41, _⟩ => ⟨S416x64, .i32⟩
  | .hbm, ⟨42, _⟩ => ⟨S416x8, .i32⟩
  | .hbm, ⟨43, _⟩ => ⟨S416x72, .i32⟩
  | .hbm, ⟨44, _⟩ => ⟨S29952x1, .i32⟩
  | .hbm, ⟨45, _⟩ => ⟨S416x8, .i32⟩
  | .hbm, ⟨46, _⟩ => ⟨S416x1, .i32⟩
  | .hbm, ⟨47, _⟩ => ⟨S416x9, .i32⟩
  | .hbm, ⟨48, _⟩ => ⟨S416x9x32, .i32⟩
  | .hbm, ⟨49, _⟩ => ⟨S416x288, .i32⟩
  | .hbm, ⟨50, _⟩ => ⟨S416x288x1, .i32⟩
  | .hbm, ⟨51, _⟩ => ⟨S1664x1, .i32⟩
  | .hbm, ⟨52, _⟩ => ⟨S416x288, .bf16⟩
  | .hbm, ⟨53, _⟩ => ⟨S416x256, .f32⟩
  | .local _ .vmem, ⟨0, _⟩ => ⟨S1664x1, .i32⟩
  | .local _ .vmem, ⟨1, _⟩ => ⟨S29952x256, .i32⟩
  | .local _ .vmem, ⟨2, _⟩ => ⟨S416x288x256, .i32⟩
  | .local _ .vmem, ⟨3, _⟩ => ⟨S29952x1, .i32⟩
  | .local _ .vmem, ⟨4, _⟩ => ⟨S416x288x1, .i32⟩
  | .local _ .vmem, ⟨5, _⟩ => ⟨S416x288, .bf16⟩
  | .local _ .vmem, ⟨6, _⟩ => ⟨S416x256, .f32⟩
  | _, _ => ⟨S1664, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44_0 : Ref sig .tc := ⟨.hbm, 52, rfl⟩
abbrev main_v44_1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1664x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S29952x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S416x288x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S29952x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S416x288x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S416x288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S416x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelC.lean ====
abbrev S1664 : Shape := ⟨1, ![1664]⟩
abbrev S106496x64 : Shape := ⟨2, ![106496, 64]⟩
abbrev S416x4096 : Shape := ⟨2, ![416, 4096]⟩
abbrev S416x3072 : Shape := ⟨2, ![416, 3072]⟩
abbrev S416x128 : Shape := ⟨2, ![416, 128]⟩
abbrev S53248x128 : Shape := ⟨2, ![53248, 128]⟩
abbrev S416x128x128 : Shape := ⟨3, ![416, 128, 128]⟩
abbrev S416x32x128 : Shape := ⟨3, ![416, 32, 128]⟩
abbrev S416x24x128 : Shape := ⟨3, ![416, 24, 128]⟩
abbrev S416x4x128 : Shape := ⟨3, ![416, 4, 128]⟩
abbrev S416x2x128 : Shape := ⟨3, ![416, 2, 128]⟩
abbrev S8x128x128 : Shape := ⟨3, ![8, 128, 128]⟩
abbrev S8x32x128 : Shape := ⟨3, ![8, 32, 128]⟩
abbrev S8x24x128 : Shape := ⟨3, ![8, 24, 128]⟩
abbrev S8x128 : Shape := ⟨2, ![8, 128]⟩
abbrev S8x4x128 : Shape := ⟨3, ![8, 4, 128]⟩
abbrev S8x2x128 : Shape := ⟨3, ![8, 2, 128]⟩
abbrev S16x128 : Shape := ⟨2, ![16, 128]⟩
abbrev S128x512 : Shape := ⟨2, ![128, 512]⟩
abbrev S32x128 : Shape := ⟨2, ![32, 128]⟩
abbrev S8x1x128 : Shape := ⟨3, ![8, 1, 128]⟩
abbrev S1 : Shape := ⟨1, ![1]⟩
abbrev S1x128x128 : Shape := ⟨3, ![1, 128, 128]⟩
abbrev S128x128 : Shape := ⟨2, ![128, 128]⟩
abbrev S512x128 : Shape := ⟨2, ![512, 128]⟩
abbrev S1x32x128 : Shape := ⟨3, ![1, 32, 128]⟩
abbrev S1x24x128 : Shape := ⟨3, ![1, 24, 128]⟩
abbrev S24x128 : Shape := ⟨2, ![24, 128]⟩
abbrev S24x512 : Shape := ⟨2, ![24, 512]⟩
abbrev S1x128 : Shape := ⟨2, ![1, 128]⟩
abbrev S64x128 : Shape := ⟨2, ![64, 128]⟩
abbrev S64x512 : Shape := ⟨2, ![64, 512]⟩
abbrev S2x8x128 : Shape := ⟨3, ![2, 8, 128]⟩
abbrev S2x128 : Shape := ⟨2, ![2, 128]⟩
abbrev S1x8x128 : Shape := ⟨3, ![1, 8, 128]⟩
abbrev S1x1x1 : Shape := ⟨3, ![1, 1, 1]⟩
abbrev S8x128x1 : Shape := ⟨3, ![8, 128, 1]⟩
abbrev S2x4x128 : Shape := ⟨3, ![2, 4, 128]⟩
abbrev S1x2x128 : Shape := ⟨3, ![1, 2, 128]⟩
abbrev S128 : Shape := ⟨1, ![128]⟩
abbrev S4x128 : Shape := ⟨2, ![4, 128]⟩
abbrev S1x4x128 : Shape := ⟨3, ![1, 4, 128]⟩
abbrev S416x4x72 : Shape := ⟨3, ![416, 4, 72]⟩
abbrev S416x72x4 : Shape := ⟨3, ![416, 72, 4]⟩
abbrev S416x288 : Shape := ⟨2, ![416, 288]⟩
abbrev S416x256 : Shape := ⟨2, ![416, 256]⟩

abbrev nBuf : Space → Nat
  | .hbm => 18
  | .vmem => 18
  | .smem => 1
  | _ => 0

abbrev bufTy : (tb : Table) → Fin (tcTables nBuf tb) → BufTy
  | .hbm, ⟨0, _⟩ => ⟨S106496x64, .i32⟩
  | .hbm, ⟨1, _⟩ => ⟨S416x4096, .i32⟩
  | .hbm, ⟨2, _⟩ => ⟨S416x3072, .i32⟩
  | .hbm, ⟨3, _⟩ => ⟨S416x128, .i32⟩
  | .hbm, ⟨4, _⟩ => ⟨S416x128, .i32⟩
  | .hbm, ⟨5, _⟩ => ⟨S416x128, .i32⟩
  | .hbm, ⟨6, _⟩ => ⟨S416x128, .i32⟩
  | .hbm, ⟨7, _⟩ => ⟨S53248x128, .i32⟩
  | .hbm, ⟨8, _⟩ => ⟨S416x128x128, .i32⟩
  | .hbm, ⟨9, _⟩ => ⟨S416x32x128, .i32⟩
  | .hbm, ⟨10, _⟩ => ⟨S416x24x128, .i32⟩
  | .hbm, ⟨11, _⟩ => ⟨S416x4x128, .f32⟩
  | .hbm, ⟨12, _⟩ => ⟨S416x2x128, .f32⟩
  | .hbm, ⟨13, _⟩ => ⟨S416x4x72, .f32⟩
  | .hbm, ⟨14, _⟩ => ⟨S416x4x72, .bf16⟩
  | .hbm, ⟨15, _⟩ => ⟨S416x72x4, .bf16⟩
  | .hbm, ⟨16, _⟩ => ⟨S416x288, .bf16⟩
  | .hbm, ⟨17, _⟩ => ⟨S416x256, .f32⟩
  | .local _ .vmem, ⟨0, _⟩ => ⟨S8x128x128, .i32⟩
  | .local _ .vmem, ⟨1, _⟩ => ⟨S8x128x128, .i32⟩
  | .local _ .vmem, ⟨2, _⟩ => ⟨S8x32x128, .i32⟩
  | .local _ .vmem, ⟨3, _⟩ => ⟨S8x32x128, .i32⟩
  | .local _ .vmem, ⟨4, _⟩ => ⟨S8x24x128, .i32⟩
  | .local _ .vmem, ⟨5, _⟩ => ⟨S8x24x128, .i32⟩
  | .local _ .vmem, ⟨6, _⟩ => ⟨S8x128, .i32⟩
  | .local _ .vmem, ⟨7, _⟩ => ⟨S8x128, .i32⟩
  | .local _ .vmem, ⟨8, _⟩ => ⟨S8x128, .i32⟩
  | .local _ .vmem, ⟨9, _⟩ => ⟨S8x128, .i32⟩
  | .local _ .vmem, ⟨10, _⟩ => ⟨S8x128, .i32⟩
  | .local _ .vmem, ⟨11, _⟩ => ⟨S8x128, .i32⟩
  | .local _ .vmem, ⟨12, _⟩ => ⟨S8x128, .i32⟩
  | .local _ .vmem, ⟨13, _⟩ => ⟨S8x128, .i32⟩
  | .local _ .vmem, ⟨14, _⟩ => ⟨S8x4x128, .f32⟩
  | .local _ .vmem, ⟨15, _⟩ => ⟨S8x4x128, .f32⟩
  | .local _ .vmem, ⟨16, _⟩ => ⟨S8x2x128, .f32⟩
  | .local _ .vmem, ⟨17, _⟩ => ⟨S8x2x128, .f32⟩
  | .local _ .smem, ⟨0, _⟩ => ⟨S1664, .i32⟩
  | _, _ => ⟨S106496x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![52], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_36 : BitVec 32) : Fin 1 → Nat :=
  let c832_i32 : BitVec 32 := 832#32
  let arg0 : BitVec 32 := BitVec.ofNat 32 (i 0).val
  let c8_i32 : BitVec 32 := 8#32
  let v0 : BitVec 32 := Scalar.muli arg0 c8_i32
  let v1 : BitVec 32 := Scalar.addi c832_i32 v0
  let v138 : BitVec 32 := Scalar.addi v1 c0_i32_36
  let v139 : Index := Scalar.indexCast v138
  ![v139.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x24x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceCIdeal.lean ====
abbrev S1664 : Shape := ⟨1, ![1664]⟩
abbrev S106496x64 : Shape := ⟨2, ![106496, 64]⟩
abbrev S416x4096 : Shape := ⟨2, ![416, 4096]⟩
abbrev S416x3072 : Shape := ⟨2, ![416, 3072]⟩
abbrev S416x128 : Shape := ⟨2, ![416, 128]⟩
abbrev S416x4x32x2x64 : Shape := ⟨5, ![416, 4, 32, 2, 64]⟩
abbrev S416x64x4x2x32 : Shape := ⟨5, ![416, 64, 4, 2, 32]⟩
abbrev S416x64x256 : Shape := ⟨3, ![416, 64, 256]⟩
abbrev S416x32x4x2x16 : Shape := ⟨5, ![416, 32, 4, 2, 16]⟩
abbrev S416x32x4x2x8 : Shape := ⟨5, ![416, 32, 4, 2, 8]⟩
abbrev S416x8x4x2x32 : Shape := ⟨5, ![416, 8, 4, 2, 32]⟩
abbrev S416x8x256 : Shape := ⟨3, ![416, 8, 256]⟩
abbrev S416x72x256 : Shape := ⟨3, ![416, 72, 256]⟩
abbrev S29952x256 : Shape := ⟨2, ![29952, 256]⟩
abbrev S416x24x128 : Shape := ⟨3, ![416, 24, 128]⟩
abbrev S416x16x128 : Shape := ⟨3, ![416, 16, 128]⟩
abbrev S416x2x8x4x32 : Shape := ⟨5, ![416, 2, 8, 4, 32]⟩
abbrev S416x8x128 : Shape := ⟨3, ![416, 8, 128]⟩
abbrev S416x4x2x4x32 : Shape := ⟨5, ![416, 4, 2, 4, 32]⟩
abbrev S416x1x2x1x32 : Shape := ⟨5, ![416, 1, 2, 1, 32]⟩
abbrev S416x2x32 : Shape := ⟨3, ![416, 2, 32]⟩
abbrev S416x1x2x32 : Shape := ⟨4, ![416, 1, 2, 32]⟩
abbrev S416x4x2x32 : Shape := ⟨4, ![416, 4, 2, 32]⟩
abbrev S416x1x256 : Shape := ⟨3, ![416, 1, 256]⟩
abbrev S416x9x256 : Shape := ⟨3, ![416, 9, 256]⟩
abbrev S416x9x32x256 : Shape := ⟨4, ![416, 9, 32, 256]⟩
abbrev S416x288x256 : Shape := ⟨3, ![416, 288, 256]⟩
abbrev S416x64 : Shape := ⟨2, ![416, 64]⟩
abbrev S416x8 : Shape := ⟨2, ![416, 8]⟩
abbrev S416x72 : Shape := ⟨2, ![416, 72]⟩
abbrev S29952x1 : Shape := ⟨2, ![29952, 1]⟩
abbrev S416x1 : Shape := ⟨2, ![416, 1]⟩
abbrev S416x9 : Shape := ⟨2, ![416, 9]⟩
abbrev S416x9x32 : Shape := ⟨3, ![416, 9, 32]⟩
abbrev S416x288 : Shape := ⟨2, ![416, 288]⟩
abbrev S416x288x1 : Shape := ⟨3, ![416, 288, 1]⟩
abbrev S1664x1 : Shape := ⟨2, ![1664, 1]⟩
abbrev S416x256 : Shape := ⟨2, ![416, 256]⟩
abbrev S119808x256 : Shape := ⟨2, ![119808, 256]⟩
abbrev S119808x1 : Shape := ⟨2, ![119808, 1]⟩
abbrev S416 : Shape := ⟨1, ![416]⟩

abbrev nBuf : Space → Nat
  | .hbm => 54
  | .vmem => 7
  | .smem => 0
  | _ => 0

abbrev bufTy : (tb : Table) → Fin (tcTables nBuf tb) → BufTy
  | .hbm, ⟨0, _⟩ => ⟨S1664, .i32⟩
  | .hbm, ⟨1, _⟩ => ⟨S106496x64, .i32⟩
  | .hbm, ⟨2, _⟩ => ⟨S416x4096, .i32⟩
  | .hbm, ⟨3, _⟩ => ⟨S416x3072, .i32⟩
  | .hbm, ⟨4, _⟩ => ⟨S416x128, .i32⟩
  | .hbm, ⟨5, _⟩ => ⟨S416x128, .i32⟩
  | .hbm, ⟨6, _⟩ => ⟨S416x128, .i32⟩
  | .hbm, ⟨7, _⟩ => ⟨S416x128, .i32⟩
  | .hbm, ⟨8, _⟩ => ⟨S416x4x32x2x64, .i32⟩
  | .hbm, ⟨9, _⟩ => ⟨S416x64x4x2x32, .i32⟩
  | .hbm, ⟨10, _⟩ => ⟨S416x64x256, .i32⟩
  | .hbm, ⟨11, _⟩ => ⟨S416x32x4x2x16, .i32⟩
  | .hbm, ⟨12, _⟩ => ⟨S416x32x4x2x8, .i32⟩
  | .hbm, ⟨13, _⟩ => ⟨S416x8x4x2x32, .i32⟩
  | .hbm, ⟨14, _⟩ => ⟨S416x8x256, .i32⟩
  | .hbm, ⟨15, _⟩ => ⟨S416x72x256, .i32⟩
  | .hbm, ⟨16, _⟩ => ⟨S29952x256, .i32⟩
  | .hbm, ⟨17, _⟩ => ⟨S416x24x128, .i32⟩
  | .hbm, ⟨18, _⟩ => ⟨S416x16x128, .i32⟩
  | .hbm, ⟨19, _⟩ => ⟨S416x2x8x4x32, .i32⟩
  | .hbm, ⟨20, _⟩ => ⟨S416x8x4x2x32, .i32⟩
  | .hbm, ⟨21, _⟩ => ⟨S416x8x256, .i32⟩
  | .hbm, ⟨22, _⟩ => ⟨S416x8x128, .i32⟩
  | .hbm, ⟨23, _⟩ => ⟨S416x4x2x4x32, .i32⟩
  | .hbm, ⟨24, _⟩ => ⟨S416x1x2x1x32, .i32⟩
  | .hbm, ⟨25, _⟩ => ⟨S416x2x32, .i32⟩
  | .hbm, ⟨26, _⟩ => ⟨S416x1x2x1x32, .i32⟩
  | .hbm, ⟨27, _⟩ => ⟨S416x2x32, .i32⟩
  | .hbm, ⟨28, _⟩ => ⟨S416x1x2x1x32, .i32⟩
  | .hbm, ⟨29, _⟩ => ⟨S416x2x32, .i32⟩
  | .hbm, ⟨30, _⟩ => ⟨S416x1x2x1x32, .i32⟩
  | .hbm, ⟨31, _⟩ => ⟨S416x2x32, .i32⟩
  | .hbm, ⟨32, _⟩ => ⟨S416x1x2x32, .i32⟩
  | .hbm, ⟨33, _⟩ => ⟨S416x1x2x32, .i32⟩
  | .hbm, ⟨34, _⟩ => ⟨S416x1x2x32, .i32⟩
  | .hbm, ⟨35, _⟩ => ⟨S416x1x2x32, .i32⟩
  | .hbm, ⟨36, _⟩ => ⟨S416x4x2x32, .i32⟩
  | .hbm, ⟨37, _⟩ => ⟨S416x1x256, .i32⟩
  | .hbm, ⟨38, _⟩ => ⟨S416x9x256, .i32⟩
  | .hbm, ⟨39, _⟩ => ⟨S416x9x32x256, .i32⟩
  | .hbm, ⟨40, _⟩ => ⟨S416x288x256, .i32⟩
  | .hbm, ⟨41, _⟩ => ⟨S416x64, .i32⟩
  | .hbm, ⟨42, _⟩ => ⟨S416x8, .i32⟩
  | .hbm, ⟨43, _⟩ => ⟨S416x72, .i32⟩
  | .hbm, ⟨44, _⟩ => ⟨S29952x1, .i32⟩
  | .hbm, ⟨45, _⟩ => ⟨S416x8, .i32⟩
  | .hbm, ⟨46, _⟩ => ⟨S416x1, .i32⟩
  | .hbm, ⟨47, _⟩ => ⟨S416x9, .i32⟩
  | .hbm, ⟨48, _⟩ => ⟨S416x9x32, .i32⟩
  | .hbm, ⟨49, _⟩ => ⟨S416x288, .i32⟩
  | .hbm, ⟨50, _⟩ => ⟨S416x288x1, .i32⟩
  | .hbm, ⟨51, _⟩ => ⟨S1664x1, .i32⟩
  | .hbm, ⟨52, _⟩ => ⟨S416x288, .bf16⟩
  | .hbm, ⟨53, _⟩ => ⟨S416x256, .f32⟩
  | .local _ .vmem, ⟨0, _⟩ => ⟨S1664x1, .i32⟩
  | .local _ .vmem, ⟨1, _⟩ => ⟨S29952x256, .i32⟩
  | .local _ .vmem, ⟨2, _⟩ => ⟨S416x288x256, .i32⟩
  | .local _ .vmem, ⟨3, _⟩ => ⟨S29952x1, .i32⟩
  | .local _ .vmem, ⟨4, _⟩ => ⟨S416x288x1, .i32⟩
  | .local _ .vmem, ⟨5, _⟩ => ⟨S416x288, .bf16⟩
  | .local _ .vmem, ⟨6, _⟩ => ⟨S416x256, .f32⟩
  | _, _ => ⟨S1664, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44_0 : Ref sig .tc := ⟨.hbm, 52, rfl⟩
abbrev main_v44_1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1664x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S29952x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S416x288x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S29952x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S416x288x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S416x288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S416x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelD.lean ====
abbrev S1664 : Shape := ⟨1, ![1664]⟩
abbrev S106496x64 : Shape := ⟨2, ![106496, 64]⟩
abbrev S416x4096 : Shape := ⟨2, ![416, 4096]⟩
abbrev S416x3072 : Shape := ⟨2, ![416, 3072]⟩
abbrev S416x128 : Shape := ⟨2, ![416, 128]⟩
abbrev S53248x128 : Shape := ⟨2, ![53248, 128]⟩
abbrev S416x128x128 : Shape := ⟨3, ![416, 128, 128]⟩
abbrev S416x32x128 : Shape := ⟨3, ![416, 32, 128]⟩
abbrev S416x24x128 : Shape := ⟨3, ![416, 24, 128]⟩
abbrev S416x4x128 : Shape := ⟨3, ![416, 4, 128]⟩
abbrev S416x2x128 : Shape := ⟨3, ![416, 2, 128]⟩
abbrev S8x128x128 : Shape := ⟨3, ![8, 128, 128]⟩
abbrev S8x32x128 : Shape := ⟨3, ![8, 32, 128]⟩
abbrev S8x24x128 : Shape := ⟨3, ![8, 24, 128]⟩
abbrev S8x128 : Shape := ⟨2, ![8, 128]⟩
abbrev S8x4x128 : Shape := ⟨3, ![8, 4, 128]⟩
abbrev S8x2x128 : Shape := ⟨3, ![8, 2, 128]⟩
abbrev S16x128 : Shape := ⟨2, ![16, 128]⟩
abbrev S128x512 : Shape := ⟨2, ![128, 512]⟩
abbrev S32x128 : Shape := ⟨2, ![32, 128]⟩
abbrev S8x1x128 : Shape := ⟨3, ![8, 1, 128]⟩
abbrev S1 : Shape := ⟨1, ![1]⟩
abbrev S1x128x128 : Shape := ⟨3, ![1, 128, 128]⟩
abbrev S128x128 : Shape := ⟨2, ![128, 128]⟩
abbrev S512x128 : Shape := ⟨2, ![512, 128]⟩
abbrev S1x32x128 : Shape := ⟨3, ![1, 32, 128]⟩
abbrev S1x24x128 : Shape := ⟨3, ![1, 24, 128]⟩
abbrev S24x128 : Shape := ⟨2, ![24, 128]⟩
abbrev S24x512 : Shape := ⟨2, ![24, 512]⟩
abbrev S1x128 : Shape := ⟨2, ![1, 128]⟩
abbrev S64x128 : Shape := ⟨2, ![64, 128]⟩
abbrev S64x512 : Shape := ⟨2, ![64, 512]⟩
abbrev S2x8x128 : Shape := ⟨3, ![2, 8, 128]⟩
abbrev S2x128 : Shape := ⟨2, ![2, 128]⟩
abbrev S1x8x128 : Shape := ⟨3, ![1, 8, 128]⟩
abbrev S1x1x1 : Shape := ⟨3, ![1, 1, 1]⟩
abbrev S8x128x1 : Shape := ⟨3, ![8, 128, 1]⟩
abbrev S2x4x128 : Shape := ⟨3, ![2, 4, 128]⟩
abbrev S1x2x128 : Shape := ⟨3, ![1, 2, 128]⟩
abbrev S128 : Shape := ⟨1, ![128]⟩
abbrev S4x128 : Shape := ⟨2, ![4, 128]⟩
abbrev S1x4x128 : Shape := ⟨3, ![1, 4, 128]⟩
abbrev S416x4x72 : Shape := ⟨3, ![416, 4, 72]⟩
abbrev S416x72x4 : Shape := ⟨3, ![416, 72, 4]⟩
abbrev S416x288 : Shape := ⟨2, ![416, 288]⟩
abbrev S416x256 : Shape := ⟨2, ![416, 256]⟩

abbrev nBuf : Space → Nat
  | .hbm => 18
  | .vmem => 18
  | .smem => 1
  | _ => 0

abbrev bufTy : (tb : Table) → Fin (tcTables nBuf tb) → BufTy
  | .hbm, ⟨0, _⟩ => ⟨S106496x64, .i32⟩
  | .hbm, ⟨1, _⟩ => ⟨S416x4096, .i32⟩
  | .hbm, ⟨2, _⟩ => ⟨S416x3072, .i32⟩
  | .hbm, ⟨3, _⟩ => ⟨S416x128, .i32⟩
  | .hbm, ⟨4, _⟩ => ⟨S416x128, .i32⟩
  | .hbm, ⟨5, _⟩ => ⟨S416x128, .i32⟩
  | .hbm, ⟨6, _⟩ => ⟨S416x128, .i32⟩
  | .hbm, ⟨7, _⟩ => ⟨S53248x128, .i32⟩
  | .hbm, ⟨8, _⟩ => ⟨S416x128x128, .i32⟩
  | .hbm, ⟨9, _⟩ => ⟨S416x32x128, .i32⟩
  | .hbm, ⟨10, _⟩ => ⟨S416x24x128, .i32⟩
  | .hbm, ⟨11, _⟩ => ⟨S416x4x128, .f32⟩
  | .hbm, ⟨12, _⟩ => ⟨S416x2x128, .f32⟩
  | .hbm, ⟨13, _⟩ => ⟨S416x4x72, .f32⟩
  | .hbm, ⟨14, _⟩ => ⟨S416x4x72, .bf16⟩
  | .hbm, ⟨15, _⟩ => ⟨S416x72x4, .bf16⟩
  | .hbm, ⟨16, _⟩ => ⟨S416x288, .bf16⟩
  | .hbm, ⟨17, _⟩ => ⟨S416x256, .f32⟩
  | .local _ .vmem, ⟨0, _⟩ => ⟨S8x128x128, .i32⟩
  | .local _ .vmem, ⟨1, _⟩ => ⟨S8x128x128, .i32⟩
  | .local _ .vmem, ⟨2, _⟩ => ⟨S8x32x128, .i32⟩
  | .local _ .vmem, ⟨3, _⟩ => ⟨S8x32x128, .i32⟩
  | .local _ .vmem, ⟨4, _⟩ => ⟨S8x24x128, .i32⟩
  | .local _ .vmem, ⟨5, _⟩ => ⟨S8x24x128, .i32⟩
  | .local _ .vmem, ⟨6, _⟩ => ⟨S8x128, .i32⟩
  | .local _ .vmem, ⟨7, _⟩ => ⟨S8x128, .i32⟩
  | .local _ .vmem, ⟨8, _⟩ => ⟨S8x128, .i32⟩
  | .local _ .vmem, ⟨9, _⟩ => ⟨S8x128, .i32⟩
  | .local _ .vmem, ⟨10, _⟩ => ⟨S8x128, .i32⟩
  | .local _ .vmem, ⟨11, _⟩ => ⟨S8x128, .i32⟩
  | .local _ .vmem, ⟨12, _⟩ => ⟨S8x128, .i32⟩
  | .local _ .vmem, ⟨13, _⟩ => ⟨S8x128, .i32⟩
  | .local _ .vmem, ⟨14, _⟩ => ⟨S8x4x128, .f32⟩
  | .local _ .vmem, ⟨15, _⟩ => ⟨S8x4x128, .f32⟩
  | .local _ .vmem, ⟨16, _⟩ => ⟨S8x2x128, .f32⟩
  | .local _ .vmem, ⟨17, _⟩ => ⟨S8x2x128, .f32⟩
  | .local _ .smem, ⟨0, _⟩ => ⟨S1664, .i32⟩
  | _, _ => ⟨S106496x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![52], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_36 : BitVec 32) : Fin 1 → Nat :=
  let c1248_i32 : BitVec 32 := 1248#32
  let arg0 : BitVec 32 := BitVec.ofNat 32 (i 0).val
  let c8_i32 : BitVec 32 := 8#32
  let v0 : BitVec 32 := Scalar.muli arg0 c8_i32
  let v1 : BitVec 32 := Scalar.addi c1248_i32 v0
  let v138 : BitVec 32 := Scalar.addi v1 c0_i32_36
  let v139 : Index := Scalar.indexCast v138
  ![v139.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x24x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceDIdeal.lean ====
abbrev S1664 : Shape := ⟨1, ![1664]⟩
abbrev S106496x64 : Shape := ⟨2, ![106496, 64]⟩
abbrev S416x4096 : Shape := ⟨2, ![416, 4096]⟩
abbrev S416x3072 : Shape := ⟨2, ![416, 3072]⟩
abbrev S416x128 : Shape := ⟨2, ![416, 128]⟩
abbrev S416x4x32x2x64 : Shape := ⟨5, ![416, 4, 32, 2, 64]⟩
abbrev S416x64x4x2x32 : Shape := ⟨5, ![416, 64, 4, 2, 32]⟩
abbrev S416x64x256 : Shape := ⟨3, ![416, 64, 256]⟩
abbrev S416x32x4x2x16 : Shape := ⟨5, ![416, 32, 4, 2, 16]⟩
abbrev S416x32x4x2x8 : Shape := ⟨5, ![416, 32, 4, 2, 8]⟩
abbrev S416x8x4x2x32 : Shape := ⟨5, ![416, 8, 4, 2, 32]⟩
abbrev S416x8x256 : Shape := ⟨3, ![416, 8, 256]⟩
abbrev S416x72x256 : Shape := ⟨3, ![416, 72, 256]⟩
abbrev S29952x256 : Shape := ⟨2, ![29952, 256]⟩
abbrev S416x24x128 : Shape := ⟨3, ![416, 24, 128]⟩
abbrev S416x16x128 : Shape := ⟨3, ![416, 16, 128]⟩
abbrev S416x2x8x4x32 : Shape := ⟨5, ![416, 2, 8, 4, 32]⟩
abbrev S416x8x128 : Shape := ⟨3, ![416, 8, 128]⟩
abbrev S416x4x2x4x32 : Shape := ⟨5, ![416, 4, 2, 4, 32]⟩
abbrev S416x1x2x1x32 : Shape := ⟨5, ![416, 1, 2, 1, 32]⟩
abbrev S416x2x32 : Shape := ⟨3, ![416, 2, 32]⟩
abbrev S416x1x2x32 : Shape := ⟨4, ![416, 1, 2, 32]⟩
abbrev S416x4x2x32 : Shape := ⟨4, ![416, 4, 2, 32]⟩
abbrev S416x1x256 : Shape := ⟨3, ![416, 1, 256]⟩
abbrev S416x9x256 : Shape := ⟨3, ![416, 9, 256]⟩
abbrev S416x9x32x256 : Shape := ⟨4, ![416, 9, 32, 256]⟩
abbrev S416x288x256 : Shape := ⟨3, ![416, 288, 256]⟩
abbrev S416x64 : Shape := ⟨2, ![416, 64]⟩
abbrev S416x8 : Shape := ⟨2, ![416, 8]⟩
abbrev S416x72 : Shape := ⟨2, ![416, 72]⟩
abbrev S29952x1 : Shape := ⟨2, ![29952, 1]⟩
abbrev S416x1 : Shape := ⟨2, ![416, 1]⟩
abbrev S416x9 : Shape := ⟨2, ![416, 9]⟩
abbrev S416x9x32 : Shape := ⟨3, ![416, 9, 32]⟩
abbrev S416x288 : Shape := ⟨2, ![416, 288]⟩
abbrev S416x288x1 : Shape := ⟨3, ![416, 288, 1]⟩
abbrev S1664x1 : Shape := ⟨2, ![1664, 1]⟩
abbrev S416x256 : Shape := ⟨2, ![416, 256]⟩
abbrev S119808x256 : Shape := ⟨2, ![119808, 256]⟩
abbrev S119808x1 : Shape := ⟨2, ![119808, 1]⟩
abbrev S416 : Shape := ⟨1, ![416]⟩

abbrev nBuf : Space → Nat
  | .hbm => 54
  | .vmem => 7
  | .smem => 0
  | _ => 0

abbrev bufTy : (tb : Table) → Fin (tcTables nBuf tb) → BufTy
  | .hbm, ⟨0, _⟩ => ⟨S1664, .i32⟩
  | .hbm, ⟨1, _⟩ => ⟨S106496x64, .i32⟩
  | .hbm, ⟨2, _⟩ => ⟨S416x4096, .i32⟩
  | .hbm, ⟨3, _⟩ => ⟨S416x3072, .i32⟩
  | .hbm, ⟨4, _⟩ => ⟨S416x128, .i32⟩
  | .hbm, ⟨5, _⟩ => ⟨S416x128, .i32⟩
  | .hbm, ⟨6, _⟩ => ⟨S416x128, .i32⟩
  | .hbm, ⟨7, _⟩ => ⟨S416x128, .i32⟩
  | .hbm, ⟨8, _⟩ => ⟨S416x4x32x2x64, .i32⟩
  | .hbm, ⟨9, _⟩ => ⟨S416x64x4x2x32, .i32⟩
  | .hbm, ⟨10, _⟩ => ⟨S416x64x256, .i32⟩
  | .hbm, ⟨11, _⟩ => ⟨S416x32x4x2x16, .i32⟩
  | .hbm, ⟨12, _⟩ => ⟨S416x32x4x2x8, .i32⟩
  | .hbm, ⟨13, _⟩ => ⟨S416x8x4x2x32, .i32⟩
  | .hbm, ⟨14, _⟩ => ⟨S416x8x256, .i32⟩
  | .hbm, ⟨15, _⟩ => ⟨S416x72x256, .i32⟩
  | .hbm, ⟨16, _⟩ => ⟨S29952x256, .i32⟩
  | .hbm, ⟨17, _⟩ => ⟨S416x24x128, .i32⟩
  | .hbm, ⟨18, _⟩ => ⟨S416x16x128, .i32⟩
  | .hbm, ⟨19, _⟩ => ⟨S416x2x8x4x32, .i32⟩
  | .hbm, ⟨20, _⟩ => ⟨S416x8x4x2x32, .i32⟩
  | .hbm, ⟨21, _⟩ => ⟨S416x8x256, .i32⟩
  | .hbm, ⟨22, _⟩ => ⟨S416x8x128, .i32⟩
  | .hbm, ⟨23, _⟩ => ⟨S416x4x2x4x32, .i32⟩
  | .hbm, ⟨24, _⟩ => ⟨S416x1x2x1x32, .i32⟩
  | .hbm, ⟨25, _⟩ => ⟨S416x2x32, .i32⟩
  | .hbm, ⟨26, _⟩ => ⟨S416x1x2x1x32, .i32⟩
  | .hbm, ⟨27, _⟩ => ⟨S416x2x32, .i32⟩
  | .hbm, ⟨28, _⟩ => ⟨S416x1x2x1x32, .i32⟩
  | .hbm, ⟨29, _⟩ => ⟨S416x2x32, .i32⟩
  | .hbm, ⟨30, _⟩ => ⟨S416x1x2x1x32, .i32⟩
  | .hbm, ⟨31, _⟩ => ⟨S416x2x32, .i32⟩
  | .hbm, ⟨32, _⟩ => ⟨S416x1x2x32, .i32⟩
  | .hbm, ⟨33, _⟩ => ⟨S416x1x2x32, .i32⟩
  | .hbm, ⟨34, _⟩ => ⟨S416x1x2x32, .i32⟩
  | .hbm, ⟨35, _⟩ => ⟨S416x1x2x32, .i32⟩
  | .hbm, ⟨36, _⟩ => ⟨S416x4x2x32, .i32⟩
  | .hbm, ⟨37, _⟩ => ⟨S416x1x256, .i32⟩
  | .hbm, ⟨38, _⟩ => ⟨S416x9x256, .i32⟩
  | .hbm, ⟨39, _⟩ => ⟨S416x9x32x256, .i32⟩
  | .hbm, ⟨40, _⟩ => ⟨S416x288x256, .i32⟩
  | .hbm, ⟨41, _⟩ => ⟨S416x64, .i32⟩
  | .hbm, ⟨42, _⟩ => ⟨S416x8, .i32⟩
  | .hbm, ⟨43, _⟩ => ⟨S416x72, .i32⟩
  | .hbm, ⟨44, _⟩ => ⟨S29952x1, .i32⟩
  | .hbm, ⟨45, _⟩ => ⟨S416x8, .i32⟩
  | .hbm, ⟨46, _⟩ => ⟨S416x1, .i32⟩
  | .hbm, ⟨47, _⟩ => ⟨S416x9, .i32⟩
  | .hbm, ⟨48, _⟩ => ⟨S416x9x32, .i32⟩
  | .hbm, ⟨49, _⟩ => ⟨S416x288, .i32⟩
  | .hbm, ⟨50, _⟩ => ⟨S416x288x1, .i32⟩
  | .hbm, ⟨51, _⟩ => ⟨S1664x1, .i32⟩
  | .hbm, ⟨52, _⟩ => ⟨S416x288, .bf16⟩
  | .hbm, ⟨53, _⟩ => ⟨S416x256, .f32⟩
  | .local _ .vmem, ⟨0, _⟩ => ⟨S1664x1, .i32⟩
  | .local _ .vmem, ⟨1, _⟩ => ⟨S29952x256, .i32⟩
  | .local _ .vmem, ⟨2, _⟩ => ⟨S416x288x256, .i32⟩
  | .local _ .vmem, ⟨3, _⟩ => ⟨S29952x1, .i32⟩
  | .local _ .vmem, ⟨4, _⟩ => ⟨S416x288x1, .i32⟩
  | .local _ .vmem, ⟨5, _⟩ => ⟨S416x288, .bf16⟩
  | .local _ .vmem, ⟨6, _⟩ => ⟨S416x256, .f32⟩
  | _, _ => ⟨S1664, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44_0 : Ref sig .tc := ⟨.hbm, 52, rfl⟩
abbrev main_v44_1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1664x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S29952x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S416x288x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S29952x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S416x288x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S416x288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S416x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Table.lean ====
abbrev S288x350000 : Shape := ⟨2, ![288, 350000]⟩
abbrev S9x350000 : Shape := ⟨2, ![9, 350000]⟩
abbrev S220160x128 : Shape := ⟨2, ![220160, 128]⟩
abbrev S288x4096 : Shape := ⟨2, ![288, 4096]⟩
abbrev S9x4096 : Shape := ⟨2, ![9, 4096]⟩
abbrev S2560x128 : Shape := ⟨2, ![2560, 128]⟩
abbrev S9x128 : Shape := ⟨2, ![9, 128]⟩
abbrev S7x128 : Shape := ⟨2, ![7, 128]⟩
abbrev S16x128 : Shape := ⟨2, ![16, 128]⟩
abbrev S288x128 : Shape := ⟨2, ![288, 128]⟩
abbrev S72x128 : Shape := ⟨2, ![72, 128]⟩
abbrev S8x128 : Shape := ⟨2, ![8, 128]⟩
abbrev S640x128 : Shape := ⟨2, ![640, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S288x350000, .fp8e4m3⟩
  | .hbm, ⟨1, _⟩ => ⟨S9x350000, .f32⟩
  | .hbm, ⟨2, _⟩ => ⟨S220160x128, .i32⟩
  | .local _ .vmem, ⟨0, _⟩ => ⟨S288x4096, .fp8e4m3⟩
  | .local _ .vmem, ⟨1, _⟩ => ⟨S288x4096, .fp8e4m3⟩
  | .local _ .vmem, ⟨2, _⟩ => ⟨S9x4096, .f32⟩
  | .local _ .vmem, ⟨3, _⟩ => ⟨S9x4096, .f32⟩
  | .local _ .vmem, ⟨4, _⟩ => ⟨S2560x128, .i32⟩
  | .local _ .vmem, ⟨5, _⟩ => ⟨S2560x128, .i32⟩
  | _, _ => ⟨S288x350000, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S288x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TableReference.lean ====
abbrev S288x350000 : Shape := ⟨2, ![288, 350000]⟩
abbrev S9x350000 : Shape := ⟨2, ![9, 350000]⟩
abbrev S80x350000 : Shape := ⟨2, ![80, 350000]⟩
abbrev S7x350000 : Shape := ⟨2, ![7, 350000]⟩
abbrev S16x350000 : Shape := ⟨2, ![16, 350000]⟩
abbrev S72x350000 : Shape := ⟨2, ![72, 350000]⟩
abbrev S8x350000 : Shape := ⟨2, ![8, 350000]⟩
abbrev S_ : Shape := ⟨0, ![]⟩
abbrev S80x352256 : Shape := ⟨2, ![80, 352256]⟩
abbrev S80x344x8x128 : Shape := ⟨4, ![80, 344, 8, 128]⟩
abbrev S344x128x8x80 : Shape := ⟨4, ![344, 128, 8, 80]⟩
abbrev S220160x128 : Shape := ⟨2, ![220160, 128]⟩

abbrev nBuf : Space → Nat
  | .hbm => 8
  | .vmem => 3
  | .smem => 0
  | _ => 0

abbrev bufTy : (tb : Table) → Fin (tcTables nBuf tb) → BufTy
  | .hbm, ⟨0, _⟩ => ⟨S288x350000, .fp8e4m3⟩
  | .hbm, ⟨1, _⟩ => ⟨S9x350000, .f32⟩
  | .hbm, ⟨2, _⟩ => ⟨S80x350000, .i32⟩
  | .hbm, ⟨3, _⟩ => ⟨S_, .i32⟩
  | .hbm, ⟨4, _⟩ => ⟨S80x352256, .i32⟩
  | .hbm, ⟨5, _⟩ => ⟨S80x344x8x128, .i32⟩
  | .hbm, ⟨6, _⟩ => ⟨S344x128x8x80, .i32⟩
  | .hbm, ⟨7, _⟩ => ⟨S220160x128, .i32⟩
  | .local _ .vmem, ⟨0, _⟩ => ⟨S288x350000, .fp8e4m3⟩
  | .local _ .vmem, ⟨1, _⟩ => ⟨S9x350000, .f32⟩
  | .local _ .vmem, ⟨2, _⟩ => ⟨S80x350000, .i32⟩
  | _, _ => ⟨S288x350000, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S288x350000 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x350000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x350000 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Chain.lean ====
/- What the kernel's body computes of ONE user, stage by stage: the eight users of a block are the same chain of
   operations at eight rows, so the chain is written once here and read once in the modules that follow. Every stage is
   the printed operations in the printed order, over the values the stage takes. -/
module

public import proofs.«01_k».proof.Proof.Gen.KernelIdeal

@[expose] public section

noncomputable section

namespace Cert.KernelIdeal.Attn

open Idealize.ShloMosaic Idealize.SL.Sem Cert.KernelIdeal.Gen

variable {F : FTy → Type} [FloatOps F]

/-! ## Words: lane and sublane numbers, quotients and remainders -/

/-- `x // d`, rounded down, as the host language prints it. -/
def fdiv {s : Shape} (x : IVec s 32) (d : BitVec 32) : IVec s 32 :=
  select (andi
      (cmpi .ne (subi (extui 32 (cmpi .sgt x (broadcast s 0#32)) natLt_1_32)
          (extui 32 (cmpi .slt x (broadcast s 0#32)) natLt_1_32))
        (broadcast s (Scalar.subi (Scalar.extui (Scalar.cmpi .sgt d 0#32)) (Scalar.extui (Scalar.cmpi .slt d 0#32)))))
      (cmpi .ne (remsi x (broadcast s d)) (broadcast s 0#32)))
    (subi (divsi x (broadcast s d)) (broadcast s 1#32)) (divsi x (broadcast s d))

/-- `x % d` with the divisor's sign, as the host language prints it (`d` not zero). -/
def fmod {s : Shape} (hb : s.Broadcasts s) (x : IVec s 32) (d : BitVec 32) : IVec s 32 :=
  select (andi (xori (cmpi .slt (remsi x (broadcast s d)) (broadcast s 0#32))
        (broadcastTo s (broadcast s (Scalar.cmpi .slt d 0#32)) hb))
      (cmpi .ne (remsi x (broadcast s d)) (broadcast s 0#32)))
    (addi (remsi x (broadcast s d)) (broadcast s d)) (remsi x (broadcast s d))

def lane8 : IVec S8x128 32 := iota .tc S8x128 32 [1] iota_S8x128_d1_w32
def sub8 : IVec S8x128 32 := iota .tc S8x128 32 [0] iota_S8x128_d0_w32
def lane16 : IVec S16x128 32 := iota .tc S16x128 32 [1] iota_S16x128_d1_w32
def row16 : IVec S16x128 32 := iota .tc S16x128 32 [0] iota_S16x128_d0_w32

/-- Row `i` of sixteen owns the eight lanes `8 i …`. -/
def mainMask : IVec S16x128 1 := cmpi .eq row16 (fdiv lane16 8#32)
/-- Row `i` of eight owns the sixteen lanes `16 i …`. -/
def tailMask : IVec S8x128 1 := cmpi .eq sub8 (fdiv lane8 16#32)
def byte8 : IVec S8x128 32 := fmod broadcasts_S8x128_S8x128 lane8 4#32
def byte16 : IVec S16x128 32 := fmod broadcasts_S16x128_S16x128 lane16 4#32

/-- The 0/1 matrix that repeats each lane four times. -/
def spread : FVec F S128x512 .bf16 :=
  truncf .bf16 (sitofp .f32 (extui 32 (cmpi .eq (iota .tc S128x512 32 [0] iota_S128x512_d0_w32)
    (fdiv (iota .tc S128x512 32 [1] iota_S128x512_d1_w32) 4#32)) natLt_1_32)) bitsLt_bf16_f32

/-- A block's query rows: row `4 u + b` is byte `b` of user `u`'s codes, times the user's scales. -/
def expandQ (w s : IVec S8x128 32) : FVec F S32x128 .f32 :=
  mulf (extf .f32 (bitcastToFloat .fp8e4m3 (bitcast S32x128 8 w bitcasts_S8x128_w32_S32x128_w8) : FVec F S32x128 .fp8e4m3)
      bitsLt_fp8e4m3_f32)
    (shapeCast S32x128 (broadcastTo S8x4x128 (shapeCast S8x1x128 (shapeCast S8x1x128
      (bitcastToFloat .f32 s : FVec F S8x128 .f32) shapeCasts_S8x128_S8x1x128) shapeCasts_S8x1x128_S8x1x128)
      broadcasts_S8x1x128_S8x4x128) shapeCasts_S8x4x128_S32x128)

/-- The codes of a user's main words and of its tail words, a byte per row. -/
def mainCodes (b : IVec S1x128x128 32) : FVec F S512x128 .fp8e4m3 :=
  bitcastToFloat .fp8e4m3 (bitcast S512x128 8 (shapeCast S128x128 b shapeCasts_S1x128x128_S128x128)
    bitcasts_S128x128_w32_S512x128_w8)
def tailCodes (b : IVec S1x32x128 32) : FVec F S128x128 .fp8e4m3 :=
  bitcastToFloat .fp8e4m3 (bitcast S128x128 8 (shapeCast S32x128 b shapeCasts_S1x32x128_S32x128)
    bitcasts_S32x128_w32_S128x128_w8)

/-- A user's scales, each repeated over the four lanes of its slot. -/
def scaleAll (b : IVec S1x24x128 32) : FVec F S24x512 .f32 :=
  matmul dot_S24x128_S128x512_S24x512_1_0_0_1_n_n none
    (truncf .bf16 (bitcastToFloat .f32 (shapeCast S24x128 b shapeCasts_S1x24x128_S24x128) : FVec F S24x128 .f32)
      bitsLt_bf16_f32) spread (constant S24x512 .f32 0x00000000#32)

/-- The scales of the main words' blocks, 128 lanes of them. -/
def mainScale (sc : FVec F S24x512 .f32) (off : Nat) (h : S24x512.Slices ![0, off] S16x128) : FVec F S16x128 .f32 :=
  extractStridedSlice S16x128 ![0, off] sc h

/-- Row `s` of the tail block's scales: those of slots `32 s …`. -/
def tailScale (sc : FVec F S24x512 .f32) : FVec F S8x128 .f32 :=
  select (cmpi .eq (fdiv sub8 2#32) (broadcast S8x128 3#32)) (extractStridedSlice S8x128 ![16, 384] sc slices_S24x512_o16_384_S8x128)
    (select (cmpi .eq (fdiv sub8 2#32) (broadcast S8x128 2#32)) (extractStridedSlice S8x128 ![16, 256] sc slices_S24x512_o16_256_S8x128)
      (select (cmpi .eq (fdiv sub8 2#32) (broadcast S8x128 1#32)) (extractStridedSlice S8x128 ![16, 128] sc slices_S24x512_o16_128_S8x128)
        (extractStridedSlice S8x128 ![16, 0] sc slices_S24x512_o16_0_S8x128)))

/-! ## The scores -/

def maskRow16 (r : FVec F S1x128 .f32) : FVec F S16x128 .f32 :=
  select mainMask (broadcastTo S16x128 (shapeCast S1x128 r shapeCasts_S1x128_S1x128) broadcasts_S1x128_S16x128)
    (broadcast S16x128 (Scalar.ofBits .f32 0x00000000#32))
def maskRow8 (r : FVec F S1x128 .f32) : FVec F S8x128 .f32 :=
  select tailMask (broadcastTo S8x128 (shapeCast S1x128 r shapeCasts_S1x128_S1x128) broadcasts_S1x128_S8x128)
    (broadcast S8x128 (Scalar.ofBits .f32 0x00000000#32))

/-- Every block of query codes against every row of key codes. -/
def dots1 (r0 r1 r2 r3 : FVec F S1x128 .f32) (mc : FVec F S512x128 .fp8e4m3) : FVec F S64x512 .f32 :=
  matmul dot_S64x128_S512x128_S64x512_1_1_0_0_n_n none
    (truncf .bf16 (concatenate S64x128 0 [⟨S16x128, maskRow16 r0⟩, ⟨S16x128, maskRow16 r1⟩, ⟨S16x128, maskRow16 r2⟩, ⟨S16x128, maskRow16 r3⟩]
      concatenates_S16x128_S16x128_S16x128_S16x128_S64x128_d0) bitsLt_bf16_f32) mc (constant S64x512 .f32 0x00000000#32)
def dots2 (r0 r1 r2 r3 : FVec F S1x128 .f32) (tc : FVec F S128x128 .fp8e4m3) : FVec F S32x128 .f32 :=
  matmul dot_S32x128_S128x128_S32x128_1_1_0_0_n_n none
    (truncf .bf16 (concatenate S32x128 0 [⟨S8x128, maskRow8 r0⟩, ⟨S8x128, maskRow8 r1⟩, ⟨S8x128, maskRow8 r2⟩, ⟨S8x128, maskRow8 r3⟩]
      concatenates_S8x128_S8x128_S8x128_S8x128_S32x128_d0) bitsLt_bf16_f32) tc (constant S32x128 .f32 0x00000000#32)

/-- Of the four row groups (one per byte of the query), the one that is the lane's own byte. -/
def byByte16 (x : FVec F S64x128 .f32) : FVec F S16x128 .f32 :=
  select (cmpi .eq byte16 (broadcast S16x128 3#32)) (extractStridedSlice S16x128 ![48, 0] x slices_S64x128_o48_0_S16x128)
    (select (cmpi .eq byte16 (broadcast S16x128 2#32)) (extractStridedSlice S16x128 ![32, 0] x slices_S64x128_o32_0_S16x128)
      (select (cmpi .eq byte16 (broadcast S16x128 1#32)) (extractStridedSlice S16x128 ![16, 0] x slices_S64x128_o16_0_S16x128)
        (extractStridedSlice S16x128 ![0, 0] x slices_S64x128_o0_0_S16x128)))
def byByte8 (x : FVec F S32x128 .f32) : FVec F S8x128 .f32 :=
  select (cmpi .eq byte8 (broadcast S8x128 3#32)) (extractStridedSlice S8x128 ![24, 0] x slices_S32x128_o24_0_S8x128)
    (select (cmpi .eq byte8 (broadcast S8x128 2#32)) (extractStridedSlice S8x128 ![16, 0] x slices_S32x128_o16_0_S8x128)
      (select (cmpi .eq byte8 (broadcast S8x128 1#32)) (extractStridedSlice S8x128 ![8, 0] x slices_S32x128_o8_0_S8x128)
        (extractStridedSlice S8x128 ![0, 0] x slices_S32x128_o0_0_S8x128)))

/-- The main blocks' part of the scores of 64 slots (two rows of 32, a slot's four bytes side by side). -/
def part (p : FVec F S64x512 .f32) (sc : FVec F S24x512 .f32) (off : Nat) (h : S64x512.Slices ![0, off] S64x128)
    (h' : S24x512.Slices ![0, off] S16x128) : FVec F S2x128 .f32 :=
  multiReduction .add [1] S2x128 (shapeCast S2x8x128
    (mulf (byByte16 (extractStridedSlice S64x128 ![0, off] p h)) (mainScale sc off h')) shapeCasts_S16x128_S2x8x128)
    0x00000000#32 reduces_S2x8x128_S2x128 (.inl rfl) rfl

/-- The scores' four byte parts, before they are added up. -/
def yRaw (p1 : FVec F S64x512 .f32) (p2 : FVec F S32x128 .f32) (sc : FVec F S24x512 .f32) : FVec F S8x128 .f32 :=
  addf (concatenate S8x128 0 [⟨S2x128, part p1 sc 0 slices_S64x512_o0_0_S64x128 slices_S24x512_o0_0_S16x128⟩,
      ⟨S2x128, part p1 sc 128 slices_S64x512_o0_128_S64x128 slices_S24x512_o0_128_S16x128⟩,
      ⟨S2x128, part p1 sc 256 slices_S64x512_o0_256_S64x128 slices_S24x512_o0_256_S16x128⟩,
      ⟨S2x128, part p1 sc 384 slices_S64x512_o0_384_S64x128 slices_S24x512_o0_384_S16x128⟩]
      concatenates_S2x128_S2x128_S2x128_S2x128_S8x128_d0)
    (mulf (byByte8 p2) (tailScale sc))

def pairUp (y : FVec F S8x128 .f32) : FVec F S8x128 .f32 :=
  addf y (select (cmpi .eq (fmod broadcasts_S8x128_S8x128 lane8 2#32) (broadcast S8x128 0#32))
    (dynamicRotate 1 127#32 none y rotates_S8x128_d1) (dynamicRotate 1 1#32 none y rotates_S8x128_d1))
def quadUp (y : FVec F S8x128 .f32) : FVec F S8x128 .f32 :=
  addf y (select (cmpi .slt byte8 (broadcast S8x128 2#32))
    (dynamicRotate 1 126#32 none y rotates_S8x128_d1) (dynamicRotate 1 2#32 none y rotates_S8x128_d1))

def scoreOf (cnt : BitVec 32) (y : FVec F S8x128 .f32) : FVec F S8x128 .f32 :=
  Scalar.select (Scalar.cmpi .eq cnt 0#32) (broadcast S8x128 (Scalar.ofBits .f32 0x00000000#32))
    (select (cmpi .slt (addi (muli sub8 (broadcast S8x128 32#32)) (fdiv lane8 4#32)) (broadcast S8x128 cnt))
      (mulf y (broadcast S8x128 (Scalar.ofBits .f32 0x3D715BEF#32))) (broadcast S8x128 (Scalar.ofBits .f32 0xFF800000#32)))

/-! ## The weights -/

def maxOf (s : FVec F S8x128 .f32) : F .f32 :=
  extractAt ![0, 0, 0] (shapeCast S1x1x1 (multiReduction .maximumf [1, 2] S1 (shapeCast S1x8x128 s shapeCasts_S8x128_S1x8x128)
    0xFF800000#32 reduces_S1x8x128_S1 (.inl rfl) rfl) shapeCasts_S1_S1x1x1) inpos_S1x1x1_p0_0_0
def sumOf (s : FVec F S8x128 .f32) : F .f32 :=
  extractAt ![0, 0, 0] (shapeCast S1x1x1 (multiReduction .add [1, 2] S1 (shapeCast S1x8x128 s shapeCasts_S8x128_S1x8x128)
    0x00000000#32 reduces_S1x8x128_S1 (.inl rfl) rfl) shapeCasts_S1_S1x1x1) inpos_S1x1x1_p0_0_0

def expOf (s : FVec F S8x128 .f32) : FVec F S8x128 .f32 := exp (subf s (broadcast S8x128 (maxOf s)))

def weights (cnt : BitVec 32) (s : FVec F S8x128 .f32) : FVec F S8x128 .f32 :=
  Scalar.select (Scalar.cmpi .eq cnt 0#32) (broadcast S8x128 (Scalar.ofBits .f32 0x00000000#32))
    (divf (expOf s) (broadcast S8x128 (Scalar.mulf (sumOf (expOf s)) (Scalar.ofBits .f32 0x3E800000#32))))

def gatherLanes : IVec S8x128 32 :=
  shapeCast S8x128 (shapeCast S8x128x1
    (select (cmpi .slt (muli (fmod broadcasts_S8x128_S8x128 lane8 32#32) (broadcast S8x128 4#32)) (broadcast S8x128 0#32))
      (addi (muli (fmod broadcasts_S8x128_S8x128 lane8 32#32) (broadcast S8x128 4#32)) (broadcast S8x128 128#32))
      (muli (fmod broadcasts_S8x128_S8x128 lane8 32#32) (broadcast S8x128 4#32)))
    shapeCasts_S8x128_S8x128x1) shapeCasts_S8x128x1_S8x128

/-- The weights as the kernel writes them out: one lane per slot. -/
def wOut (w : FVec F S8x128 .f32) : FVec F S1x2x128 .f32 :=
  shapeCast S1x2x128 (multiReduction .add [1] S2x128 (shapeCast S2x4x128
    (select (cmpi .eq (fdiv lane8 32#32) (fmod broadcasts_S8x128_S8x128 sub8 4#32)) (dynamicGather 1 w gatherLanes)
      (broadcast S8x128 (Scalar.ofBits .f32 0x00000000#32))) shapeCasts_S8x128_S2x4x128)
    0x00000000#32 reduces_S2x4x128_S2x128 (.inl rfl) rfl) shapeCasts_S2x128_S1x2x128

/-! ## The pooled rows -/

def rounded (w : FVec F S8x128 .f32) : FVec F S8x128 .f32 := extf .f32 (truncf .bf16 w bitsLt_bf16_f32) bitsLt_bf16_f32

/-- One row of weights for all eight blocks of its 32 slots. -/
def rowDown (wb : FVec F S8x128 .f32) (a : Nat) (h : S8x128.Slices ![a, 0] S1x128) : FVec F S8x128 .f32 :=
  broadcastTo S8x128 (shapeCast S1x128 (extractStridedSlice S1x128 ![a, 0] wb h) shapeCasts_S1x128_S1x128) broadcasts_S1x128_S8x128

def keep16 (j : BitVec 32) (x : FVec F S16x128 .f32) : FVec F S16x128 .f32 :=
  select (cmpi .eq byte16 (broadcast S16x128 j)) x (broadcast S16x128 (Scalar.ofBits .f32 0x00000000#32))
def keep8 (j : BitVec 32) (x : FVec F S8x128 .f32) : FVec F S8x128 .f32 :=
  select (cmpi .eq byte8 (broadcast S8x128 j)) x (broadcast S8x128 (Scalar.ofBits .f32 0x00000000#32))

/-- The weight times the block's scale, for 64 slots. -/
def weighted (wb : FVec F S8x128 .f32) (sc : FVec F S24x512 .f32) (a b off : Nat) (ha : S8x128.Slices ![a, 0] S1x128)
    (hb : S8x128.Slices ![b, 0] S1x128) (h : S24x512.Slices ![0, off] S16x128) : FVec F S16x128 .f32 :=
  mulf (concatenate S16x128 0 [⟨S8x128, rowDown wb a ha⟩, ⟨S8x128, rowDown wb b hb⟩] concatenates_S8x128_S8x128_S16x128_d0)
    (mainScale sc off h)

def split16 (x : FVec F S16x128 .f32) : FVec F S64x128 .f32 :=
  concatenate S64x128 0 [⟨S16x128, keep16 0#32 x⟩, ⟨S16x128, keep16 1#32 x⟩, ⟨S16x128, keep16 2#32 x⟩, ⟨S16x128, keep16 3#32 x⟩]
    concatenates_S16x128_S16x128_S16x128_S16x128_S64x128_d0
def split8 (x : FVec F S8x128 .f32) : FVec F S32x128 .f32 :=
  concatenate S32x128 0 [⟨S8x128, keep8 0#32 x⟩, ⟨S8x128, keep8 1#32 x⟩, ⟨S8x128, keep8 2#32 x⟩, ⟨S8x128, keep8 3#32 x⟩]
    concatenates_S8x128_S8x128_S8x128_S8x128_S32x128_d0

def lhsMain (wb : FVec F S8x128 .f32) (sc : FVec F S24x512 .f32) : FVec F S64x512 .f32 :=
  concatenate S64x512 1
    [⟨S64x128, split16 (weighted wb sc 0 1 0 slices_S8x128_o0_0_S1x128 slices_S8x128_o1_0_S1x128 slices_S24x512_o0_0_S16x128)⟩,
     ⟨S64x128, split16 (weighted wb sc 2 3 128 slices_S8x128_o2_0_S1x128 slices_S8x128_o3_0_S1x128 slices_S24x512_o0_128_S16x128)⟩,
     ⟨S64x128, split16 (weighted wb sc 4 5 256 slices_S8x128_o4_0_S1x128 slices_S8x128_o5_0_S1x128 slices_S24x512_o0_256_S16x128)⟩,
     ⟨S64x128, split16 (weighted wb sc 6 7 384 slices_S8x128_o6_0_S1x128 slices_S8x128_o7_0_S1x128 slices_S24x512_o0_384_S16x128)⟩]
    concatenates_S64x128_S64x128_S64x128_S64x128_S64x512_d1

def pool1 (wb : FVec F S8x128 .f32) (sc : FVec F S24x512 .f32) (mc : FVec F S512x128 .fp8e4m3) : FVec F S64x128 .f32 :=
  matmul dot_S64x512_S512x128_S64x128_1_0_0_1_n_n none (truncf .bf16 (lhsMain wb sc) bitsLt_bf16_f32) mc
    (constant S64x128 .f32 0x00000000#32)
def pool2 (wb : FVec F S8x128 .f32) (sc : FVec F S24x512 .f32) (tc : FVec F S128x128 .fp8e4m3) : FVec F S32x128 .f32 :=
  matmul dot_S32x128_S128x128_S32x128_1_0_0_1_n_n none (truncf .bf16 (split8 (mulf wb (tailScale sc))) bitsLt_bf16_f32) tc
    (constant S32x128 .f32 0x00000000#32)

/-- A byte's row: each lane keeps the block it belongs to. -/
def own16 (x : FVec F S64x128 .f32) (off : Nat) (h : S64x128.Slices ![off, 0] S16x128) : FVec F S1x128 .f32 :=
  shapeCast S1x128 (multiReduction .add [0] S128 (select mainMask (extractStridedSlice S16x128 ![off, 0] x h)
    (broadcast S16x128 (Scalar.ofBits .f32 0x00000000#32))) 0x00000000#32 reduces_S16x128_S128 (.inl rfl) rfl) shapeCasts_S128_S1x128
def own8 (x : FVec F S32x128 .f32) (off : Nat) (h : S32x128.Slices ![off, 0] S8x128) : FVec F S1x128 .f32 :=
  shapeCast S1x128 (multiReduction .add [0] S128 (select tailMask (extractStridedSlice S8x128 ![off, 0] x h)
    (broadcast S8x128 (Scalar.ofBits .f32 0x00000000#32))) 0x00000000#32 reduces_S8x128_S128 (.inl rfl) rfl) shapeCasts_S128_S1x128

def bytesRows (o1 : FVec F S64x128 .f32) (o2 : FVec F S32x128 .f32) : FVec F S8x128 .f32 :=
  concatenate S8x128 0 [⟨S1x128, own16 o1 0 slices_S64x128_o0_0_S16x128⟩, ⟨S1x128, own16 o1 16 slices_S64x128_o16_0_S16x128⟩,
    ⟨S1x128, own16 o1 32 slices_S64x128_o32_0_S16x128⟩, ⟨S1x128, own16 o1 48 slices_S64x128_o48_0_S16x128⟩,
    ⟨S1x128, own8 o2 0 slices_S32x128_o0_0_S8x128⟩, ⟨S1x128, own8 o2 8 slices_S32x128_o8_0_S8x128⟩,
    ⟨S1x128, own8 o2 16 slices_S32x128_o16_0_S8x128⟩, ⟨S1x128, own8 o2 24 slices_S32x128_o24_0_S8x128⟩]
    concatenates_S1x128_S1x128_S1x128_S1x128_S1x128_S1x128_S1x128_S1x128_S8x128_d0

def rollAdd (k : BitVec 32) (r : FVec F S8x128 .f32) : FVec F S8x128 .f32 :=
  addf r (dynamicRotate 1 k none r rotates_S8x128_d1)

def gathered (r : FVec F S8x128 .f32) : FVec F S1x4x128 .f32 :=
  shapeCast S1x4x128 (select (cmpi .slt (iota .tc S4x128 32 [1] iota_S4x128_d1_w32) (broadcast S4x128 64#32))
    (extractStridedSlice S4x128 ![0, 0] (rollAdd 64#32 r) slices_S8x128_o0_0_S4x128)
    (extractStridedSlice S4x128 ![4, 0] (rollAdd 16#32 (rollAdd 32#32 (rollAdd 64#32 r))) slices_S8x128_o4_0_S4x128))
    shapeCasts_S4x128_S1x4x128

/-! ## One user -/

/-- A user's weights, every slot four times. -/
def userW (cnt : BitVec 32) (mb : IVec S1x128x128 32) (tb : IVec S1x32x128 32) (sb : IVec S1x24x128 32)
    (r0 r1 r2 r3 t0 t1 t2 t3 : FVec F S1x128 .f32) : FVec F S8x128 .f32 :=
  weights cnt (scoreOf cnt (quadUp (pairUp (yRaw (dots1 r0 r1 r2 r3 (mainCodes mb)) (dots2 t0 t1 t2 t3 (tailCodes tb)) (scaleAll sb)))))

/-- A user's pooled rows from its weights. -/
def userP (w : FVec F S8x128 .f32) (mb : IVec S1x128x128 32) (tb : IVec S1x32x128 32) (sb : IVec S1x24x128 32) :
    FVec F S1x4x128 .f32 :=
  gathered (bytesRows (pool1 (rounded w) (scaleAll sb) (mainCodes mb)) (pool2 (rounded w) (scaleAll sb) (tailCodes tb)))

end Cert.KernelIdeal.Attn

end
-- ==== Proof.Tie.lean ====
/- What the kernel's body leaves in its two output blocks is the chain of `Chain.lean` at the block's eight users, stored
   piece by piece: by unfolding. -/
module

public import proofs.«01_k».proof.Proof.Chain
public import proofs.«01_k».proof.Proof.Gen.KernelIdeal.Frame

@[expose] public section

set_option maxRecDepth 65536

noncomputable section

namespace Cert.KernelIdeal.Attn

open Idealize.ShloMosaic Idealize.SL.Sem Cert.KernelIdeal.Gen

variable {F : FTy → Type} [FloatOps F]

theorem inb_main (u : Fin 8) : ∀ a, (![u.val, 0, 0] : Fin 3 → Nat) a + S1x128x128.size a ≤ S8x128x128.size a := by
  revert u; decide
theorem inb_tail (u : Fin 8) : ∀ a, (![u.val, 0, 0] : Fin 3 → Nat) a + S1x32x128.size a ≤ S8x32x128.size a := by
  revert u; decide
theorem inb_scale (u : Fin 8) : ∀ a, (![u.val, 0, 0] : Fin 3 → Nat) a + S1x24x128.size a ≤ S8x24x128.size a := by
  revert u; decide
theorem inb_pooled (u : Fin 8) : ∀ a, (![u.val, 0, 0] : Fin 3 → Nat) a + S1x4x128.size a ≤ S8x4x128.size a := by
  revert u; decide
theorem inb_w (u : Fin 8) : ∀ a, (![u.val, 0, 0] : Fin 3 → Nat) a + S1x2x128.size a ≤ S8x2x128.size a := by
  revert u; decide
theorem slices_row (u : Fin 8) (j : Fin 4) : S32x128.Slices ![4 * u.val + j.val, 0] S1x128 := by
  revert u j; decide

/-- User `u`'s query row of byte `j`. -/
def qRow (q : FVec F S32x128 .f32) (u : Fin 8) (j : Fin 4) : FVec F S1x128 .f32 :=
  extractStridedSlice S1x128 ![4 * u.val + j.val, 0] q (slices_row u j)

/-- The word of the table of counts at an offset. -/
def tableAt (off : Fin 1 → Nat) (h : ∀ a, off a + S1.size a ≤ S1664.size a) (T : Vec F S1664 .i32) : BitVec 32 :=
  View.readAt (Elt F) (Memref.whole main_arg0 : Memref sig .tc .smem S1664 .i32).view (Rect.unit (s := S1664) off S1.size h).toLoadRect T
    (Shape.Idx.first (numel1_S1.symm ▸ Nat.one_pos))

/-- User `u` of a block: its weights and its pooled rows, from the block's contents. -/
def wRow (q1 q2 : FVec F S32x128 .f32) (cnt : BitVec 32) (u : Fin 8) (mb : IVec S1x128x128 32) (tb : IVec S1x32x128 32)
    (sb : IVec S1x24x128 32) : FVec F S8x128 .f32 :=
  userW cnt mb tb sb (qRow q1 u 0) (qRow q1 u 1) (qRow q1 u 2) (qRow q1 u 3)
    (qRow q2 u 0) (qRow q2 u 1) (qRow q2 u 2) (qRow q2 u 3)

/-- The seven staging buffers of a point and their contents. -/
structure Staged (F : FTy → Type) where
  b0 : Memref sig .tc .vmem S8x128x128 .i32
  h0 : b0.IsWhole
  x0 : Vec F S8x128x128 .i32
  b1 : Memref sig .tc .vmem S8x32x128 .i32
  h1 : b1.IsWhole
  x1 : Vec F S8x32x128 .i32
  b2 : Memref sig .tc .vmem S8x24x128 .i32
  h2 : b2.IsWhole
  x2 : Vec F S8x24x128 .i32
  b3 : Memref sig .tc .vmem S8x128 .i32
  h3 : b3.IsWhole
  x3 : Vec F S8x128 .i32
  b4 : Memref sig .tc .vmem S8x128 .i32
  h4 : b4.IsWhole
  x4 : Vec F S8x128 .i32
  b5 : Memref sig .tc .vmem S8x128 .i32
  h5 : b5.IsWhole
  x5 : Vec F S8x128 .i32
  b6 : Memref sig .tc .vmem S8x128 .i32
  h6 : b6.IsWhole
  x6 : Vec F S8x128 .i32

namespace Staged

variable (B : Staged F) (cnt : Fin 8 → BitVec 32) (u : Fin 8)

/-- The weights and the pooled rows of user `u`, from the buffers. -/
def wLoaded : FVec F S8x128 .f32 :=
  wRow (expandQ (View.readAt (Elt F) B.b3.view (Rect.unit (s := S8x128) ![0, 0] S8x128.size inb_S8x128_S8x128_0_0).toLoadRect (B.h3.unread B.x3))
      (View.readAt (Elt F) B.b5.view (Rect.unit (s := S8x128) ![0, 0] S8x128.size inb_S8x128_S8x128_0_0).toLoadRect (B.h5.unread B.x5)))
    (expandQ (View.readAt (Elt F) B.b4.view (Rect.unit (s := S8x128) ![0, 0] S8x128.size inb_S8x128_S8x128_0_0).toLoadRect (B.h4.unread B.x4))
      (View.readAt (Elt F) B.b6.view (Rect.unit (s := S8x128) ![0, 0] S8x128.size inb_S8x128_S8x128_0_0).toLoadRect (B.h6.unread B.x6))) (cnt u) u
    (View.readAt (Elt F) B.b0.view (Rect.unit (s := S8x128x128) ![u.val, 0, 0] S1x128x128.size (inb_main u)).toLoadRect (B.h0.unread B.x0))
    (View.readAt (Elt F) B.b1.view (Rect.unit (s := S8x32x128) ![u.val, 0, 0] S1x32x128.size (inb_tail u)).toLoadRect (B.h1.unread B.x1))
    (View.readAt (Elt F) B.b2.view (Rect.unit (s := S8x24x128) ![u.val, 0, 0] S1x24x128.size (inb_scale u)).toLoadRect (B.h2.unread B.x2))
def pLoaded : FVec F S1x4x128 .f32 :=
  userP (B.wLoaded cnt u)
    (View.readAt (Elt F) B.b0.view (Rect.unit (s := S8x128x128) ![u.val, 0, 0] S1x128x128.size (inb_main u)).toLoadRect (B.h0.unread B.x0))
    (View.readAt (Elt F) B.b1.view (Rect.unit (s := S8x32x128) ![u.val, 0, 0] S1x32x128.size (inb_tail u)).toLoadRect (B.h1.unread B.x1))
    (View.readAt (Elt F) B.b2.view (Rect.unit (s := S8x24x128) ![u.val, 0, 0] S1x24x128.size (inb_scale u)).toLoadRect (B.h2.unread B.x2))

/-- The piece of user `u` among the stores of the weights, and among those of the pooled rows. -/
def wPiece : View.Piece (Elt F) S8x2x128 .f32 := ⟨Rect.unit (s := S8x2x128) ![u.val, 0, 0] S1x2x128.size (inb_w u), wOut (B.wLoaded cnt u)⟩
def pPiece : View.Piece (Elt F) S8x4x128 .f32 := ⟨Rect.unit (s := S8x4x128) ![u.val, 0, 0] S1x4x128.size (inb_pooled u), B.pLoaded cnt u⟩

/-- What a point leaves in the two output blocks: the eight users' pieces, read back. -/
def outs : Vec F S8x4x128 .f32 × Vec F S8x2x128 .f32 :=
  (VO0_7.read (Elt F) (VO0_7.writes (Elt F) VO0_7.junk ([7, 6, 5, 4, 3, 2, 1, 0].map (B.pPiece cnt))),
    VO0_8.read (Elt F) (VO0_8.writes (Elt F) VO0_8.junk ([7, 6, 5, 4, 3, 2, 1, 0].map (B.wPiece cnt))))

end Staged

section

variable (m : (ℓ : Loc nD τ sig) → Buf (Elt F) ℓ) (hO : Ok m) (c : Dev nD) (t : Fin grid0.N)

/-- The staging buffers of point `t`, holding the point's blocks. -/
def staged : Staged F where
  b0 := ms0_0 m hO t
  h0 := hs0_0 m hO t
  x0 := iblk m hO c 0 t
  b1 := ms0_1 m hO t
  h1 := hs0_1 m hO t
  x1 := iblk m hO c 1 t
  b2 := ms0_2 m hO t
  h2 := hs0_2 m hO t
  x2 := iblk m hO c 2 t
  b3 := ms0_3 m hO t
  h3 := hs0_3 m hO t
  x3 := iblk m hO c 3 t
  b4 := ms0_4 m hO t
  h4 := hs0_4 m hO t
  x4 := iblk m hO c 4 t
  b5 := ms0_5 m hO t
  h5 := hs0_5 m hO t
  x5 := iblk m hO c 5 t
  b6 := ms0_6 m hO t
  h6 := hs0_6 m hO t
  x6 := iblk m hO c 6 t

end

end Cert.KernelIdeal.Attn

end
-- ==== Proof.Block.lean ====
/- What one grid point leaves in its two output blocks: the chain of `Chain.lean`, user by user, over the input blocks. -/
module

public import proofs.«01_k».proof.Proof.Tie
public import Idealize.ShloMosaic.Lib.WholeRead
public import Idealize.ShloMosaic.Lib.Writes
public import Idealize.ShloMosaic.Lib.Pointwise

@[expose] public section

set_option maxRecDepth 65536

noncomputable section

namespace Cert.KernelIdeal.Attn

open Idealize.ShloMosaic Idealize.SL.Sem Cert.KernelIdeal.Gen

variable {F : FTy → Type} [FloatOps F]

/-- User `u`'s slab of a block of eight users. -/
def slab {α : Type} {p q : Nat} (x : Shape.Idx ⟨3, ![8, p, q]⟩ → α) (u : Fin 8) : Shape.Idx ⟨3, ![1, p, q]⟩ → α :=
  fun y => x (ix3 u (y 1) (y 2))

theorem read_slab_main (u : Fin 8) (a : Memref sig .tc .vmem S8x128x128 .i32) (h : a.IsWhole) (x : Vec F S8x128x128 .i32) :
    View.readAt (Elt F) a.view (Rect.unit (s := S8x128x128) ![u.val, 0, 0] S1x128x128.size (inb_main u)).toLoadRect (h.unread x) = slab x u := by
  funext y
  refine (h.readAt_unread x _ y).trans ?_
  refine congrArg x (funext fun k => Fin.ext ?_)
  have h0 : (y 0).val < 1 := (y 0).isLt
  fin_cases k
  · show u.val + 1 * (y 0).val = u.val; omega
  · show 0 + 1 * (y 1).val = (y 1).val; omega
  · show 0 + 1 * (y 2).val = (y 2).val; omega

theorem read_slab_tail (u : Fin 8) (a : Memref sig .tc .vmem S8x32x128 .i32) (h : a.IsWhole) (x : Vec F S8x32x128 .i32) :
    View.readAt (Elt F) a.view (Rect.unit (s := S8x32x128) ![u.val, 0, 0] S1x32x128.size (inb_tail u)).toLoadRect (h.unread x) = slab x u := by
  funext y
  refine (h.readAt_unread x _ y).trans ?_
  refine congrArg x (funext fun k => Fin.ext ?_)
  have h0 : (y 0).val < 1 := (y 0).isLt
  fin_cases k
  · show u.val + 1 * (y 0).val = u.val; omega
  · show 0 + 1 * (y 1).val = (y 1).val; omega
  · show 0 + 1 * (y 2).val = (y 2).val; omega

theorem read_slab_scale (u : Fin 8) (a : Memref sig .tc .vmem S8x24x128 .i32) (h : a.IsWhole) (x : Vec F S8x24x128 .i32) :
    View.readAt (Elt F) a.view (Rect.unit (s := S8x24x128) ![u.val, 0, 0] S1x24x128.size (inb_scale u)).toLoadRect (h.unread x) = slab x u := by
  funext y
  refine (h.readAt_unread x _ y).trans ?_
  refine congrArg x (funext fun k => Fin.ext ?_)
  have h0 : (y 0).val < 1 := (y 0).isLt
  fin_cases k
  · show u.val + 1 * (y 0).val = u.val; omega
  · show 0 + 1 * (y 1).val = (y 1).val; omega
  · show 0 + 1 * (y 2).val = (y 2).val; omega

theorem read_whole_q (a : Memref sig .tc .vmem S8x128 .i32) (h : a.IsWhole) (x : Vec F S8x128 .i32) :
    View.readAt (Elt F) a.view (Rect.unit (s := S8x128) ![0, 0] S8x128.size inb_S8x128_S8x128_0_0).toLoadRect (h.unread x) = x := by
  funext y
  refine (h.readAt_unread x _ y).trans ?_
  refine congrArg x (funext fun k => Fin.ext ?_)
  fin_cases k
  · show 0 + 1 * (y 0).val = (y 0).val; omega
  · show 0 + 1 * (y 1).val = (y 1).val; omega

/-- User `u`'s weights and pooled rows, over the input blocks. -/
def wUser (x0 : Vec F S8x128x128 .i32) (x1 : Vec F S8x32x128 .i32) (x2 : Vec F S8x24x128 .i32) (x3 : Vec F S8x128 .i32) (x4 : Vec F S8x128 .i32) (x5 : Vec F S8x128 .i32) (x6 : Vec F S8x128 .i32) (cnt : BitVec 32) (u : Fin 8) : FVec F S8x128 .f32 :=
  wRow (expandQ x3 x5) (expandQ x4 x6) cnt u (slab x0 u) (slab x1 u) (slab x2 u)
def pUser (x0 : Vec F S8x128x128 .i32) (x1 : Vec F S8x32x128 .i32) (x2 : Vec F S8x24x128 .i32) (x3 : Vec F S8x128 .i32) (x4 : Vec F S8x128 .i32) (x5 : Vec F S8x128 .i32) (x6 : Vec F S8x128 .i32) (cnt : BitVec 32) (u : Fin 8) : FVec F S1x4x128 .f32 :=
  userP (wUser x0 x1 x2 x3 x4 x5 x6 cnt u) (slab x0 u) (slab x1 u) (slab x2 u)

variable (B : Staged F) (cnt : Fin 8 → BitVec 32)

theorem wLoaded_eq (u : Fin 8) : B.wLoaded cnt u = wUser B.x0 B.x1 B.x2 B.x3 B.x4 B.x5 B.x6 (cnt u) u := by
  unfold Staged.wLoaded wUser
  rw [read_whole_q, read_whole_q, read_whole_q, read_whole_q, read_slab_main, read_slab_tail, read_slab_scale]

theorem pLoaded_eq (u : Fin 8) : B.pLoaded cnt u = pUser B.x0 B.x1 B.x2 B.x3 B.x4 B.x5 B.x6 (cnt u) u := by
  unfold Staged.pLoaded pUser
  rw [wLoaded_eq, read_slab_main, read_slab_tail, read_slab_scale]

theorem mem_users : ∀ u : Fin 8, u ∈ ([7, 6, 5, 4, 3, 2, 1, 0] : List (Fin 8)) := by decide

theorem read_w (v : View sig .tc .vmem S8x2x128 .f32) (f : v.ty.Contents (Elt F)) (y : S8x2x128.Idx) :
    v.read (Elt F) (v.writes (Elt F) f ([7, 6, 5, 4, 3, 2, 1, 0].map (B.wPiece cnt))) y = wOut (wUser B.x0 B.x1 B.x2 B.x3 B.x4 B.x5 B.x6 (cnt (y 0)) (y 0)) (ix3 0 (y 1) (y 2)) := by
  have hc : ∃ p ∈ [7, 6, 5, 4, 3, 2, 1, 0].map (B.wPiece cnt), y ∈ p.1.set := by
    refine ⟨B.wPiece cnt (y 0), List.mem_map_of_mem (mem_users (y 0)), ?_⟩
    rw [← Rect.map_emb_univ]
    refine Finset.mem_map.mpr ⟨(ix3 0 (y 1) (y 2) : S1x2x128.Idx), Finset.mem_univ _, funext fun k => Fin.ext ?_⟩
    fin_cases k
    · show (y 0).val + 1 * 0 = (y 0).val; omega
    · show 0 + 1 * (y 1).val = (y 1).val; omega
    · show 0 + 1 * (y 2).val = (y 2).val; omega
  refine View.read_writes_apply_of_pieces v f (fun y : S8x2x128.Idx => wOut (wUser B.x0 B.x1 B.x2 B.x3 B.x4 B.x5 B.x6 (cnt (y 0)) (y 0)) (ix3 0 (y 1) (y 2))) _ ?_ y hc
  intro p hp x
  obtain ⟨u, -, rfl⟩ := List.mem_map.1 hp
  have h0 : (x 0).val < 1 := (x 0).isLt
  have e0 : ((B.wPiece cnt u).1.emb x) 0 = u := Fin.ext (by show u.val + 1 * (x 0).val = u.val; omega)
  have e1 : (ix3 0 (((B.wPiece cnt u).1.emb x) 1) (((B.wPiece cnt u).1.emb x) 2) : S1x2x128.Idx) = x := by
    funext k; refine Fin.ext ?_
    fin_cases k
    · show 0 = (x 0).val; omega
    · show 0 + 1 * (x 1).val = (x 1).val; omega
    · show 0 + 1 * (x 2).val = (x 2).val; omega
  beta_reduce
  rw [e0, e1, ← wLoaded_eq]
  rfl

theorem block_w (y : S8x2x128.Idx) : (B.outs cnt).2 y = wOut (wUser B.x0 B.x1 B.x2 B.x3 B.x4 B.x5 B.x6 (cnt (y 0)) (y 0)) (ix3 0 (y 1) (y 2)) := by
  unfold Staged.outs
  dsimp only
  exact read_w B cnt VO0_8 (View.junk (Val := Elt F) VO0_8) y

theorem read_p (v : View sig .tc .vmem S8x4x128 .f32) (f : v.ty.Contents (Elt F)) (y : S8x4x128.Idx) :
    v.read (Elt F) (v.writes (Elt F) f ([7, 6, 5, 4, 3, 2, 1, 0].map (B.pPiece cnt))) y = pUser B.x0 B.x1 B.x2 B.x3 B.x4 B.x5 B.x6 (cnt (y 0)) (y 0) (ix3 0 (y 1) (y 2)) := by
  have hc : ∃ p ∈ [7, 6, 5, 4, 3, 2, 1, 0].map (B.pPiece cnt), y ∈ p.1.set := by
    refine ⟨B.pPiece cnt (y 0), List.mem_map_of_mem (mem_users (y 0)), ?_⟩
    rw [← Rect.map_emb_univ]
    refine Finset.mem_map.mpr ⟨(ix3 0 (y 1) (y 2) : S1x4x128.Idx), Finset.mem_univ _, funext fun k => Fin.ext ?_⟩
    fin_cases k
    · show (y 0).val + 1 * 0 = (y 0).val; omega
    · show 0 + 1 * (y 1).val = (y 1).val; omega
    · show 0 + 1 * (y 2).val = (y 2).val; omega
  refine View.read_writes_apply_of_pieces v f (fun y : S8x4x128.Idx => pUser B.x0 B.x1 B.x2 B.x3 B.x4 B.x5 B.x6 (cnt (y 0)) (y 0) (ix3 0 (y 1) (y 2))) _ ?_ y hc
  intro p hp x
  obtain ⟨u, -, rfl⟩ := List.mem_map.1 hp
  have h0 : (x 0).val < 1 := (x 0).isLt
  have e0 : ((B.pPiece cnt u).1.emb x) 0 = u := Fin.ext (by show u.val + 1 * (x 0).val = u.val; omega)
  have e1 : (ix3 0 (((B.pPiece cnt u).1.emb x) 1) (((B.pPiece cnt u).1.emb x) 2) : S1x4x128.Idx) = x := by
    funext k; refine Fin.ext ?_
    fin_cases k
    · show 0 = (x 0).val; omega
    · show 0 + 1 * (x 1).val = (x 1).val; omega
    · show 0 + 1 * (x 2).val = (x 2).val; omega
  beta_reduce
  rw [e0, e1, ← pLoaded_eq]
  rfl

theorem block_p (y : S8x4x128.Idx) : (B.outs cnt).1 y = pUser B.x0 B.x1 B.x2 B.x3 B.x4 B.x5 B.x6 (cnt (y 0)) (y 0) (ix3 0 (y 1) (y 2)) := by
  unfold Staged.outs
  dsimp only
  exact read_p B cnt VO0_7 (View.junk (Val := Elt F) VO0_7) y

end Cert.KernelIdeal.Attn

end
-- ==== Proof.Arrays.lean ====
/- The two output arrays after the grid's run: user by user the chain of `Chain.lean` over the input arrays. -/
module

public import proofs.«01_k».proof.Proof.Block
public import Idealize.ShloMosaic.Lib.Pipeline.Value
public import Idealize.ShloMosaic.Lib.Pipeline.ValueKit.Basic

@[expose] public section

set_option maxRecDepth 65536

noncomputable section

namespace Cert.KernelIdeal.Attn

open Idealize.ShloMosaic Idealize.ShloMosaic.TcCoe Idealize.SL.Sem Cert.KernelIdeal.Gen
open Idealize.ShloMosaic.Pipeline (Dat)

variable {F : FTy → Type} [FloatOps F]

/-- Block `t` of eight users of an array over all users. -/
def blk3 {α : Type} {p q : Nat} (X : Shape.Idx ⟨3, ![416, p, q]⟩ → α) (t : Fin 52) : Shape.Idx ⟨3, ![8, p, q]⟩ → α :=
  fun y => X (ix3 (⟨8 * t.val + (y 0).val, by have h : (y 0).val < 8 := (y 0).isLt; omega⟩ : Fin 416) (y 1) (y 2))
def blk2 {α : Type} {p : Nat} (X : Shape.Idx ⟨2, ![416, p]⟩ → α) (t : Fin 52) : Shape.Idx ⟨2, ![8, p]⟩ → α :=
  fun y => X (ix2 (⟨8 * t.val + (y 0).val, by have h : (y 0).val < 8 := (y 0).isLt; omega⟩ : Fin 416) (y 1))

/-- The block and the place in it of a user. -/
def tOf (U : Fin 416) : Fin 52 := ⟨U.val / 8, by omega⟩
def uOf (U : Fin 416) : Fin 8 := ⟨U.val % 8, by omega⟩

section
variable (X0 : Vec F S416x128x128 .i32) (X1 : Vec F S416x32x128 .i32) (X2 : Vec F S416x24x128 .i32) (X3 X4 X5 X6 : Vec F S416x128 .i32)
  (C : Fin 416 → BitVec 32)

/-- The weights and the pooled rows of user `U`. -/
def wArr (U : Fin 416) : FVec F S8x128 .f32 :=
  wUser (blk3 X0 (tOf U)) (blk3 X1 (tOf U)) (blk3 X2 (tOf U)) (blk2 X3 (tOf U)) (blk2 X4 (tOf U)) (blk2 X5 (tOf U)) (blk2 X6 (tOf U))
    (C U) (uOf U)
def pArr (U : Fin 416) : FVec F S1x4x128 .f32 :=
  pUser (blk3 X0 (tOf U)) (blk3 X1 (tOf U)) (blk3 X2 (tOf U)) (blk2 X3 (tOf U)) (blk2 X4 (tOf U)) (blk2 X5 (tOf U)) (blk2 X6 (tOf U))
    (C U) (uOf U)
/-- The two output arrays. -/
def wAll : Vec F S416x2x128 .f32 := fun y => wOut (wArr X0 X1 X2 X3 X4 X5 X6 C (y 0)) (ix3 0 (y 1) (y 2))
def pAll : Vec F S416x4x128 .f32 := fun y => pArr X0 X1 X2 X3 X4 X5 X6 C (y 0) (ix3 0 (y 1) (y 2))
end

theorem coords_val : ∀ t : Fin grid0.N, (grid0.coords t 0).val = t.val := by decide +kernel
theorem N_eq : grid0.N = 52 := N_0
theorem point_lt (t : Fin grid0.N) : t.val < 52 := t.isLt.trans_eq N_eq

variable (m : (ℓ : Loc nD τ sig) → Buf (Elt F) ℓ)

theorem tableAt_eq (off : Fin 1 → Nat) (h : ∀ a, off a + S1.size a ≤ S1664.size a) (T : Vec F S1664 .i32) (n : Fin 1664) (hn : off 0 = n.val) :
    tableAt off h T = T (ix1 n) := by
  unfold tableAt
  refine congrArg T (funext fun k => Fin.ext ?_)
  fin_cases k
  have h0 : (Shape.Idx.first (numel1_S1.symm ▸ Nat.one_pos : 0 < S1.numel) 0).val < 1 := Fin.isLt _
  show off 0 + 1 * (Shape.Idx.first (numel1_S1.symm ▸ Nat.one_pos : 0 < S1.numel) 0).val = n.val
  omega

/-- User `u` of block `t`. -/
def userAt (t : Fin grid0.N) (u : Fin 8) : Fin 416 := ⟨8 * t.val + u.val, by have := point_lt t; omega⟩

variable (hO : Ok m)

theorem start (t : Fin grid0.N) : (BitVec.ofNat 32 (grid0.coords t 0).val).toNat = t.val := by
  have := point_lt t
  rw [coords_val, BitVec.toNat_ofNat]; omega

theorem blk3_of {p q : Nat} (X : Shape.Idx ⟨3, ![416, p, q]⟩ → BitVec 32) (t : Fin grid0.N) (x : Shape.Idx ⟨3, ![8, p, q]⟩)
    (i : Shape.Idx ⟨3, ![416, p, q]⟩)
    (h0 : (i 0).val = (BitVec.ofNat 32 (grid0.coords t 0).val).toNat * 8 + 1 * (x 0).val) (h1 : (i 1).val = 0 * p + 1 * (x 1).val)
    (h2 : (i 2).val = 0 * q + 1 * (x 2).val) : X i = blk3 X (t.cast N_eq) x := by
  refine congrArg X (funext fun k => Fin.ext ?_)
  have e := start t
  fin_cases k
  · show (i 0).val = 8 * t.val + (x 0).val; omega
  · show (i 1).val = (x 1).val; omega
  · show (i 2).val = (x 2).val; omega
theorem blk2_of {p : Nat} (X : Shape.Idx ⟨2, ![416, p]⟩ → BitVec 32) (t : Fin grid0.N) (x : Shape.Idx ⟨2, ![8, p]⟩) (i : Shape.Idx ⟨2, ![416, p]⟩)
    (h0 : (i 0).val = (BitVec.ofNat 32 (grid0.coords t 0).val).toNat * 8 + 1 * (x 0).val) (h1 : (i 1).val = 0 * p + 1 * (x 1).val) :
    X i = blk2 X (t.cast N_eq) x := by
  refine congrArg X (funext fun k => Fin.ext ?_)
  have e := start t
  fin_cases k
  · show (i 0).val = 8 * t.val + (x 0).val; omega
  · show (i 1).val = (x 1).val; omega

/-- The count of user `U` of the users from `n` on. -/
def countFrom (n : Nat) (hn : n + 416 ≤ 1664) (U : Fin 416) : BitVec 32 :=
  (m ((0 : Dev nD).tc.loc main_arg0) : Vec F S1664 .i32) (ix1 (⟨n + U.val, by omega⟩ : Fin 1664))

theorem tableAt_user (n : Nat) (hn : n + 416 ≤ 1664) (t : Fin grid0.N) (u : Fin 8) (off : Fin 1 → Nat) (h : ∀ a, off a + S1.size a ≤ S1664.size a)
    (e : off 0 = n + (8 * (grid0.coords t 0).val + u.val)) : tableAt (F := F) off h (tbl m 0) = countFrom m n hn (userAt t u) := by
  rw [coords_val] at e
  exact (tableAt_eq off h (tbl m 0) ⟨n + (userAt t u).val, by omega⟩ e).trans (congrFun (V_main_arg0 m 0) _)

/-- The input blocks of a point, and the arrays they are blocks of. -/
abbrev ib0 (c : Dev nD) (t : Fin grid0.N) : Vec F S8x128x128 .i32 := iblk m hO c 0 t
abbrev ib1 (c : Dev nD) (t : Fin grid0.N) : Vec F S8x32x128 .i32 := iblk m hO c 1 t
abbrev ib2 (c : Dev nD) (t : Fin grid0.N) : Vec F S8x24x128 .i32 := iblk m hO c 2 t
abbrev ib3 (c : Dev nD) (t : Fin grid0.N) : Vec F S8x128 .i32 := iblk m hO c 3 t
abbrev ib4 (c : Dev nD) (t : Fin grid0.N) : Vec F S8x128 .i32 := iblk m hO c 4 t
abbrev ib5 (c : Dev nD) (t : Fin grid0.N) : Vec F S8x128 .i32 := iblk m hO c 5 t
abbrev ib6 (c : Dev nD) (t : Fin grid0.N) : Vec F S8x128 .i32 := iblk m hO c 6 t
abbrev A0 (c : Dev nD) : Vec F S416x128x128 .i32 := V m c main_v1
abbrev A1 (c : Dev nD) : Vec F S416x32x128 .i32 := V m c main_v2
abbrev A2 (c : Dev nD) : Vec F S416x24x128 .i32 := V m c main_v3
abbrev A3 (c : Dev nD) : Vec F S416x128 .i32 := m (c.tc.loc main_arg4)
abbrev A4 (c : Dev nD) : Vec F S416x128 .i32 := m (c.tc.loc main_arg5)
abbrev A5 (c : Dev nD) : Vec F S416x128 .i32 := m (c.tc.loc main_arg6)
abbrev A6 (c : Dev nD) : Vec F S416x128 .i32 := m (c.tc.loc main_arg7)

theorem ib0_eq (c : Dev nD) (t : Fin grid0.N) : ib0 m hO c t = blk3 (A0 m c) (t.cast N_eq) :=
  funext fun x => blk3_of (A0 m c) t x ((((cfgM m hO).win 0).blk t).view.emb x) rfl rfl rfl
theorem ib1_eq (c : Dev nD) (t : Fin grid0.N) : ib1 m hO c t = blk3 (A1 m c) (t.cast N_eq) :=
  funext fun x => blk3_of (A1 m c) t x ((((cfgM m hO).win 1).blk t).view.emb x) rfl rfl rfl
theorem ib2_eq (c : Dev nD) (t : Fin grid0.N) : ib2 m hO c t = blk3 (A2 m c) (t.cast N_eq) :=
  funext fun x => blk3_of (A2 m c) t x ((((cfgM m hO).win 2).blk t).view.emb x) rfl rfl rfl
theorem ib3_eq (c : Dev nD) (t : Fin grid0.N) : ib3 m hO c t = blk2 (A3 m c) (t.cast N_eq) :=
  funext fun x => (blk2_of (V m c main_arg4) t x ((((cfgM m hO).win 3).blk t).view.emb x) rfl rfl).trans
    (congrArg (fun X : Vec F S416x128 .i32 => blk2 X (t.cast N_eq) x) (V_main_arg4 m c))
theorem ib4_eq (c : Dev nD) (t : Fin grid0.N) : ib4 m hO c t = blk2 (A4 m c) (t.cast N_eq) :=
  funext fun x => (blk2_of (V m c main_arg5) t x ((((cfgM m hO).win 4).blk t).view.emb x) rfl rfl).trans
    (congrArg (fun X : Vec F S416x128 .i32 => blk2 X (t.cast N_eq) x) (V_main_arg5 m c))
theorem ib5_eq (c : Dev nD) (t : Fin grid0.N) : ib5 m hO c t = blk2 (A5 m c) (t.cast N_eq) :=
  funext fun x => (blk2_of (V m c main_arg6) t x ((((cfgM m hO).win 5).blk t).view.emb x) rfl rfl).trans
    (congrArg (fun X : Vec F S416x128 .i32 => blk2 X (t.cast N_eq) x) (V_main_arg6 m c))
theorem ib6_eq (c : Dev nD) (t : Fin grid0.N) : ib6 m hO c t = blk2 (A6 m c) (t.cast N_eq) :=
  funext fun x => (blk2_of (V m c main_arg7) t x ((((cfgM m hO).win 6).blk t).view.emb x) rfl rfl).trans
    (congrArg (fun X : Vec F S416x128 .i32 => blk2 X (t.cast N_eq) x) (V_main_arg7 m c))

/-- The output arrays over the contents of the memory and the users' counts. -/
abbrev wMem (c : Dev nD) (C : Fin 416 → BitVec 32) : Vec F S416x2x128 .f32 := wAll (A0 m c) (A1 m c) (A2 m c) (A3 m c) (A4 m c) (A5 m c) (A6 m c) C
abbrev pMem (c : Dev nD) (C : Fin 416 → BitVec 32) : Vec F S416x4x128 .f32 := pAll (A0 m c) (A1 m c) (A2 m c) (A3 m c) (A4 m c) (A5 m c) (A6 m c) C

theorem user_split (t : Fin grid0.N) (u : Fin 8) (U : Fin 416) (h : U.val = 8 * t.val + u.val) : tOf U = t.cast N_eq ∧ uOf U = u :=
  ⟨Fin.ext (by show U.val / 8 = t.val; omega), Fin.ext (by show U.val % 8 = u.val; omega)⟩

theorem outs_w (c : Dev nD) (C : Fin 416 → BitVec 32) (t : Fin grid0.N) (y : S8x2x128.Idx) (i : S416x2x128.Idx)
    (h0 : (i 0).val = 8 * t.val + (y 0).val) (h1 : (i 1).val = (y 1).val) (h2 : (i 2).val = (y 2).val) :
    ((staged m hO c t).outs fun u => C (userAt t u)).2 y = wMem m c C i := by
  rw [block_w]
  show wOut (wUser (ib0 m hO c t) (ib1 m hO c t) (ib2 m hO c t) (ib3 m hO c t) (ib4 m hO c t) (ib5 m hO c t) (ib6 m hO c t) (C (userAt t (y 0))) (y 0)) (ix3 0 (y 1) (y 2)) = _
  rw [ib0_eq, ib1_eq, ib2_eq, ib3_eq, ib4_eq, ib5_eq, ib6_eq]
  obtain ⟨e1, e2⟩ := user_split t (y 0) (i 0) h0
  have e3 : (i 1 : Fin 2) = y 1 := Fin.ext h1
  have e4 : (i 2 : Fin 128) = y 2 := Fin.ext h2
  have e5 : userAt t (y 0) = i 0 := Fin.ext h0.symm
  unfold wMem wAll wArr
  rw [e1, e2, e3, e4, e5]

theorem outs_p (c : Dev nD) (C : Fin 416 → BitVec 32) (t : Fin grid0.N) (y : S8x4x128.Idx) (i : S416x4x128.Idx)
    (h0 : (i 0).val = 8 * t.val + (y 0).val) (h1 : (i 1).val = (y 1).val) (h2 : (i 2).val = (y 2).val) :
    ((staged m hO c t).outs fun u => C (userAt t u)).1 y = pMem m c C i := by
  rw [block_p]
  show pUser (ib0 m hO c t) (ib1 m hO c t) (ib2 m hO c t) (ib3 m hO c t) (ib4 m hO c t) (ib5 m hO c t) (ib6 m hO c t) (C (userAt t (y 0))) (y 0) (ix3 0 (y 1) (y 2)) = _
  rw [ib0_eq, ib1_eq, ib2_eq, ib3_eq, ib4_eq, ib5_eq, ib6_eq]
  obtain ⟨e1, e2⟩ := user_split t (y 0) (i 0) h0
  have e3 : (i 1 : Fin 4) = y 1 := Fin.ext h1
  have e4 : (i 2 : Fin 128) = y 2 := Fin.ext h2
  have e5 : userAt t (y 0) = i 0 := Fin.ext h0.symm
  unfold pMem pAll pArr
  rw [e1, e2, e3, e4, e5]

/-! ## The arrays at the end, for proof data whose body leaves the eight users' pieces at every point -/

variable {c : Dev nD} (d : Dat τ (Elt F) Unit ℕ (UR sig nD τ) ℕ (cfgM m hO) c) (C : Fin 416 → BitVec 32)

theorem flushed_w (h : ∀ t : Fin grid0.N, d.after 8 t = ((staged m hO c t).outs fun u => C (userAt t u)).2) (t : Fin grid0.N) :
    d.flushed 8 t = (((cfgM m hO).win 8).blk t).view.read (Elt F) (wMem m c C) := by
  show ((cfgM m hO).win 8).cut (grid0.coords t) (d.after 8 t) = _
  rw [h t]
  have e := start t
  refine funext fun (y : S8x2x128.Idx) => ?_
  refine outs_w m hO c C t y ((((cfgM m hO).win 8).blk t).view.emb y) ?_ ?_ ?_
  · show (BitVec.ofNat 32 (grid0.coords t 0).val).toNat * 8 + 1 * (y 0).val = _
    omega
  · show 0 * 2 + 1 * (y 1).val = _; omega
  · show 0 * 128 + 1 * (y 2).val = _; omega

theorem flushed_p (h : ∀ t : Fin grid0.N, d.after 7 t = ((staged m hO c t).outs fun u => C (userAt t u)).1) (t : Fin grid0.N) :
    d.flushed 7 t = (((cfgM m hO).win 7).blk t).view.read (Elt F) (pMem m c C) := by
  show ((cfgM m hO).win 7).cut (grid0.coords t) (d.after 7 t) = _
  rw [h t]
  have e := start t
  refine funext fun (y : S8x4x128.Idx) => ?_
  refine outs_p m hO c C t y ((((cfgM m hO).win 7).blk t).view.emb y) ?_ ?_ ?_
  · show (BitVec.ofNat 32 (grid0.coords t 0).val).toNat * 8 + 1 * (y 0).val = _
    omega
  · show 0 * 4 + 1 * (y 1).val = _; omega
  · show 0 * 128 + 1 * (y 2).val = _; omega

theorem cover_w (i : S416x2x128.Idx) : ∃ t : Fin (cfgM m hO).N, ((cfgM m hO).win 8).flush t = true ∧ i ∈ (((cfgM m hO).win 8).blk t).view.set := by
  have hi : (i 0).val < 416 := (i 0).isLt
  have h1 : (i 1).val < 2 := (i 1).isLt
  have h2 : (i 2).val < 128 := (i 2).isLt
  let t : Fin grid0.N := ⟨(i 0).val / 8, by rw [N_eq]; omega⟩
  have e := start t
  have et : t.val = (i 0).val / 8 := rfl
  refine ⟨t, flush0_8 _ t, ?_⟩
  show i ∈ ((View.whole main_v4_1).slice (((cfgM m hO).win 8).rect t)).set
  erw [View.set_slice_whole]
  refine (Pipeline.Window.mem_rect_iff ((cfgM m hO).win 8) t i (by rfl)).mpr fun a => ?_
  fin_cases a
  · show (BitVec.ofNat 32 (grid0.coords t 0).val).toNat * 8 ≤ (i 0).val ∧ (i 0).val < (BitVec.ofNat 32 (grid0.coords t 0).val).toNat * 8 + 8
    omega
  · show 0 * 2 ≤ (i 1).val ∧ (i 1).val < 0 * 2 + 2; omega
  · show 0 * 128 ≤ (i 2).val ∧ (i 2).val < 0 * 128 + 128; omega

theorem cover_p (i : S416x4x128.Idx) : ∃ t : Fin (cfgM m hO).N, ((cfgM m hO).win 7).flush t = true ∧ i ∈ (((cfgM m hO).win 7).blk t).view.set := by
  have hi : (i 0).val < 416 := (i 0).isLt
  have h1 : (i 1).val < 4 := (i 1).isLt
  have h2 : (i 2).val < 128 := (i 2).isLt
  let t : Fin grid0.N := ⟨(i 0).val / 8, by rw [N_eq]; omega⟩
  have e := start t
  have et : t.val = (i 0).val / 8 := rfl
  refine ⟨t, flush0_7 _ t, ?_⟩
  show i ∈ ((View.whole main_v4_0).slice (((cfgM m hO).win 7).rect t)).set
  erw [View.set_slice_whole]
  refine (Pipeline.Window.mem_rect_iff ((cfgM m hO).win 7) t i (by rfl)).mpr fun a => ?_
  fin_cases a
  · show (BitVec.ofNat 32 (grid0.coords t 0).val).toNat * 8 ≤ (i 0).val ∧ (i 0).val < (BitVec.ofNat 32 (grid0.coords t 0).val).toNat * 8 + 8
    omega
  · show 0 * 4 ≤ (i 1).val ∧ (i 1).val < 0 * 4 + 4; omega
  · show 0 * 128 ≤ (i 2).val ∧ (i 2).val < 0 * 128 + 128; omega

theorem final_w (h : ∀ t : Fin grid0.N, d.after 8 t = ((staged m hO c t).outs fun u => C (userAt t u)).2) :
    d.arrAt 8 (cfgM m hO).N = wMem m c C :=
  d.arrAt_eq_of_cover 8 (wMem m c C) (fun t _ => flushed_w m hO d C h t) (cover_w m hO)
theorem final_p (h : ∀ t : Fin grid0.N, d.after 7 t = ((staged m hO c t).outs fun u => C (userAt t u)).1) :
    d.arrAt 7 (cfgM m hO).N = pMem m c C :=
  d.arrAt_eq_of_cover 7 (pMem m c C) (fun t _ => flushed_p m hO d C h t) (cover_p m hO)

end Cert.KernelIdeal.Attn

end
-- ==== Proof.KRun.lean ====
/- Around the kernel's call: what the host operations before it hand it, and what those after it make of its two output arrays. -/
module

public import proofs.«01_k».proof.Proof.Arrays
public import Idealize.ShloMosaic.Lib.StableHlo.ReadAt

@[expose] public section

set_option maxRecDepth 65536

noncomputable section

namespace Cert.KernelIdeal.Attn

open Idealize.ShloMosaic Idealize.ShloMosaic.TcCoe Idealize.SL.Sem Cert.KernelIdeal.Gen
open Idealize.ShloMosaic.Pipeline (Dat)

variable (m : (ℓ : Loc nD τ sig) → Buf (Elt Ideal) ℓ) (hO : Ok m)

/-- The inputs of the call, from the arguments. -/
theorem A0_apply (c : Dev nD) (U : Fin 416) (r l : Fin 128) : A0 m c (ix3 U r l) =
    (m (c.tc.loc main_arg1) : Vec Ideal S106496x64 .i32) (ix2 (⟨256 * U.val + (2 * r.val + l.val / 64), by omega⟩ : Fin 106496) (⟨l.val % 64, by omega⟩ : Fin 64)) := by
  show V m c main_v1 (ix3 U r l) = _
  unfold V V0
  after_reads_at
  show m _ _ = m _ _
  congr 2
  exact Fin.ext (by show (U.val * 128 + r.val) * 2 + l.val / 64 = 256 * U.val + (2 * r.val + l.val / 64); omega)

theorem A1_apply (c : Dev nD) (U : Fin 416) (r : Fin 32) (l : Fin 128) : A1 m c (ix3 U r l) =
    (m (c.tc.loc main_arg2) : Vec Ideal S416x4096 .i32) (ix2 U (⟨128 * r.val + l.val, by omega⟩ : Fin 4096)) := by
  show V m c main_v2 (ix3 U r l) = _
  unfold V V0
  after_reads_at
  show m _ _ = m _ _
  congr 2
  exact Fin.ext (by show r.val * 128 + l.val = 128 * r.val + l.val; omega)

theorem A2_apply (c : Dev nD) (U : Fin 416) (r : Fin 24) (l : Fin 128) : A2 m c (ix3 U r l) =
    (m (c.tc.loc main_arg3) : Vec Ideal S416x3072 .i32) (ix2 U (⟨128 * r.val + l.val, by omega⟩ : Fin 3072)) := by
  show V m c main_v3 (ix3 U r l) = _
  unfold V V0
  after_reads_at
  show m _ _ = m _ _
  congr 2
  exact Fin.ext (by show r.val * 128 + l.val = 128 * r.val + l.val; omega)

theorem arrays_inj : Function.Injective (Pipeline.arrRef spec0) := by decide

/-! ## The results: the host operations after the call, for proof data whose output arrays are known -/

variable (D : (p : Fin _) → (c : Dev nD) → Dat τ (Elt Ideal) Unit ℕ (UR sig nD τ) ℕ ((Pipeline.pin pcfgs fun _ => adm m hO) p) c) (c : Dev nD)

theorem tail_w (W : Vec Ideal S416x2x128 .f32) (h : (D 0 c).arrAt 8 (cfgM m hO).N = W) (U : Fin 416) (n : Fin 256) :
    (Pipeline.afterTail pcfgs (fun _ => adm m hO) D 0 (V0 m) [hostOps1] c main_v9 : Vec Ideal S416x256 .f32) (ix2 U n) =
      W (ix3 U (⟨n.val / 128, by omega⟩ : Fin 2) (⟨n.val % 128, by omega⟩ : Fin 128)) := by
  unfold Pipeline.afterTail
  after_reads_at
  refine (congrFun (Pipeline.withArrays_arr spec0 arrays_inj c (V0 m c) _ 8) _).trans ?_
  exact congrFun h _

theorem tail_p (P : Vec Ideal S416x4x128 .f32) (h : (D 0 c).arrAt 7 (cfgM m hO).N = P) (U : Fin 416) (d : Fin 288) :
    (Pipeline.afterTail pcfgs (fun _ => adm m hO) D 0 (V0 m) [hostOps1] c main_v8 : Vec Ideal S416x288 .bf16) (ix2 U d) =
      P (ix3 U (⟨d.val % 4, by omega⟩ : Fin 4) (⟨d.val / 4, by omega⟩ : Fin 128)) := by
  unfold Pipeline.afterTail
  after_reads_at
  refine (congrFun (Pipeline.withArrays_arr spec0 arrays_inj c (V0 m c) _ 7) _).trans ?_
  exact congrFun h _

end Cert.KernelIdeal.Attn

end
-- ==== Proof.Bytes.lean ====
/- The codes and scales as numbers: a byte of a word read as a float, a word's bits read as a scale; and the rows of bytes
   a reinterpretation of words makes. -/
module

public import Idealize.ShloMosaic.Lib.Pointwise
public import Idealize.ShloMosaic.Lib.BitcastPair

@[expose] public section

set_option maxRecDepth 16384

noncomputable section

namespace Cert.Attn

open Idealize.ShloMosaic

/-- Byte `b` of a word. -/
def byteAt (w : BitVec 32) (b : Nat) : BitVec 8 := w.extractLsb' (8 * b) 8

/-- The number byte `b` of a word encodes. -/
def code (w : BitVec 32) (b : Nat) : EReal := Ideal.ofBits .fp8e4m3 (byteAt w b)

/-- The number a scale's bits encode. -/
def scaleVal (w : BitVec 32) : EReal := Ideal.ofBits .f32 w

/-- A select by a decided bit is an `if`. -/
theorem sel_ofBool {α : Type} (p : Prop) [Decidable p] (x y : α) :
    Scalar.select (BitVec.ofBool (decide p)) x y = if p then x else y := by
  by_cases h : p <;> simp [Scalar.select, h]

theorem ofNat_eq_iff (a b : Nat) (ha : a < 2 ^ 32) (hb : b < 2 ^ 32) : (BitVec.ofNat 32 a = BitVec.ofNat 32 b) ↔ a = b := by
  constructor
  · intro h
    have := congrArg BitVec.toNat h
    rwa [BitVec.toNat_ofNat, BitVec.toNat_ofNat, Nat.mod_eq_of_lt ha, Nat.mod_eq_of_lt hb] at this
  · rintro rfl; rfl

theorem cmpi_eq_ofNat (a b : Nat) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ofNat_eq_iff a b ha hb]

/-- Four values picked by a number below four. -/
theorem sel4 {α : Type} (g : Fin 4 → α) (c : Nat) (hc : c < 4) :
    Scalar.select (IntOp.cmpi .eq (BitVec.ofNat 32 c) 3#32) (g 3)
      (Scalar.select (IntOp.cmpi .eq (BitVec.ofNat 32 c) 2#32) (g 2)
        (Scalar.select (IntOp.cmpi .eq (BitVec.ofNat 32 c) 1#32) (g 1) (g 0))) = g ⟨c, hc⟩ := by
  interval_cases c <;> rfl

/-- A sum over `m n` places, block by block. -/
theorem sum_split {N : Nat} (m n : Nat) (h : N = m * n) (f : Fin N → EReal) :
    ∑ l, f l = ∑ a : Fin m, ∑ b : Fin n, f ⟨n * a.val + b.val, by
      have := Nat.mul_le_mul_left n (Nat.succ_le_of_lt a.isLt); rw [Nat.mul_succ] at this
      have := b.isLt; rw [h, Nat.mul_comm m n]; omega⟩ := by
  subst h
  rw [← Fintype.sum_prod_type' (f := fun (a : Fin m) (b : Fin n) => f ⟨n * a.val + b.val, _⟩)]
  exact (Fintype.sum_equiv finProdFinEquiv _ _ fun x => by
    congr 1; exact Fin.ext (by simp [finProdFinEquiv]; omega)).symm

/-- A sum over `m n` places of which one block counts. -/
theorem sum_block {N : Nat} (m n : Nat) (h : N = m * n) (i : Fin m) (f g : Fin N → EReal) :
    ∑ l, (if i.val = l.val / n then f l else 0) * g l = ∑ e : Fin n, f ⟨n * i.val + e.val, by
      have := Nat.mul_le_mul_left n (Nat.succ_le_of_lt i.isLt); rw [Nat.mul_succ] at this
      have := e.isLt; rw [h, Nat.mul_comm m n]; omega⟩ * g ⟨n * i.val + e.val, by
      have := Nat.mul_le_mul_left n (Nat.succ_le_of_lt i.isLt); rw [Nat.mul_succ] at this
      have := e.isLt; rw [h, Nat.mul_comm m n]; omega⟩ := by
  rw [sum_split m n h, Finset.sum_eq_single i]
  · refine Finset.sum_congr rfl fun e _ => ?_
    rw [if_pos (by
      show i.val = (n * i.val + e.val) / n
      rw [Nat.mul_add_div (Nat.zero_lt_of_lt e.isLt), Nat.div_eq_of_lt e.isLt, Nat.add_zero])]
  · intro a _ ha
    refine Finset.sum_eq_zero fun e _ => ?_
    rw [if_neg (by
      show ¬ i.val = (n * a.val + e.val) / n
      rw [Nat.mul_add_div (Nat.zero_lt_of_lt e.isLt), Nat.div_eq_of_lt e.isLt, Nat.add_zero]
      intro h; exact ha (Fin.ext h.symm)), zero_mul]
  · intro h; exact absurd (Finset.mem_univ _) h

/-- Words read a byte per row: row `k` of a lane is byte `k % 4` of its word `k / 4`. -/
theorem bitcast_32_8_ix2 {R r n : Nat} (x : (⟨2, ![r, n]⟩ : Shape).Idx → BitVec 32)
    (h : (⟨2, ![r, n]⟩ : Shape).Bitcasts 32 ⟨2, ![R, n]⟩ 8) (k : Fin R) (l : Fin n) (p : Fin r) (hp : p.val = k.val / 4) :
    bitcast ⟨2, ![R, n]⟩ 8 x h (ix2 k l) = byteAt (x (ix2 p l)) (k.val % 4) := by
  apply BitVec.eq_of_getLsbD_eq
  intro q hq
  have hq : q < 8 := hq
  rw [bitcast_getLsbD x h _ q hq (by decide), byteAt, BitVec.getLsbD_extractLsb']
  have hr : (⟨2, ![R, n]⟩ : Shape).row (ix2 k l) = k.val := rfl
  have e1 : ((⟨2, ![R, n]⟩ : Shape).row (ix2 k l) * 8 + q) / 32 = p.val := by rw [hr, hp]; omega
  have e2 : ((⟨2, ![R, n]⟩ : Shape).row (ix2 k l) * 8 + q) % 32 = 8 * (k.val % 4) + q := by rw [hr]; omega
  rw [e2, decide_eq_true hq, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

end Cert.Attn

end
-- ==== Proof.Spec.lean ====
/- The attention of one user over 256 slots, as formulas over the extended reals: the score of a slot, the weights and the
   pooled row, from the words of the codes and the bits of the scales. -/
module

public import proofs.«01_k».proof.Proof.Bytes

@[expose] public section

noncomputable section

namespace Cert.Attn

open Idealize.ShloMosaic

/-- The key entry of dimension `d` and slot `n`: a byte's number times the scale of the dimension's block of 32. -/
def keyAt (kw : Fin 72 → Fin 256 → BitVec 32) (ks : Fin 9 → Fin 256 → BitVec 32) (d : Fin 288) (n : Fin 256) : EReal :=
  code (kw ⟨d.val / 4, by omega⟩ n) (d.val % 4) * scaleVal (ks ⟨d.val / 32, by omega⟩ n)

/-- The query entry of dimension `d`. -/
def queryAt (qw : Fin 72 → BitVec 32) (qs : Fin 9 → BitVec 32) (d : Fin 288) : EReal :=
  code (qw ⟨d.val / 4, by omega⟩) (d.val % 4) * scaleVal (qs ⟨d.val / 32, by omega⟩)

/-- The product of the query with the key of slot `n`. -/
def dotAt (qw : Fin 72 → BitVec 32) (qs : Fin 9 → BitVec 32) (kw : Fin 72 → Fin 256 → BitVec 32) (ks : Fin 9 → Fin 256 → BitVec 32)
    (n : Fin 256) : EReal :=
  ∑ d : Fin 288, queryAt qw qs d * keyAt kw ks d n

/-- The scaled score of slot `n`, minus infinity from the count on, and zero when there is no slot at all. -/
def scoreAt (cnt : BitVec 32) (y : Fin 256 → EReal) (n : Fin 256) : EReal :=
  Scalar.select (IntOp.cmpi .eq cnt 0#32) 0
    (Scalar.select (IntOp.cmpi .slt (BitVec.ofNat 32 n.val) cnt) (y n * Ideal.ofBits .f32 0x3D715BEF#32)
      (Ideal.ofBits .f32 0xFF800000#32))

/-- The largest score. -/
def peak (s : Fin 256 → EReal) : EReal := Finset.univ.fold max (Ideal.ofBits .f32 0xFF800000#32) s

def expAt (s : Fin 256 → EReal) (n : Fin 256) : EReal := Ideal.exp (s n - peak s)

/-- The softmax weight of slot `n`, zero when there is no slot at all. -/
def weightAt (cnt : BitVec 32) (s : Fin 256 → EReal) (n : Fin 256) : EReal :=
  Scalar.select (IntOp.cmpi .eq cnt 0#32) 0 (Ideal.div (expAt s n) (∑ n, expAt s n))

/-- The pooled row: the weighted sum of the keys. -/
def poolAt (w : Fin 256 → EReal) (kw : Fin 72 → Fin 256 → BitVec 32) (ks : Fin 9 → Fin 256 → BitVec 32) (d : Fin 288) : EReal :=
  ∑ n : Fin 256, w n * keyAt kw ks d n

end Cert.Attn

end
-- ==== Proof.Reals.lean ====
/- Which codes and scales are real numbers, and the one law that asks for it: a scale moved into a sum. -/
module

public import proofs.«01_k».proof.Proof.Spec

@[expose] public section

noncomputable section

namespace Cert.Attn

open Idealize.ShloMosaic

/-- The extended real is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem sum_mul_real {ι : Type} (S : Finset ι) (f : ι → EReal) (s : EReal) (hf : ∀ e, IsReal (f e)) (hs : IsReal s) :
    (∑ e ∈ S, f e) * s = ∑ e ∈ S, f e * s := by
  obtain ⟨σ, rfl⟩ := hs
  choose g hg using hf
  have hc (T : Finset ι) (k : ι → ℝ) : ∑ e ∈ T, (k e : EReal) = ((∑ e ∈ T, k e : ℝ) : EReal) := by
    classical
    induction T using Finset.induction_on with
    | empty => simp
    | insert a T ha ih => rw [Finset.sum_insert ha, Finset.sum_insert ha, ih, EReal.coe_add]
  simp only [hg, ← EReal.coe_mul]
  rw [hc, hc, ← EReal.coe_mul, Finset.sum_mul]

/-- A byte that is not the NaN pattern is a real number. -/
theorem isReal_code (w : BitVec 32) (b : Nat) (h : byteAt w b &&& 0x7F#8 ≠ 0x7F#8) : IsReal (code w b) := by
  unfold code
  generalize byteAt w b = v at h
  have hn : ¬ ((v.extractLsb' 3 4).toNat = 15 ∧ (v.extractLsb' 0 3).toNat = 7) := by
    revert h v; decide +kernel
  show IsReal (Ideal.e4m3fn v)
  unfold Ideal.e4m3fn
  simp only [if_neg hn]
  split
  · exact ⟨_, rfl⟩
  · exact ⟨_, rfl⟩

/-- A scale whose exponent is not all ones is a real number. -/
theorem isReal_scale (w : BitVec 32) (h : w &&& 0x7F800000#32 ≠ 0x7F800000#32) : IsReal (scaleVal w) := by
  have hn : ¬ (w.extractLsb' 23 8).toNat = 2 ^ 8 - 1 := by
    intro e
    apply h
    have e' : w.extractLsb' 23 8 = 0xFF#8 := BitVec.eq_of_toNat_eq (by simpa using e)
    apply BitVec.eq_of_getLsbD_eq
    intro i hi
    rw [BitVec.getLsbD_and]
    by_cases h1 : 23 ≤ i ∧ i < 31
    · have := congrArg (fun v => v.getLsbD (i - 23)) e'
      simp only [BitVec.getLsbD_extractLsb'] at this
      rw [show 23 + (i - 23) = i by omega, decide_eq_true (show i - 23 < 8 by omega), Bool.true_and] at this
      obtain ⟨h2, h3⟩ := h1
      interval_cases i <;> simp_all
    · have : (0x7F800000#32 : BitVec 32).getLsbD i = false := by
        interval_cases i <;> simp_all
      rw [this, Bool.and_false]
  show IsReal (Ideal.ieee 8 23 w)
  unfold Ideal.ieee
  simp only [if_neg hn]
  split
  · exact ⟨_, rfl⟩
  · exact ⟨_, rfl⟩

end Cert.Attn

end
-- ==== Proof.Layout.lean ====
/- Where the packed arrays of all users hold a user's key words, key scales and query, and what the precondition says of them. -/
module

public import proofs.«01_k».proof.Proof.Spec
public import proofs.«01_k».proof.Proof.Reals

@[expose] public section

noncomputable section

namespace Cert.Attn

open Idealize.ShloMosaic

local notation "W2" a:max b:max => (Shape.Idx ⟨2, ![a, b]⟩ → BitVec 32)

/-- Key word `w` of slot `n` of user `U`: words 0–63 in the first array, the others in the tail array. -/
def kwOf (M : W2 106496 64) (T : W2 416 4096) (U : Fin 416) (w : Fin 72) (n : Fin 256) : BitVec 32 :=
  if h : w.val < 64 then M (ix2 (⟨256 * U.val + (64 * (n.val / 64) + 2 * (n.val % 32) + n.val / 32 % 2), by omega⟩ : Fin 106496) (⟨w.val, h⟩ : Fin 64))
  else T (ix2 U (⟨128 * (n.val % 32) + (16 * (n.val / 32) + (w.val - 64)), by omega⟩ : Fin 4096))

/-- The scale bits of block `i` of slot `n` of user `U`. -/
def ksOf (S : W2 416 3072) (U : Fin 416) (i : Fin 9) (n : Fin 256) : BitVec 32 :=
  if h : i.val < 8 then S (ix2 U (⟨128 * (8 * (n.val / 32 % 2) + i.val) + (32 * (n.val / 64) + n.val % 32), by omega⟩ : Fin 3072))
  else S (ix2 U (⟨128 * (16 + n.val / 32) + (32 * (n.val / 64) + n.val % 32), by omega⟩ : Fin 3072))

/-- Query word `w` of user `U`. -/
def qwOf (Q1 Q2 : W2 416 128) (U : Fin 416) (w : Fin 72) : BitVec 32 :=
  if w.val < 64 then Q1 (ix2 U (⟨w.val, by omega⟩ : Fin 128)) else Q2 (ix2 U (⟨w.val - 64, by omega⟩ : Fin 128))

/-- The scale bits of query block `i` of user `U`. -/
def qsOf (S1 S2 : W2 416 128) (U : Fin 416) (i : Fin 9) : BitVec 32 :=
  if i.val < 8 then S1 (ix2 U (⟨8 * i.val, by omega⟩ : Fin 128)) else S2 (ix2 U (0 : Fin 128))

/-- No byte of a word is a NaN code. -/
def CodesOk (w : BitVec 32) : Prop := ∀ b : Fin 4, byteAt w b.val &&& 0x7F#8 ≠ 0x7F#8
/-- The bits are those of a finite number. -/
def FiniteBits (w : BitVec 32) : Prop := w &&& 0x7F800000#32 ≠ 0x7F800000#32

/-- The precondition, decoded. -/
structure Packed (M : W2 106496 64) (T : W2 416 4096) (S : W2 416 3072) (Q1 Q2 S1 S2 : W2 416 128) : Prop where
  main (r : Fin 106496) (w : Fin 64) : CodesOk (M (ix2 r w))
  tail (U : Fin 416) (m : Fin 32) (s e : Fin 8) : CodesOk (T (ix2 U (⟨128 * m.val + (16 * s.val + e.val), by omega⟩ : Fin 4096)))
  scale (U : Fin 416) (r : Fin 16) (l : Fin 128) : FiniteBits (S (ix2 U (⟨128 * r.val + l.val, by omega⟩ : Fin 3072)))
  scaleTail (U : Fin 416) (s : Fin 8) (m : Fin 32) :
    FiniteBits (S (ix2 U (⟨128 * (16 + s.val) + (32 * (s.val / 2) + m.val), by omega⟩ : Fin 3072)))
  q1 (U : Fin 416) (w : Fin 64) : CodesOk (Q1 (ix2 U (⟨w.val, by omega⟩ : Fin 128)))
  rep1 (U : Fin 416) (w : Fin 64) : Q1 (ix2 U (⟨64 + w.val, by omega⟩ : Fin 128)) = Q1 (ix2 U (⟨w.val, by omega⟩ : Fin 128))
  q2 (U : Fin 416) (e : Fin 8) : CodesOk (Q2 (ix2 U (⟨e.val, by omega⟩ : Fin 128)))
  rep2 (U : Fin 416) (s e : Fin 8) : Q2 (ix2 U (⟨16 * s.val + e.val, by omega⟩ : Fin 128)) = Q2 (ix2 U (⟨e.val, by omega⟩ : Fin 128))
  rest2 (U : Fin 416) (s e : Fin 8) : Q2 (ix2 U (⟨16 * s.val + (8 + e.val), by omega⟩ : Fin 128)) = 0#32
  s1 (U : Fin 416) (i : Fin 8) : FiniteBits (S1 (ix2 U (⟨8 * i.val, by omega⟩ : Fin 128)))
  reps1 (U : Fin 416) (h : Fin 2) (i e : Fin 8) :
    S1 (ix2 U (⟨64 * h.val + (8 * i.val + e.val), by omega⟩ : Fin 128)) = S1 (ix2 U (⟨8 * i.val, by omega⟩ : Fin 128))
  s2 (U : Fin 416) : FiniteBits (S2 (ix2 U (0 : Fin 128)))
  reps2 (U : Fin 416) (s e : Fin 8) : S2 (ix2 U (⟨16 * s.val + e.val, by omega⟩ : Fin 128)) = S2 (ix2 U (0 : Fin 128))

section
variable {M : W2 106496 64} {T : W2 416 4096} {S : W2 416 3072} {Q1 Q2 S1 S2 : W2 416 128}

theorem kwOf_main (U : Fin 416) (s : Fin 8) (m : Fin 32) (w : Fin 64) :
    kwOf M T U ⟨w.val, by omega⟩ ⟨32 * s.val + m.val, by omega⟩ =
      M (ix2 (⟨256 * U.val + (64 * (s.val / 2) + 2 * m.val + s.val % 2), by omega⟩ : Fin 106496) w) := by
  unfold kwOf
  have e1 : (32 * s.val + m.val) / 64 = s.val / 2 := by omega
  have e2 : (32 * s.val + m.val) % 32 = m.val := by omega
  have e3 : (32 * s.val + m.val) / 32 = s.val := by omega
  simp only [e1, e2, e3]
  exact dif_pos w.isLt

theorem kwOf_tail (U : Fin 416) (s : Fin 8) (m : Fin 32) (e : Fin 8) :
    kwOf M T U ⟨64 + e.val, by omega⟩ ⟨32 * s.val + m.val, by omega⟩ =
      T (ix2 U (⟨128 * m.val + (16 * s.val + e.val), by omega⟩ : Fin 4096)) := by
  unfold kwOf
  have e2 : (32 * s.val + m.val) % 32 = m.val := by omega
  have e3 : (32 * s.val + m.val) / 32 = s.val := by omega
  have e4 : 64 + e.val - 64 = e.val := by omega
  simp only [e2, e3, e4]
  exact dif_neg (by omega)

theorem ksOf_main (U : Fin 416) (s : Fin 8) (m : Fin 32) (i : Fin 8) :
    ksOf S U ⟨i.val, by omega⟩ ⟨32 * s.val + m.val, by omega⟩ =
      S (ix2 U (⟨128 * (8 * (s.val % 2) + i.val) + (32 * (s.val / 2) + m.val), by omega⟩ : Fin 3072)) := by
  unfold ksOf
  have e1 : (32 * s.val + m.val) / 64 = s.val / 2 := by omega
  have e2 : (32 * s.val + m.val) % 32 = m.val := by omega
  have e3 : (32 * s.val + m.val) / 32 = s.val := by omega
  simp only [e1, e2, e3]
  exact dif_pos i.isLt

theorem ksOf_tail (U : Fin 416) (s : Fin 8) (m : Fin 32) :
    ksOf S U 8 ⟨32 * s.val + m.val, by omega⟩ =
      S (ix2 U (⟨128 * (16 + s.val) + (32 * (s.val / 2) + m.val), by omega⟩ : Fin 3072)) := by
  unfold ksOf
  have e1 : (32 * s.val + m.val) / 64 = s.val / 2 := by omega
  have e2 : (32 * s.val + m.val) % 32 = m.val := by omega
  have e3 : (32 * s.val + m.val) / 32 = s.val := by omega
  simp only [e1, e2, e3]
  exact dif_neg (by decide)

theorem slot_cases (n : Fin 256) : ∃ (s : Fin 8) (m : Fin 32), n = ⟨32 * s.val + m.val, by omega⟩ :=
  ⟨⟨n.val / 32, by omega⟩, ⟨n.val % 32, by omega⟩, Fin.ext (by show n.val = 32 * (n.val / 32) + n.val % 32; omega)⟩

theorem word_cases (w : Fin 72) : (∃ v : Fin 64, w = ⟨v.val, by omega⟩) ∨ ∃ e : Fin 8, w = ⟨64 + e.val, by omega⟩ := by
  by_cases h : w.val < 64
  · exact .inl ⟨⟨w.val, h⟩, rfl⟩
  · exact .inr ⟨⟨w.val - 64, by omega⟩, Fin.ext (by show w.val = 64 + (w.val - 64); omega)⟩

theorem block_cases (i : Fin 9) : (∃ v : Fin 8, i = ⟨v.val, by omega⟩) ∨ i = 8 := by
  by_cases h : i.val < 8
  · exact .inl ⟨⟨i.val, h⟩, rfl⟩
  · exact .inr (Fin.ext (by show i.val = 8; omega))

variable (hp : Packed M T S Q1 Q2 S1 S2)
include hp

theorem Packed.kw_real (U : Fin 416) (w : Fin 72) (n : Fin 256) (c : Fin 4) : IsReal (code (kwOf M T U w n) c.val) := by
  obtain ⟨s, m, rfl⟩ := slot_cases n
  rcases word_cases w with ⟨v, rfl⟩ | ⟨e, rfl⟩
  · rw [kwOf_main]; exact isReal_code _ _ (hp.main _ _ c)
  · rw [kwOf_tail]; exact isReal_code _ _ (hp.tail _ _ _ _ c)

theorem Packed.ks_real (U : Fin 416) (i : Fin 9) (n : Fin 256) : IsReal (scaleVal (ksOf S U i n)) := by
  obtain ⟨s, m, rfl⟩ := slot_cases n
  rcases block_cases i with ⟨v, rfl⟩ | rfl
  · rw [ksOf_main]
    exact isReal_scale _ (hp.scale U (⟨8 * (s.val % 2) + v.val, by omega⟩ : Fin 16) (⟨32 * (s.val / 2) + m.val, by omega⟩ : Fin 128))
  · rw [ksOf_tail]; exact isReal_scale _ (hp.scaleTail _ _ _)

theorem Packed.qw_real (U : Fin 416) (w : Fin 72) (c : Fin 4) : IsReal (code (qwOf Q1 Q2 U w) c.val) := by
  rcases word_cases w with ⟨v, rfl⟩ | ⟨e, rfl⟩
  · unfold qwOf; rw [if_pos v.isLt]; exact isReal_code _ _ (hp.q1 _ v c)
  · unfold qwOf; rw [if_neg (by show ¬ 64 + e.val < 64; omega)]
    have e4 : 64 + e.val - 64 = e.val := by omega
    simp only [e4]; exact isReal_code _ _ (hp.q2 _ e c)

theorem Packed.qs_real (U : Fin 416) (i : Fin 9) : IsReal (scaleVal (qsOf S1 S2 U i)) := by
  rcases block_cases i with ⟨v, rfl⟩ | rfl
  · unfold qsOf; rw [if_pos v.isLt]; exact isReal_scale _ (hp.s1 _ v)
  · unfold qsOf; rw [if_neg (by decide)]; exact isReal_scale _ (hp.s2 _)

end

end Cert.Attn

end
-- ==== Proof.Words.lean ====
/- What the chain's words are at an index: which lanes a row owns, which byte a lane is of, which lane a gather reads, and
   which byte of which word a row of codes holds. -/
module

public import proofs.«01_k».proof.Proof.Chain
public import Idealize.ShloMosaic.Lib.Pointwise
public import Idealize.ShloMosaic.Lib.BitcastPair
public import Idealize.ShloMosaic.Lib.WordCmp

@[expose] public section

set_option maxRecDepth 16384

noncomputable section

namespace Cert.KernelIdeal.Attn

open Idealize.ShloMosaic Idealize.SL.Sem Cert.KernelIdeal.Gen

theorem mainMask_apply : ∀ (i : Fin 16) (l : Fin 128),
    mainMask (ix2 i l) = BitVec.ofBool (decide (i.val = l.val / 8)) := by decide +kernel
theorem tailMask_apply : ∀ (i : Fin 8) (l : Fin 128),
    tailMask (ix2 i l) = BitVec.ofBool (decide (i.val = l.val / 16)) := by decide +kernel
theorem byte8_apply : ∀ (i : Fin 8) (l : Fin 128), byte8 (ix2 i l) = BitVec.ofNat 32 (l.val % 4) := by decide +kernel
theorem byte16_apply : ∀ (i : Fin 16) (l : Fin 128), byte16 (ix2 i l) = BitVec.ofNat 32 (l.val % 4) := by decide +kernel
theorem half8_apply : ∀ (i : Fin 8) (l : Fin 128), fdiv sub8 2#32 (ix2 i l) = BitVec.ofNat 32 (i.val / 2) := by decide +kernel
theorem slot_apply : ∀ (i : Fin 8) (l : Fin 128), addi (muli sub8 (broadcast S8x128 32#32)) (fdiv lane8 4#32) (ix2 i l) =
    BitVec.ofNat 32 (32 * i.val + l.val / 4) := by decide +kernel
theorem even_apply : ∀ (i : Fin 8) (l : Fin 128),
    cmpi .eq (fmod broadcasts_S8x128_S8x128 lane8 2#32) (broadcast S8x128 0#32) (ix2 i l) =
      BitVec.ofBool (decide (l.val % 2 = 0)) := by decide +kernel
theorem low_apply : ∀ (i : Fin 8) (l : Fin 128),
    cmpi .slt byte8 (broadcast S8x128 2#32) (ix2 i l) = BitVec.ofBool (decide (l.val % 4 < 2)) := by decide +kernel
theorem pick_apply : ∀ (i : Fin 8) (l : Fin 128),
    cmpi .eq (fdiv lane8 32#32) (fmod broadcasts_S8x128_S8x128 sub8 4#32) (ix2 i l) =
      BitVec.ofBool (decide (l.val / 32 = i.val % 4)) := by decide +kernel
theorem gatherLanes_apply : ∀ (i : Fin 8) (l : Fin 128),
    gatherLanes (ix2 i l) = BitVec.ofNat 32 (4 * (l.val % 32)) := by decide +kernel

end Cert.KernelIdeal.Attn

end
-- ==== Proof.ReadQ.lean ====
/- The chain's first stages at an index: the query's rows, the key's codes and scales. -/
module

public import proofs.«01_k».proof.Proof.Words
public import proofs.«01_k».proof.Proof.Bytes

@[expose] public section

set_option maxRecDepth 16384

noncomputable section

namespace Cert.KernelIdeal.Attn

open Idealize.ShloMosaic Idealize.SL.Sem Cert.KernelIdeal.Gen Cert.Attn

theorem expandQ_apply (w s : IVec S8x128 32) (u : Fin 8) (b : Fin 4) (l : Fin 128) :
    expandQ (F := Ideal) w s (ix2 (⟨4 * u.val + b.val, by omega⟩ : Fin 32) l) = code (w (ix2 u l)) b.val * scaleVal (s (ix2 u l)) := by
  unfold expandQ
  pointwise
  rw [bitcast_32_8_ix2 w _ _ l u (by show u.val = (4 * u.val + b.val) / 4; omega),
    show (⟨4 * u.val + b.val, by omega⟩ : Fin 32).val % 4 = b.val by show (4 * u.val + b.val) % 4 = _; omega]
  rfl

theorem mainCodes_apply (b : IVec S1x128x128 32) (m : Fin 128) (c : Fin 4) (l : Fin 128) :
    mainCodes (F := Ideal) b (ix2 (⟨4 * m.val + c.val, by omega⟩ : Fin 512) l) = code (b (ix3 0 m l)) c.val := by
  unfold mainCodes
  pointwise
  rw [bitcast_32_8_ix2 _ _ _ l m (by show m.val = (4 * m.val + c.val) / 4; omega),
    show (⟨4 * m.val + c.val, by omega⟩ : Fin 512).val % 4 = c.val by show (4 * m.val + c.val) % 4 = _; omega]
  pointwise
  rfl

theorem tailCodes_apply (b : IVec S1x32x128 32) (m : Fin 32) (c : Fin 4) (l : Fin 128) :
    tailCodes (F := Ideal) b (ix2 (⟨4 * m.val + c.val, by omega⟩ : Fin 128) l) = code (b (ix3 0 m l)) c.val := by
  unfold tailCodes
  pointwise
  rw [bitcast_32_8_ix2 _ _ _ l m (by show m.val = (4 * m.val + c.val) / 4; omega),
    show (⟨4 * m.val + c.val, by omega⟩ : Fin 128).val % 4 = c.val by show (4 * m.val + c.val) % 4 = _; omega]
  pointwise
  rfl

theorem quarter_col : ∀ l : Fin 512, fdiv (iota .tc S128x512 32 [1] iota_S128x512_d1_w32) 4#32 (ix2 (0 : Fin 128) l) =
    BitVec.ofNat 32 (l.val / 4) := by decide +kernel

theorem spread_apply (k : Fin 128) (l : Fin 512) :
    spread (F := Ideal) (ix2 k l) = if k.val = l.val / 4 then 1 else 0 := by
  have e : fdiv (iota .tc S128x512 32 [1] iota_S128x512_d1_w32) 4#32 (ix2 k l) = BitVec.ofNat 32 (l.val / 4) :=
    (show _ = fdiv (iota .tc S128x512 32 [1] iota_S128x512_d1_w32) 4#32 (ix2 (0 : Fin 128) l) from rfl).trans (quarter_col l)
  unfold spread
  pointwise
  rw [e, cmpi_eq_ofNat _ _ (by omega) (by omega)]
  show ((BitVec.toInt _ : ℝ) : EReal) = _
  by_cases h : k.val = l.val / 4
  · rw [if_pos h, decide_eq_true h, show (BitVec.setWidth 32 (BitVec.ofBool true)).toInt = 1 by decide]
    norm_num
  · rw [if_neg h, decide_eq_false h, show (BitVec.setWidth 32 (BitVec.ofBool false)).toInt = 0 by decide]
    norm_num

theorem scaleAll_apply (b : IVec S1x24x128 32) (i : Fin 24) (m : Fin 128) (c : Fin 4) :
    scaleAll (F := Ideal) b (ix2 i (⟨4 * m.val + c.val, by omega⟩ : Fin 512)) = scaleVal (b (ix3 0 i m)) := by
  unfold scaleAll
  pointwise
  rw [Finset.sum_eq_single m]
  · rw [spread_apply, if_pos (by show m.val = (4 * m.val + c.val) / 4; omega), mul_one]; rfl
  · intro x _ hx
    rw [spread_apply, if_neg (by
      show ¬ x.val = (4 * m.val + c.val) / 4
      intro h; exact hx (Fin.ext (by omega))), mul_zero]
  · intro h; exact absurd (Finset.mem_univ _) h

end Cert.KernelIdeal.Attn

end
-- ==== Proof.ReadS.lean ====
/- The scores' and the weights' stages at an index. -/
module

public import proofs.«01_k».proof.Proof.Words
public import proofs.«01_k».proof.Proof.Bytes

@[expose] public section

set_option maxRecDepth 16384

noncomputable section

namespace Cert.KernelIdeal.Attn

open Idealize.ShloMosaic Idealize.SL.Sem Cert.KernelIdeal.Gen Cert.Attn

/-- A ladder of four equal blocks: place `n j + i` is place `i` of block `j`. -/
theorem ladder4 {α : Type} (n : Nat) (g : Fin 4 → (i : Nat) → i < n → α) (j : Fin 4) (i : Nat) (hi : i < n)
    (h3 : ¬ n * j.val + i < n → ¬ n * j.val + i - n < n → ¬ n * j.val + i - n - n < n → n * j.val + i - n - n - n < n) :
    (if h : n * j.val + i < n then g 0 (n * j.val + i) h
      else if h' : n * j.val + i - n < n then g 1 (n * j.val + i - n) h'
        else if h'' : n * j.val + i - n - n < n then g 2 (n * j.val + i - n - n) h''
          else g 3 (n * j.val + i - n - n - n) (h3 h h' h'')) = g j i hi := by
  have key (c : Fin 4) (x : Nat) (hx : x < n) (e : x = i) : g c x hx = g c i hi := by subst e; rfl
  match j with
  | 0 =>
    have e : n * (0 : Fin 4).val + i = i := by simp
    rw [dif_pos (by omega)]; exact key _ _ _ e
  | 1 =>
    have e : n * (1 : Fin 4).val + i = n + i := by simp
    rw [dif_neg (by omega), dif_pos (by omega)]; exact key _ _ _ (by omega)
  | 2 =>
    have e : n * (2 : Fin 4).val + i = n + n + i := by simp; omega
    rw [dif_neg (by omega), dif_neg (by omega), dif_pos (by omega)]; exact key _ _ _ (by omega)
  | 3 =>
    have e : n * (3 : Fin 4).val + i = n + n + n + i := by simp; omega
    rw [dif_neg (by omega), dif_neg (by omega), dif_neg (by omega)]; exact key _ _ _ (by omega)

theorem dots1_apply (r : Fin 4 → FVec Ideal S1x128 .f32) (mc : FVec Ideal S512x128 .fp8e4m3) (j : Fin 4) (i : Fin 16) (k : Fin 512) :
    dots1 (r 0) (r 1) (r 2) (r 3) mc (ix2 (⟨16 * j.val + i.val, by omega⟩ : Fin 64) k) =
      ∑ e : Fin 8, r j (ix2 0 (⟨8 * i.val + e.val, by omega⟩ : Fin 128)) * mc (ix2 k (⟨8 * i.val + e.val, by omega⟩ : Fin 128)) := by
  refine Eq.trans ?_ (sum_block 16 8 rfl i (fun l => r j (ix2 0 l)) fun l => mc (ix2 k l))
  unfold dots1 maskRow16
  pointwise
  refine Finset.sum_congr rfl fun l _ => ?_
  congr 1
  rw [ladder4 16 (fun j i h => Scalar.select (mainMask (ix2 (⟨i, h⟩ : Fin 16) l)) (r j (ix2 0 l)) 0) j i.val i.isLt,
    mainMask_apply, sel_ofBool]

theorem dots2_apply (r : Fin 4 → FVec Ideal S1x128 .f32) (mc : FVec Ideal S128x128 .fp8e4m3) (j : Fin 4) (i : Fin 8) (k : Fin 128) :
    dots2 (r 0) (r 1) (r 2) (r 3) mc (ix2 (⟨8 * j.val + i.val, by omega⟩ : Fin 32) k) =
      ∑ e : Fin 16, r j (ix2 0 (⟨16 * i.val + e.val, by omega⟩ : Fin 128)) * mc (ix2 k (⟨16 * i.val + e.val, by omega⟩ : Fin 128)) := by
  refine Eq.trans ?_ (sum_block 8 16 rfl i (fun l => r j (ix2 0 l)) fun l => mc (ix2 k l))
  unfold dots2 maskRow8
  pointwise
  refine Finset.sum_congr rfl fun l _ => ?_
  congr 1
  rw [ladder4 8 (fun j i h => Scalar.select (tailMask (ix2 (⟨i, h⟩ : Fin 8) l)) (r j (ix2 0 l)) 0) j i.val i.isLt,
    tailMask_apply, sel_ofBool]

theorem byByte16_apply (x : FVec Ideal S64x128 .f32) (i : Fin 16) (l : Fin 128) :
    byByte16 x (ix2 i l) = x (ix2 (⟨16 * (l.val % 4) + i.val, by omega⟩ : Fin 64) l) := by
  unfold byByte16
  pointwise
  rw [byte16_apply, show (⟨i.val, by omega⟩ : Fin 64) = ⟨16 * 0 + i.val, by omega⟩ from Fin.ext (by simp)]
  exact sel4 (fun j => x (ix2 (⟨16 * j.val + i.val, by omega⟩ : Fin 64) l)) _ (by omega)

theorem byByte8_apply (x : FVec Ideal S32x128 .f32) (i : Fin 8) (l : Fin 128) :
    byByte8 x (ix2 i l) = x (ix2 (⟨8 * (l.val % 4) + i.val, by omega⟩ : Fin 32) l) := by
  unfold byByte8
  pointwise
  rw [byte8_apply, show (⟨i.val, by omega⟩ : Fin 32) = ⟨8 * 0 + i.val, by omega⟩ from Fin.ext (by simp)]
  exact sel4 (fun j => x (ix2 (⟨8 * j.val + i.val, by omega⟩ : Fin 32) l)) _ (by omega)

theorem tailScale_apply (x : FVec Ideal S24x512 .f32) (i : Fin 8) (l : Fin 128) :
    tailScale x (ix2 i l) = x (ix2 (⟨16 + i.val, by omega⟩ : Fin 24) (⟨128 * (i.val / 2) + l.val, by omega⟩ : Fin 512)) := by
  unfold tailScale
  pointwise
  rw [half8_apply, show (⟨l.val, by omega⟩ : Fin 512) = ⟨128 * 0 + l.val, by omega⟩ from Fin.ext (by simp)]
  exact sel4 (fun j => x (ix2 (⟨16 + i.val, by omega⟩ : Fin 24) (⟨128 * j.val + l.val, by omega⟩ : Fin 512))) _ (by omega)

theorem part_apply (p : FVec Ideal S64x512 .f32) (sc : FVec Ideal S24x512 .f32) (t : Fin 4) (h : S64x512.Slices ![0, 128 * t.val] S64x128)
    (h' : S24x512.Slices ![0, 128 * t.val] S16x128) (a : Fin 2) (l : Fin 128) : part p sc (128 * t.val) h h' (ix2 a l) =
    ∑ i : Fin 8, p (ix2 (⟨16 * (l.val % 4) + (8 * a.val + i.val), by omega⟩ : Fin 64) (⟨128 * t.val + l.val, by omega⟩ : Fin 512)) *
     sc (ix2 (⟨8 * a.val + i.val, by omega⟩ : Fin 24) (⟨128 * t.val + l.val, by omega⟩ : Fin 512)) := by
  unfold part mainScale
  pointwise
  refine Finset.sum_congr rfl fun i _ => ?_
  rw [byByte16_apply]
  pointwise
  have e1 : (⟨16 * (l.val % 4) + (a.val * 8 + i.val), by omega⟩ : Fin 64) = ⟨16 * (l.val % 4) + (8 * a.val + i.val), by omega⟩ :=
    Fin.ext (by show 16 * (l.val % 4) + (a.val * 8 + i.val) = 16 * (l.val % 4) + (8 * a.val + i.val); omega)
  have e2 : (⟨a.val * 8 + i.val, by omega⟩ : Fin 24) = ⟨8 * a.val + i.val, by omega⟩ :=
    Fin.ext (by show a.val * 8 + i.val = 8 * a.val + i.val; omega)
  rw [e1, e2]

theorem yRaw_apply (p1 : FVec Ideal S64x512 .f32) (p2 : FVec Ideal S32x128 .f32) (sc : FVec Ideal S24x512 .f32) (s : Fin 8) (l : Fin 128) :
    yRaw p1 p2 sc (ix2 s l) =
      (∑ i : Fin 8, p1 (ix2 (⟨16 * (l.val % 4) + (8 * (s.val % 2) + i.val), by omega⟩ : Fin 64) (⟨128 * (s.val / 2) + l.val, by omega⟩ : Fin 512)) *
        sc (ix2 (⟨8 * (s.val % 2) + i.val, by omega⟩ : Fin 24) (⟨128 * (s.val / 2) + l.val, by omega⟩ : Fin 512)))
      + p2 (ix2 (⟨8 * (l.val % 4) + s.val, by omega⟩ : Fin 32) l) *
        sc (ix2 (⟨16 + s.val, by omega⟩ : Fin 24) (⟨128 * (s.val / 2) + l.val, by omega⟩ : Fin 512)) := by
  unfold yRaw
  pointwise
  rw [byByte8_apply, tailScale_apply]
  congr 1
  have key (t : Fin 4) (a : Fin 2) (hs : s.val = 2 * t.val + a.val) (h : S64x512.Slices ![0, 128 * t.val] S64x128)
      (h' : S24x512.Slices ![0, 128 * t.val] S16x128) : part p1 sc (128 * t.val) h h' (ix2 a l) =
      ∑ i : Fin 8, p1 (ix2 (⟨16 * (l.val % 4) + (8 * (s.val % 2) + i.val), by omega⟩ : Fin 64) (⟨128 * (s.val / 2) + l.val, by omega⟩ : Fin 512)) *
        sc (ix2 (⟨8 * (s.val % 2) + i.val, by omega⟩ : Fin 24) (⟨128 * (s.val / 2) + l.val, by omega⟩ : Fin 512)) := by
    rw [part_apply]
    have e1 : s.val % 2 = a.val := by omega
    have e2 : s.val / 2 = t.val := by omega
    simp only [e1, e2]
  split
  · exact key 0 ⟨s.val, by omega⟩ (by simp) _ _
  split
  · exact key 1 ⟨s.val - 2, by omega⟩ (by simp; omega) _ _
  split
  · exact key 2 ⟨s.val - 2 - 2, by omega⟩ (by simp; omega) _ _
  · exact key 3 ⟨s.val - 2 - 2 - 2, by omega⟩ (by simp; omega) _ _

/-- A lane's neighbour in its pair, and in its four. -/
def mate (n : Nat) : Nat := if n % 2 = 0 then n + 1 else n - 1
def mate2 (n : Nat) : Nat := if n % 4 < 2 then n + 2 else n - 2

theorem quad_sum (y : FVec Ideal S8x128 .f32) (s : Fin 8) (m : Fin 32) (c : Fin 4) :
    quadUp (pairUp y) (ix2 s (⟨4 * m.val + c.val, by omega⟩ : Fin 128)) =
      ∑ j : Fin 4, y (ix2 s (⟨4 * m.val + j.val, by omega⟩ : Fin 128)) := by
  let Y : Nat → EReal := fun n => if h : n < 128 then y (ix2 s ⟨n, h⟩) else 0
  have hY (n : Nat) (h : n < 128) : y (ix2 s ⟨n, h⟩) = Y n := by
    show _ = if h : n < 128 then y (ix2 s ⟨n, h⟩) else 0
    rw [dif_pos h]
  have hp (l : Fin 128) : pairUp y (ix2 s l) = Y l.val + Y (mate l.val) := by
    have e := even_apply s l
    unfold pairUp
    pointwise at e ⊢
    rw [e, sel_ofBool, hY l.val l.isLt, hY, hY]
    congr 1
    unfold mate
    split <;> exact congrArg Y (by omega)
  have hq : quadUp (pairUp y) (ix2 s (⟨4 * m.val + c.val, by omega⟩ : Fin 128)) =
      (Y (4 * m.val + c.val) + Y (mate (4 * m.val + c.val))) + (Y (mate2 (4 * m.val + c.val)) + Y (mate (mate2 (4 * m.val + c.val)))) := by
    have e := low_apply s (⟨4 * m.val + c.val, by omega⟩ : Fin 128)
    unfold quadUp
    pointwise at e ⊢
    rw [e, sel_ofBool]
    simp only [hp]
    congr 1
    have e2 : mate2 (4 * m.val + c.val) = if (4 * m.val + c.val) % 4 < 2 then (4 * m.val + c.val + 128 - 126) % 128 else (4 * m.val + c.val + 128 - 2) % 128 := by
      unfold mate2; split <;> omega
    rw [e2]
    split <;> rfl
  rw [hq, Fin.sum_univ_four]
  simp only [hY]
  match c with
  | 0 =>
    rw [show mate (4 * m.val + (0 : Fin 4).val) = 4 * m.val + 1 by unfold mate; split <;> simp at * ; omega,
      show mate2 (4 * m.val + (0 : Fin 4).val) = 4 * m.val + 2 by unfold mate2; simp,
      show mate (4 * m.val + 2) = 4 * m.val + 3 by unfold mate; split <;> omega]
    show Y (4 * m.val + 0) + Y (4 * m.val + 1) + (Y (4 * m.val + 2) + Y (4 * m.val + 3)) =
      Y (4 * m.val + 0) + Y (4 * m.val + 1) + Y (4 * m.val + 2) + Y (4 * m.val + 3)
    abel
  | 1 =>
    rw [show mate (4 * m.val + (1 : Fin 4).val) = 4 * m.val + 0 by unfold mate; simp; omega,
      show mate2 (4 * m.val + (1 : Fin 4).val) = 4 * m.val + 3 by unfold mate2; simp,
      show mate (4 * m.val + 3) = 4 * m.val + 2 by unfold mate; split <;> omega]
    show Y (4 * m.val + 1) + Y (4 * m.val + 0) + (Y (4 * m.val + 3) + Y (4 * m.val + 2)) =
      Y (4 * m.val + 0) + Y (4 * m.val + 1) + Y (4 * m.val + 2) + Y (4 * m.val + 3)
    abel
  | 2 =>
    rw [show mate (4 * m.val + (2 : Fin 4).val) = 4 * m.val + 3 by unfold mate; simp; omega,
      show mate2 (4 * m.val + (2 : Fin 4).val) = 4 * m.val + 0 by unfold mate2; simp,
      show mate (4 * m.val + 0) = 4 * m.val + 1 by unfold mate; split <;> omega]
    show Y (4 * m.val + 2) + Y (4 * m.val + 3) + (Y (4 * m.val + 0) + Y (4 * m.val + 1)) =
      Y (4 * m.val + 0) + Y (4 * m.val + 1) + Y (4 * m.val + 2) + Y (4 * m.val + 3)
    abel
  | 3 =>
    rw [show mate (4 * m.val + (3 : Fin 4).val) = 4 * m.val + 2 by unfold mate; simp; omega,
      show mate2 (4 * m.val + (3 : Fin 4).val) = 4 * m.val + 1 by unfold mate2; simp,
      show mate (4 * m.val + 1) = 4 * m.val + 0 by unfold mate; split <;> omega]
    show Y (4 * m.val + 3) + Y (4 * m.val + 2) + (Y (4 * m.val + 1) + Y (4 * m.val + 0)) =
      Y (4 * m.val + 0) + Y (4 * m.val + 1) + Y (4 * m.val + 2) + Y (4 * m.val + 3)
    abel

theorem sumOf_apply (y : FVec Ideal S8x128 .f32)  :
    sumOf y = ∑ s : Fin 8, ∑ l : Fin 128, y (ix2 s l) := by
  unfold sumOf
  pointwise

theorem wOut_apply (w : FVec Ideal S8x128 .f32) (a : Fin 2) (l : Fin 128)  :
    wOut w (ix3 0 a l) = w (ix2 (⟨4 * a.val + l.val / 32, by omega⟩ : Fin 8) (⟨4 * (l.val % 32), by omega⟩ : Fin 128)) := by
  unfold wOut
  pointwise
  have e (i : Fin 8) := pick_apply i l
  pointwise at e
  rw [Finset.sum_eq_single (⟨l.val / 32, by omega⟩ : Fin 4)]
  · rw [e, sel_ofBool, if_pos (by show l.val / 32 = (a.val * 4 + l.val / 32) % 4; omega)]
    congr 1
    exact congrArg₂ _ (Fin.ext (by show a.val * 4 + l.val / 32 = 4 * a.val + l.val / 32; omega)) (Fin.ext (by
      show (gatherLanes (ix2 _ l)).toNat % 128 = 4 * (l.val % 32)
      rw [gatherLanes_apply, BitVec.toNat_ofNat]; omega))
  · intro x _ hx
    rw [e, sel_ofBool, if_neg (by
      show ¬ l.val / 32 = (a.val * 4 + x.val) % 4
      intro h; exact hx (Fin.ext (by show x.val = l.val / 32; omega)))]
  · intro h; exact absurd (Finset.mem_univ _) h

end Cert.KernelIdeal.Attn

end
-- ==== Proof.ReadW.lean ====
/- The weights: a slot's four lanes hold its score, so the maximum over the lanes is the maximum over the slots and a
   quarter of the sum over the lanes is the sum over the slots. -/
module

public import proofs.«01_k».proof.Proof.ReadS
public import proofs.«01_k».proof.Proof.Spec

@[expose] public section

set_option maxRecDepth 16384

noncomputable section

namespace Cert.KernelIdeal.Attn

open Idealize.ShloMosaic Idealize.SL.Sem Cert.KernelIdeal.Gen Cert.Attn

/-- The slot of row `s`, lane `l`. -/
def slotOf (s : Fin 8) (l : Fin 128) : Fin 256 := ⟨32 * s.val + l.val / 4, by omega⟩

theorem quarter : (Ideal.ofBits .f32 0x3E800000#32 : EReal) = ((1 / 4 : ℝ) : EReal) := by
  simp [Ideal.ofBits, Ideal.ieee, -EReal.coe_mul]; norm_num

theorem four_quarters (x : EReal) : (x + x + x + x) * ((1 / 4 : ℝ) : EReal) = x := by
  induction x with
  | bot =>
    have : (⊥ : EReal) + ⊥ + ⊥ + ⊥ = ⊥ := by simp
    rw [this, EReal.bot_mul_coe_of_pos (by norm_num)]
  | top =>
    have : (⊤ : EReal) + ⊤ + ⊤ + ⊤ = ⊤ := by simp
    rw [this, EReal.top_mul_coe_of_pos (by norm_num)]
  | coe r =>
    rw [← EReal.coe_add, ← EReal.coe_add, ← EReal.coe_add, ← EReal.coe_mul]
    congr 1
    ring

theorem sum_slots (g : Fin 256 → EReal) :
    (∑ s : Fin 8, ∑ l : Fin 128, g (slotOf s l)) = (∑ n, g n) + (∑ n, g n) + (∑ n, g n) + (∑ n, g n) := by
  have e (s : Fin 8) : ∑ l : Fin 128, g (slotOf s l) = ∑ m : Fin 32, (g ⟨32 * s.val + m.val, by omega⟩ + g ⟨32 * s.val + m.val, by omega⟩ +
      g ⟨32 * s.val + m.val, by omega⟩ + g ⟨32 * s.val + m.val, by omega⟩) := by
    rw [sum_split 32 4 rfl]
    refine Finset.sum_congr rfl fun m _ => ?_
    have e (c : Fin 4) : slotOf s ⟨4 * m.val + c.val, by omega⟩ = ⟨32 * s.val + m.val, by omega⟩ :=
      Fin.ext (by show 32 * s.val + (4 * m.val + c.val) / 4 = 32 * s.val + m.val; omega)
    rw [Fin.sum_univ_four, e, e, e, e]
  rw [Finset.sum_congr rfl fun s _ => e s, sum_split 8 32 rfl g]
  simp only [Finset.sum_add_distrib]

theorem peak_slots (b : EReal) (g : Fin 256 → EReal) :
    Finset.univ.fold max b (fun x : Fin 8 × Fin 128 => g (slotOf x.1 x.2)) = Finset.univ.fold max b g := by
  apply le_antisymm
  · rw [Finset.fold_max_le]
    exact ⟨(Finset.le_fold_max _).2 (.inl le_rfl), fun x _ => (Finset.le_fold_max _).2 (.inr ⟨_, Finset.mem_univ _, le_rfl⟩)⟩
  · rw [Finset.fold_max_le]
    refine ⟨(Finset.le_fold_max _).2 (.inl le_rfl), fun n _ => (Finset.le_fold_max _).2
      (.inr ⟨(⟨n.val / 32, by omega⟩, ⟨4 * (n.val % 32), by omega⟩), Finset.mem_univ _, le_of_eq (congrArg g (Fin.ext ?_))⟩)⟩
    show n.val = 32 * (n.val / 32) + 4 * (n.val % 32) / 4
    omega

theorem scoreOf_apply (cnt : BitVec 32) (y : FVec Ideal S8x128 .f32) (g : Fin 256 → EReal) (hy : ∀ s l, y (ix2 s l) = g (slotOf s l))
    (s : Fin 8) (l : Fin 128) : scoreOf cnt y (ix2 s l) = scoreAt cnt g (slotOf s l) := by
  have e := slot_apply s l
  unfold scoreOf scoreAt
  pointwise at e ⊢
  rw [e, hy]
  rfl

theorem expOf_apply (y : FVec Ideal S8x128 .f32) (g : Fin 256 → EReal) (hy : ∀ s l, y (ix2 s l) = g (slotOf s l))
    (s : Fin 8) (l : Fin 128) : expOf y (ix2 s l) = expAt g (slotOf s l) := by
  have em : maxOf y = peak g := by
    unfold maxOf
    pointwise
    simp only [hy]
    exact peak_slots _ g
  unfold expOf expAt
  pointwise
  rw [em, hy]

theorem weights_apply (cnt : BitVec 32) (y : FVec Ideal S8x128 .f32) (g : Fin 256 → EReal) (hy : ∀ s l, y (ix2 s l) = g (slotOf s l))
    (s : Fin 8) (l : Fin 128) : weights cnt y (ix2 s l) = weightAt cnt g (slotOf s l) := by
  have es : sumOf (expOf y) * Ideal.ofBits .f32 0x3E800000#32 = ∑ n, expAt g n := by
    rw [sumOf_apply]
    simp only [expOf_apply y g hy]
    rw [sum_slots, quarter, four_quarters]
  unfold weights weightAt
  pointwise
  rw [es, expOf_apply y g hy]
  rfl

end Cert.KernelIdeal.Attn

end
-- ==== Proof.ReadP.lean ====
/- The pooled rows' stages at an index. -/
module

public import proofs.«01_k».proof.Proof.ReadS

@[expose] public section

set_option maxRecDepth 16384

noncomputable section

namespace Cert.KernelIdeal.Attn

open Idealize.ShloMosaic Idealize.SL.Sem Cert.KernelIdeal.Gen Cert.Attn

theorem keep16_apply (j : Fin 4) (x : FVec Ideal S16x128 .f32) (i : Fin 16) (l : Fin 128) :
    keep16 (BitVec.ofNat 32 j.val) x (ix2 i l) = if l.val % 4 = j.val then x (ix2 i l) else 0 := by
  unfold keep16
  pointwise
  rw [byte16_apply, cmpi_eq_ofNat _ _ (by omega) (by omega), sel_ofBool]

theorem keep8_apply (j : Fin 4) (x : FVec Ideal S8x128 .f32) (i : Fin 8) (l : Fin 128) :
    keep8 (BitVec.ofNat 32 j.val) x (ix2 i l) = if l.val % 4 = j.val then x (ix2 i l) else 0 := by
  unfold keep8
  pointwise
  rw [byte8_apply, cmpi_eq_ofNat _ _ (by omega) (by omega), sel_ofBool]

theorem split16_apply (x : FVec Ideal S16x128 .f32) (j : Fin 4) (i : Fin 16) (l : Fin 128) :
    split16 x (ix2 (⟨16 * j.val + i.val, by omega⟩ : Fin 64) l) = if l.val % 4 = j.val then x (ix2 i l) else 0 := by
  unfold split16
  pointwise
  exact (ladder4 16 (fun j i h => keep16 (BitVec.ofNat 32 j.val) x (ix2 (⟨i, h⟩ : Fin 16) l)) j i.val i.isLt (by omega)).trans
    (keep16_apply j x i l)

theorem split8_apply (x : FVec Ideal S8x128 .f32) (j : Fin 4) (i : Fin 8) (l : Fin 128) :
    split8 x (ix2 (⟨8 * j.val + i.val, by omega⟩ : Fin 32) l) = if l.val % 4 = j.val then x (ix2 i l) else 0 := by
  unfold split8
  pointwise
  exact (ladder4 8 (fun j i h => keep8 (BitVec.ofNat 32 j.val) x (ix2 (⟨i, h⟩ : Fin 8) l)) j i.val i.isLt (by omega)).trans
    (keep8_apply j x i l)

theorem slices_wrow (a : Fin 8) : S8x128.Slices ![a.val, 0] S1x128 := by revert a; decide
theorem slices_sc (t : Fin 4) : S24x512.Slices ![0, 128 * t.val] S16x128 := by revert t; decide

theorem weighted_apply (wb : FVec Ideal S8x128 .f32) (sc : FVec Ideal S24x512 .f32) (a b t : Nat) (hb : b = a + 1) (ha' : a = 2 * t)
    (ht : t < 4) (hA : S8x128.Slices ![a, 0] S1x128)
    (hB : S8x128.Slices ![b, 0] S1x128) (h : S24x512.Slices ![0, 128 * t] S16x128) (i : Fin 16) (l : Fin 128) :
    weighted wb sc a b (128 * t) hA hB h (ix2 i l) = wb (ix2 (⟨2 * t + i.val / 8, by omega⟩ : Fin 8) l) *
      sc (ix2 (⟨i.val, by omega⟩ : Fin 24) (⟨128 * t + l.val, by omega⟩ : Fin 512)) := by
  subst hb ha'
  unfold weighted rowDown mainScale
  pointwise
  congr 1
  split
  · exact congrArg (fun x => wb (ix2 x l)) (Fin.ext (by show 2 * t = 2 * t + i.val / 8; omega))
  · exact congrArg (fun x => wb (ix2 x l)) (Fin.ext (by show 2 * t + 1 = 2 * t + i.val / 8; omega))

theorem lhsMain_apply (wb : FVec Ideal S8x128 .f32) (sc : FVec Ideal S24x512 .f32) (j : Fin 4) (i : Fin 16) (t : Fin 4) (l : Fin 128) :
    lhsMain wb sc (ix2 (⟨16 * j.val + i.val, by omega⟩ : Fin 64) (⟨128 * t.val + l.val, by omega⟩ : Fin 512)) =
      if l.val % 4 = j.val then wb (ix2 (⟨2 * t.val + i.val / 8, by omega⟩ : Fin 8) l) *
        sc (ix2 (⟨i.val, by omega⟩ : Fin 24) (⟨128 * t.val + l.val, by omega⟩ : Fin 512)) else 0 := by
  unfold lhsMain
  pointwise
  refine (ladder4 128 (fun t l h => split16 (weighted wb sc (2 * t.val) (2 * t.val + 1) (128 * t.val)
    (slices_wrow ⟨2 * t.val, by omega⟩) (slices_wrow ⟨2 * t.val + 1, by omega⟩) (slices_sc t))
    (ix2 (⟨16 * j.val + i.val, by omega⟩ : Fin 64) (⟨l, h⟩ : Fin 128))) t l.val l.isLt (by omega)).trans ?_
  rw [split16_apply]
  show (if l.val % 4 = j.val then _ else _) = _
  rw [weighted_apply wb sc (2 * t.val) (2 * t.val + 1) t.val rfl rfl t.isLt]

theorem pool1_apply (wb : FVec Ideal S8x128 .f32) (sc : FVec Ideal S24x512 .f32) (mc : FVec Ideal S512x128 .fp8e4m3) (j : Fin 4) (i : Fin 16) (l : Fin 128) :
    pool1 wb sc mc (ix2 (⟨16 * j.val + i.val, by omega⟩ : Fin 64) l) =
      ∑ t : Fin 4, ∑ m : Fin 32, (wb (ix2 (⟨2 * t.val + i.val / 8, by omega⟩ : Fin 8) (⟨4 * m.val + j.val, by omega⟩ : Fin 128)) *
        sc (ix2 (⟨i.val, by omega⟩ : Fin 24) (⟨128 * t.val + (4 * m.val + j.val), by omega⟩ : Fin 512))) *
        mc (ix2 (⟨128 * t.val + (4 * m.val + j.val), by omega⟩ : Fin 512) l) := by
  unfold pool1
  pointwise
  rw [sum_split 4 128 rfl]
  refine Finset.sum_congr rfl fun t _ => ?_
  rw [sum_split 32 4 rfl]
  refine Finset.sum_congr rfl fun m _ => ?_
  rw [Finset.sum_eq_single j]
  · rw [lhsMain_apply wb sc j i t (⟨4 * m.val + j.val, by omega⟩ : Fin 128), if_pos (by show (4 * m.val + j.val) % 4 = j.val; omega)]
  · intro c _ hc
    rw [lhsMain_apply wb sc j i t (⟨4 * m.val + c.val, by omega⟩ : Fin 128), if_neg (by
      show ¬ (4 * m.val + c.val) % 4 = j.val
      intro h; exact hc (Fin.ext (by omega))), zero_mul]
  · intro h; exact absurd (Finset.mem_univ _) h

theorem pool2_apply (wb : FVec Ideal S8x128 .f32) (sc : FVec Ideal S24x512 .f32) (tc : FVec Ideal S128x128 .fp8e4m3) (j : Fin 4) (s : Fin 8) (l : Fin 128) :
    pool2 wb sc tc (ix2 (⟨8 * j.val + s.val, by omega⟩ : Fin 32) l) =
      ∑ m : Fin 32, (wb (ix2 s (⟨4 * m.val + j.val, by omega⟩ : Fin 128)) *
        sc (ix2 (⟨16 + s.val, by omega⟩ : Fin 24) (⟨128 * (s.val / 2) + (4 * m.val + j.val), by omega⟩ : Fin 512))) *
        tc (ix2 (⟨4 * m.val + j.val, by omega⟩ : Fin 128) l) := by
  unfold pool2
  pointwise
  rw [sum_split 32 4 rfl]
  refine Finset.sum_congr rfl fun m _ => ?_
  rw [Finset.sum_eq_single j]
  · rw [split8_apply _ j s (⟨4 * m.val + j.val, by omega⟩ : Fin 128), if_pos (by show (4 * m.val + j.val) % 4 = j.val; omega)]
    pointwise
    rw [tailScale_apply]
  · intro c _ hc
    rw [split8_apply _ j s (⟨4 * m.val + c.val, by omega⟩ : Fin 128), if_neg (by
      show ¬ (4 * m.val + c.val) % 4 = j.val
      intro h; exact hc (Fin.ext (by omega))), zero_mul]
  · intro h; exact absurd (Finset.mem_univ _) h

theorem own16_apply (x : FVec Ideal S64x128 .f32) (j : Fin 4) (h : S64x128.Slices ![16 * j.val, 0] S16x128) (l : Fin 128) :
    own16 x (16 * j.val) h (ix2 0 l) = x (ix2 (⟨16 * j.val + l.val / 8, by omega⟩ : Fin 64) l) := by
  unfold own16
  pointwise
  rw [Finset.sum_eq_single (⟨l.val / 8, by omega⟩ : Fin 16)]
  · rw [mainMask_apply, sel_ofBool, if_pos rfl]
  · intro i _ hi
    rw [mainMask_apply, sel_ofBool, if_neg (fun h => hi (Fin.ext h))]
  · intro h; exact absurd (Finset.mem_univ _) h

theorem own8_apply (x : FVec Ideal S32x128 .f32) (j : Fin 4) (h : S32x128.Slices ![8 * j.val, 0] S8x128) (l : Fin 128) :
    own8 x (8 * j.val) h (ix2 0 l) = x (ix2 (⟨8 * j.val + l.val / 16, by omega⟩ : Fin 32) l) := by
  unfold own8
  pointwise
  rw [Finset.sum_eq_single (⟨l.val / 16, by omega⟩ : Fin 8)]
  · rw [tailMask_apply, sel_ofBool, if_pos rfl]
  · intro i _ hi
    rw [tailMask_apply, sel_ofBool, if_neg (fun h => hi (Fin.ext h))]
  · intro h; exact absurd (Finset.mem_univ _) h

theorem bytesRows_main (o1 : FVec Ideal S64x128 .f32) (o2 : FVec Ideal S32x128 .f32) (j : Fin 4) (l : Fin 128) :
    bytesRows o1 o2 (ix2 (⟨j.val, by omega⟩ : Fin 8) l) = o1 (ix2 (⟨16 * j.val + l.val / 8, by omega⟩ : Fin 64) l) := by
  match j with
  | 0 => unfold bytesRows; pointwise; simpa using own16_apply o1 0 slices_S64x128_o0_0_S16x128 l
  | 1 => unfold bytesRows; pointwise; exact own16_apply o1 1 _ l
  | 2 => unfold bytesRows; pointwise; exact own16_apply o1 2 _ l
  | 3 => unfold bytesRows; pointwise; exact own16_apply o1 3 _ l

theorem bytesRows_tail (o1 : FVec Ideal S64x128 .f32) (o2 : FVec Ideal S32x128 .f32) (j : Fin 4) (l : Fin 128) :
    bytesRows o1 o2 (ix2 (⟨4 + j.val, by omega⟩ : Fin 8) l) = o2 (ix2 (⟨8 * j.val + l.val / 16, by omega⟩ : Fin 32) l) := by
  match j with
  | 0 => unfold bytesRows; pointwise; simpa using own8_apply o2 0 slices_S32x128_o0_0_S8x128 l
  | 1 => unfold bytesRows; pointwise; exact own8_apply o2 1 _ l
  | 2 => unfold bytesRows; pointwise; exact own8_apply o2 2 _ l
  | 3 => unfold bytesRows; pointwise; exact own8_apply o2 3 _ l

theorem lane_lt (l : Fin 128) (n : Nat) (hn : n < 128) :
    IntOp.cmpi .slt (BitVec.ofNat 32 l.val) (BitVec.ofNat 32 n) = BitVec.ofBool (decide (l.val < n)) := by
  exact WordCmp.cmpi_slt_ofNat (by omega) (by omega)

theorem gathered_main (r : FVec Ideal S8x128 .f32) (j : Fin 4) (w : Fin 64) :
    gathered r (ix3 0 j (⟨w.val, by omega⟩ : Fin 128)) =
      ∑ h : Fin 2, r (ix2 (⟨j.val, by omega⟩ : Fin 8) (⟨64 * h.val + w.val, by omega⟩ : Fin 128)) := by
  unfold gathered rollAdd
  pointwise
  rw [lane_lt (⟨w.val, by omega⟩ : Fin 128) 64 (by omega), sel_ofBool, if_pos w.isLt, Fin.sum_univ_two]
  congr 1
  · exact congrArg (fun x => r (ix2 _ x)) (Fin.ext (by show w.val = 64 * 0 + w.val; omega))
  · exact congrArg (fun x => r (ix2 _ x)) (Fin.ext (by show (w.val + 128 - 64) % 128 = 64 * 1 + w.val; omega))

theorem gathered_tail (r : FVec Ideal S8x128 .f32) (j : Fin 4) (c : Fin 8) :
    gathered r (ix3 0 j (⟨64 + c.val, by omega⟩ : Fin 128)) =
      ∑ s : Fin 8, r (ix2 (⟨4 + j.val, by omega⟩ : Fin 8) (⟨16 * s.val + c.val, by omega⟩ : Fin 128)) := by
  unfold gathered rollAdd
  pointwise
  have hl : IntOp.cmpi .slt (BitVec.ofNat 32 (64 + c.val)) 64#32 = BitVec.ofBool (decide (64 + c.val < 64)) :=
    lane_lt (⟨64 + c.val, by omega⟩ : Fin 128) 64 (by omega)
  simp only [hl]
  rw [sel_ofBool, if_neg (by omega), Fin.sum_univ_eight]
  let Y : Nat → EReal := fun n => if h : n < 128 then r (ix2 (⟨4 + j.val, by omega⟩ : Fin 8) ⟨n, h⟩) else 0
  have hY (n : Nat) (h : n < 128) : r (ix2 (⟨4 + j.val, by omega⟩ : Fin 8) ⟨n, h⟩) = Y n := by
    show _ = if h : n < 128 then r (ix2 (⟨4 + j.val, by omega⟩ : Fin 8) ⟨n, h⟩) else 0
    rw [dif_pos h]
  simp only [hY]
  show Y (64 + c.val) + Y ((64 + c.val + 128 - 64) % 128) + (Y ((64 + c.val + 128 - 32) % 128) + Y (((64 + c.val + 128 - 32) % 128 + 128 - 64) % 128)) +
      (Y ((64 + c.val + 128 - 16) % 128) + Y (((64 + c.val + 128 - 16) % 128 + 128 - 64) % 128) +
        (Y (((64 + c.val + 128 - 16) % 128 + 128 - 32) % 128) + Y ((((64 + c.val + 128 - 16) % 128 + 128 - 32) % 128 + 128 - 64) % 128))) =
    Y (16 * 0 + c.val) + Y (16 * 1 + c.val) + Y (16 * 2 + c.val) + Y (16 * 3 + c.val) + Y (16 * 4 + c.val) + Y (16 * 5 + c.val) +
      Y (16 * 6 + c.val) + Y (16 * 7 + c.val)
  have hc := c.isLt
  rw [show (64 + c.val + 128 - 64) % 128 = 16 * 0 + c.val by omega,
    show ((64 + c.val + 128 - 32) % 128 + 128 - 64) % 128 = 16 * 6 + c.val by omega,
    show (((64 + c.val + 128 - 16) % 128 + 128 - 32) % 128 + 128 - 64) % 128 = 16 * 5 + c.val by omega,
    show ((64 + c.val + 128 - 16) % 128 + 128 - 64) % 128 = 16 * 7 + c.val by omega,
    show ((64 + c.val + 128 - 16) % 128 + 128 - 32) % 128 = 16 * 1 + c.val by omega,
    show (64 + c.val + 128 - 32) % 128 = 16 * 2 + c.val by omega,
    show (64 + c.val + 128 - 16) % 128 = 16 * 3 + c.val by omega]
  show Y (16 * 4 + c.val) + _ + _ + _ = _
  generalize Y (16 * 0 + c.val) = y0, Y (16 * 1 + c.val) = y1, Y (16 * 2 + c.val) = y2, Y (16 * 3 + c.val) = y3,
    Y (16 * 4 + c.val) = y4, Y (16 * 5 + c.val) = y5, Y (16 * 6 + c.val) = y6, Y (16 * 7 + c.val) = y7
  abel

end Cert.KernelIdeal.Attn

end
-- ==== Proof.User.lean ====
/- One user of the kernel: the chain's weights and pooled rows are the attention of `Spec.lean`, over the key words, key
   scales and query the block's packed words hold. -/
module

public import proofs.«01_k».proof.Proof.ReadQ
public import proofs.«01_k».proof.Proof.ReadW
public import proofs.«01_k».proof.Proof.ReadP
public import proofs.«01_k».proof.Proof.Reals

@[expose] public section

set_option maxRecDepth 16384

noncomputable section

namespace Cert.KernelIdeal.Attn

open Idealize.ShloMosaic Idealize.SL.Sem Cert.KernelIdeal.Gen Cert.Attn

/-- The key words and scales a user's blocks hold, slot `32 s + m` of row `s`. -/
structure Key (mb : IVec S1x128x128 32) (tb : IVec S1x32x128 32) (sb : IVec S1x24x128 32)
    (kw : Fin 72 → Fin 256 → BitVec 32) (ks : Fin 9 → Fin 256 → BitVec 32) : Prop where
  main (s : Fin 8) (m : Fin 32) (w : Fin 64) :
    mb (ix3 0 (⟨32 * (s.val / 2) + m.val, by omega⟩ : Fin 128) (⟨64 * (s.val % 2) + w.val, by omega⟩ : Fin 128)) =
      kw ⟨w.val, by omega⟩ ⟨32 * s.val + m.val, by omega⟩
  tail (s : Fin 8) (m : Fin 32) (e : Fin 8) :
    tb (ix3 0 m (⟨16 * s.val + e.val, by omega⟩ : Fin 128)) = kw ⟨64 + e.val, by omega⟩ ⟨32 * s.val + m.val, by omega⟩
  scale (s : Fin 8) (m : Fin 32) (i : Fin 8) :
    sb (ix3 0 (⟨8 * (s.val % 2) + i.val, by omega⟩ : Fin 24) (⟨32 * (s.val / 2) + m.val, by omega⟩ : Fin 128)) =
      ks ⟨i.val, by omega⟩ ⟨32 * s.val + m.val, by omega⟩
  scaleTail (s : Fin 8) (m : Fin 32) :
    sb (ix3 0 (⟨16 + s.val, by omega⟩ : Fin 24) (⟨32 * (s.val / 2) + m.val, by omega⟩ : Fin 128)) =
      ks 8 ⟨32 * s.val + m.val, by omega⟩

/-- The query a user's rows hold: byte `c` of every word, repeated along the lanes, zeros behind the tail words. -/
structure Query (r t : Fin 4 → FVec Ideal S1x128 .f32) (qw : Fin 72 → BitVec 32) (qs : Fin 9 → BitVec 32) : Prop where
  main (c : Fin 4) (h : Fin 2) (i e : Fin 8) : r c (ix2 0 (⟨64 * h.val + (8 * i.val + e.val), by omega⟩ : Fin 128)) =
    code (qw ⟨8 * i.val + e.val, by omega⟩) c.val * scaleVal (qs ⟨i.val, by omega⟩)
  tail (c : Fin 4) (s e : Fin 8) : t c (ix2 0 (⟨16 * s.val + e.val, by omega⟩ : Fin 128)) =
    code (qw ⟨64 + e.val, by omega⟩) c.val * scaleVal (qs 8)
  rest (c : Fin 4) (s e : Fin 8) : t c (ix2 0 (⟨16 * s.val + (8 + e.val), by omega⟩ : Fin 128)) = 0

/-- Codes and scales are real numbers. -/
structure Finite (qw : Fin 72 → BitVec 32) (qs : Fin 9 → BitVec 32) (kw : Fin 72 → Fin 256 → BitVec 32)
    (ks : Fin 9 → Fin 256 → BitVec 32) : Prop where
  qw (w : Fin 72) (c : Fin 4) : IsReal (code (qw w) c.val)
  qs (i : Fin 9) : IsReal (scaleVal (qs i))
  kw (w : Fin 72) (n : Fin 256) (c : Fin 4) : IsReal (code (kw w n) c.val)
  ks (i : Fin 9) (n : Fin 256) : IsReal (scaleVal (ks i n))

/-- A sum over the 288 dimensions, block by block, word by word, byte by byte. -/
theorem sum_dims (f : Fin 288 → EReal) : ∑ d, f d = ∑ c : Fin 4, ∑ b : Fin 9, ∑ e : Fin 8,
    f ⟨32 * b.val + (4 * e.val + c.val), by omega⟩ := by
  rw [sum_split 9 32 rfl]
  have e (b : Fin 9) : ∑ x : Fin 32, f ⟨32 * b.val + x.val, by omega⟩ =
      ∑ c : Fin 4, ∑ e : Fin 8, f ⟨32 * b.val + (4 * e.val + c.val), by omega⟩ := by
    rw [sum_split 8 4 rfl, Finset.sum_comm]
  rw [Finset.sum_congr rfl fun b _ => e b, Finset.sum_comm]

theorem dot_dims (qw : Fin 72 → BitVec 32) (qs : Fin 9 → BitVec 32) (kw : Fin 72 → Fin 256 → BitVec 32) (ks : Fin 9 → Fin 256 → BitVec 32)
    (n : Fin 256) : dotAt qw qs kw ks n = ∑ c : Fin 4, ∑ b : Fin 9, ∑ e : Fin 8,
      (code (qw ⟨8 * b.val + e.val, by omega⟩) c.val * scaleVal (qs b)) * (code (kw ⟨8 * b.val + e.val, by omega⟩ n) c.val * scaleVal (ks b n)) := by
  unfold dotAt
  rw [sum_dims]
  refine Finset.sum_congr rfl fun c _ => Finset.sum_congr rfl fun b _ => Finset.sum_congr rfl fun e _ => ?_
  unfold queryAt keyAt
  have e1 : (32 * b.val + (4 * e.val + c.val)) / 4 = 8 * b.val + e.val := by omega
  have e2 : (32 * b.val + (4 * e.val + c.val)) % 4 = c.val := by omega
  have e3 : (32 * b.val + (4 * e.val + c.val)) / 32 = b.val := by omega
  simp only [e1, e2, e3]

theorem userScore {mb : IVec S1x128x128 32} {tb : IVec S1x32x128 32} {sb : IVec S1x24x128 32} {r t : Fin 4 → FVec Ideal S1x128 .f32}
    {qw : Fin 72 → BitVec 32} {qs : Fin 9 → BitVec 32} {kw : Fin 72 → Fin 256 → BitVec 32} {ks : Fin 9 → Fin 256 → BitVec 32}
    (hk : Key mb tb sb kw ks) (hq : Query r t qw qs) (hf : Finite qw qs kw ks) (s : Fin 8) (l : Fin 128) :
    quadUp (pairUp (yRaw (dots1 (r 0) (r 1) (r 2) (r 3) (mainCodes mb)) (dots2 (t 0) (t 1) (t 2) (t 3) (tailCodes tb)) (scaleAll sb))) (ix2 s l) =
      dotAt qw qs kw ks (slotOf s l) := by
  obtain ⟨m, c, hl⟩ : ∃ (m : Fin 32) (c : Fin 4), l = ⟨4 * m.val + c.val, by omega⟩ :=
    ⟨⟨l.val / 4, by omega⟩, ⟨l.val % 4, by omega⟩, Fin.ext (by show l.val = 4 * (l.val / 4) + l.val % 4; omega)⟩
  have hn : slotOf s l = ⟨32 * s.val + m.val, by omega⟩ := by
    subst hl; exact Fin.ext (by show 32 * s.val + (4 * m.val + c.val) / 4 = 32 * s.val + m.val; omega)
  rw [hn, hl, quad_sum, dot_dims]
  refine Finset.sum_congr rfl fun c _ => ?_
  rw [yRaw_apply, Fin.sum_univ_castSucc (n := 8)]
  have ec : (4 * m.val + c.val) % 4 = c.val := by omega
  have ek : 128 * (s.val / 2) + (4 * m.val + c.val) = 4 * (32 * (s.val / 2) + m.val) + c.val := by omega
  simp only [ec, ek]
  congr 1
  · refine Finset.sum_congr rfl fun i _ => ?_
    rw [dots1_apply r _ c (⟨8 * (s.val % 2) + i.val, by omega⟩ : Fin 16) _,
      scaleAll_apply sb (⟨8 * (s.val % 2) + i.val, by omega⟩ : Fin 24) (⟨32 * (s.val / 2) + m.val, by omega⟩ : Fin 128) c,
      hk.scale s m i]
    have term (e : Fin 8) : r c (ix2 0 (⟨8 * (8 * (s.val % 2) + i.val) + e.val, by omega⟩ : Fin 128)) *
        mainCodes (F := Ideal) mb (ix2 (⟨4 * (32 * (s.val / 2) + m.val) + c.val, by omega⟩ : Fin 512) (⟨8 * (8 * (s.val % 2) + i.val) + e.val, by omega⟩ : Fin 128)) =
        (code (qw ⟨8 * i.val + e.val, by omega⟩) c.val * scaleVal (qs ⟨i.val, by omega⟩)) * code (kw ⟨8 * i.val + e.val, by omega⟩ ⟨32 * s.val + m.val, by omega⟩) c.val := by
      have el : 8 * (8 * (s.val % 2) + i.val) + e.val = 64 * (s.val % 2) + (8 * i.val + e.val) := by omega
      simp only [el]
      rw [hq.main c ⟨s.val % 2, by omega⟩ i e, mainCodes_apply mb (⟨32 * (s.val / 2) + m.val, by omega⟩ : Fin 128) c,
        hk.main s m ⟨8 * i.val + e.val, by omega⟩]
    rw [Finset.sum_congr rfl fun e _ => term e, sum_mul_real _ _ _ (fun e => ((hf.qw _ _).mul (hf.qs _)).mul (hf.kw _ _ _)) (hf.ks _ _)]
    exact Finset.sum_congr rfl fun e _ => mul_assoc _ _ _
  · rw [dots2_apply t _ c s _,
      scaleAll_apply sb (⟨16 + s.val, by omega⟩ : Fin 24) (⟨32 * (s.val / 2) + m.val, by omega⟩ : Fin 128) c, hk.scaleTail s m]
    have term (e : Fin 8) : t c (ix2 0 (⟨16 * s.val + e.val, by omega⟩ : Fin 128)) *
        tailCodes (F := Ideal) tb (ix2 (⟨4 * m.val + c.val, by omega⟩ : Fin 128) (⟨16 * s.val + e.val, by omega⟩ : Fin 128)) =
        (code (qw ⟨64 + e.val, by omega⟩) c.val * scaleVal (qs 8)) * code (kw ⟨64 + e.val, by omega⟩ ⟨32 * s.val + m.val, by omega⟩) c.val := by
      rw [hq.tail c s e, tailCodes_apply, hk.tail s m e]
    have rest (e : Fin 8) : t c (ix2 0 (⟨16 * s.val + (8 + e.val), by omega⟩ : Fin 128)) *
        tailCodes (F := Ideal) tb (ix2 (⟨4 * m.val + c.val, by omega⟩ : Fin 128) (⟨16 * s.val + (8 + e.val), by omega⟩ : Fin 128)) = 0 := by
      rw [hq.rest c s e, zero_mul]
    rw [sum_split 2 8 rfl, Fin.sum_univ_two]
    have z0 (e : Fin 8) : 16 * s.val + (8 * (0 : Fin 2).val + e.val) = 16 * s.val + e.val := by simp
    have z1 (e : Fin 8) : 16 * s.val + (8 * (1 : Fin 2).val + e.val) = 16 * s.val + (8 + e.val) := by simp
    simp only [z0, z1]
    rw [Finset.sum_congr rfl fun e _ => term e, Finset.sum_congr rfl fun e _ => rest e, Finset.sum_const_zero, add_zero,
      sum_mul_real _ _ _ (fun e => ((hf.qw _ _).mul (hf.qs _)).mul (hf.kw _ _ _)) (hf.ks _ _)]
    exact Finset.sum_congr rfl fun e _ => mul_assoc _ _ _

theorem userW_apply {mb : IVec S1x128x128 32} {tb : IVec S1x32x128 32} {sb : IVec S1x24x128 32} {r t : Fin 4 → FVec Ideal S1x128 .f32}
    {qw : Fin 72 → BitVec 32} {qs : Fin 9 → BitVec 32} {kw : Fin 72 → Fin 256 → BitVec 32} {ks : Fin 9 → Fin 256 → BitVec 32}
    (hk : Key mb tb sb kw ks) (hq : Query r t qw qs) (hf : Finite qw qs kw ks) (cnt : BitVec 32) (s : Fin 8) (l : Fin 128) :
    userW cnt mb tb sb (r 0) (r 1) (r 2) (r 3) (t 0) (t 1) (t 2) (t 3) (ix2 s l) =
      weightAt cnt (scoreAt cnt (dotAt qw qs kw ks)) (slotOf s l) :=
  weights_apply cnt _ _ (fun s l => scoreOf_apply cnt _ _ (fun s l => userScore hk hq hf s l) s l) s l

/-- The pooled row of the words 0–63. -/
theorem userP_main {mb : IVec S1x128x128 32} {tb : IVec S1x32x128 32} {sb : IVec S1x24x128 32}
    {kw : Fin 72 → Fin 256 → BitVec 32} {ks : Fin 9 → Fin 256 → BitVec 32} (hk : Key mb tb sb kw ks)
    (w : FVec Ideal S8x128 .f32) (g : Fin 256 → EReal) (hw : ∀ s l, w (ix2 s l) = g (slotOf s l)) (c : Fin 4) (v : Fin 64) :
    userP w mb tb sb (ix3 0 c (⟨v.val, by omega⟩ : Fin 128)) = poolAt g kw ks ⟨4 * v.val + c.val, by omega⟩ := by
  have hw' (s : Fin 8) (m : Fin 32) : rounded w (ix2 s (⟨4 * m.val + c.val, by omega⟩ : Fin 128)) = g ⟨32 * s.val + m.val, by omega⟩ :=
    (show _ = w (ix2 s (⟨4 * m.val + c.val, by omega⟩ : Fin 128)) from rfl).trans ((hw _ _).trans (congrArg g (Fin.ext (by
      show 32 * s.val + (4 * m.val + c.val) / 4 = 32 * s.val + m.val; omega))))
  unfold userP poolAt keyAt
  rw [gathered_main, sum_split 8 32 rfl, sum_split 4 2 rfl, Finset.sum_comm]
  refine Finset.sum_congr rfl fun h _ => ?_
  rw [bytesRows_main, pool1_apply _ _ _ c (⟨(64 * h.val + v.val) / 8, by omega⟩ : Fin 16)]
  refine Finset.sum_congr rfl fun t _ => Finset.sum_congr rfl fun m _ => ?_
  have e1 : 2 * t.val + (64 * h.val + v.val) / 8 / 8 = 2 * t.val + h.val := by omega
  have e2 : 128 * t.val + (4 * m.val + c.val) = 4 * (32 * t.val + m.val) + c.val := by omega
  have e3 : (64 * h.val + v.val) / 8 = 8 * h.val + v.val / 8 := by omega
  have e4 : (4 * v.val + c.val) / 4 = v.val := by omega
  have e5 : (4 * v.val + c.val) % 4 = c.val := by omega
  have e6 : (4 * v.val + c.val) / 32 = v.val / 8 := by omega
  have es : (2 * t.val + h.val) / 2 = t.val := by omega
  have es' : (2 * t.val + h.val) % 2 = h.val := by omega
  have k1 := hk.main ⟨2 * t.val + h.val, by omega⟩ m v
  have k2 := hk.scale ⟨2 * t.val + h.val, by omega⟩ m ⟨v.val / 8, by omega⟩
  simp only [es, es'] at k1 k2
  simp only [e1]
  simp only [e3, e2, e4, e5, e6]
  rw [hw', mainCodes_apply mb (⟨32 * t.val + m.val, by omega⟩ : Fin 128) c,
    scaleAll_apply sb (⟨8 * h.val + v.val / 8, by omega⟩ : Fin 24) (⟨32 * t.val + m.val, by omega⟩ : Fin 128) c, k1, k2,
    mul_assoc, mul_comm (scaleVal _)]

/-- The pooled row of the words 64–71. -/
theorem userP_tail {mb : IVec S1x128x128 32} {tb : IVec S1x32x128 32} {sb : IVec S1x24x128 32}
    {kw : Fin 72 → Fin 256 → BitVec 32} {ks : Fin 9 → Fin 256 → BitVec 32} (hk : Key mb tb sb kw ks)
    (w : FVec Ideal S8x128 .f32) (g : Fin 256 → EReal) (hw : ∀ s l, w (ix2 s l) = g (slotOf s l)) (c : Fin 4) (v : Fin 8) :
    userP w mb tb sb (ix3 0 c (⟨64 + v.val, by omega⟩ : Fin 128)) = poolAt g kw ks ⟨4 * (64 + v.val) + c.val, by omega⟩ := by
  have hw' (s : Fin 8) (m : Fin 32) : rounded w (ix2 s (⟨4 * m.val + c.val, by omega⟩ : Fin 128)) = g ⟨32 * s.val + m.val, by omega⟩ :=
    (show _ = w (ix2 s (⟨4 * m.val + c.val, by omega⟩ : Fin 128)) from rfl).trans ((hw _ _).trans (congrArg g (Fin.ext (by
      show 32 * s.val + (4 * m.val + c.val) / 4 = 32 * s.val + m.val; omega))))
  unfold userP poolAt keyAt
  rw [gathered_tail, sum_split 8 32 rfl]
  refine Finset.sum_congr rfl fun s _ => ?_
  rw [bytesRows_tail, pool2_apply _ _ _ c (⟨(16 * s.val + v.val) / 16, by omega⟩ : Fin 8)]
  refine Finset.sum_congr rfl fun m _ => ?_
  have e1 : (16 * s.val + v.val) / 16 = s.val := by omega
  have e2 : 128 * (s.val / 2) + (4 * m.val + c.val) = 4 * (32 * (s.val / 2) + m.val) + c.val := by omega
  have e4 : (4 * (64 + v.val) + c.val) / 4 = 64 + v.val := by omega
  have e5 : (4 * (64 + v.val) + c.val) % 4 = c.val := by omega
  have e6 : (4 * (64 + v.val) + c.val) / 32 = 8 := by omega
  simp only [e1, e2, e4, e5, e6]
  rw [hw', tailCodes_apply, scaleAll_apply sb (⟨16 + s.val, by omega⟩ : Fin 24) (⟨32 * (s.val / 2) + m.val, by omega⟩ : Fin 128) c,
    hk.tail s m v, hk.scaleTail s m, mul_assoc, mul_comm (scaleVal _)]
  rfl

end Cert.KernelIdeal.Attn

end
-- ==== Proof.Users.lean ====
/- The kernel's two results, entry by entry: under the decoded precondition they are the softmax weights and the pooled rows of `Spec.lean`. -/
module

public import proofs.«01_k».proof.Proof.KRun
public import proofs.«01_k».proof.Proof.Layout
public import proofs.«01_k».proof.Proof.User
public import proofs.«01_k».proof.Proof.ReadQ
public import proofs.«01_k».proof.Proof.ReadW

@[expose] public section

set_option maxRecDepth 65536

noncomputable section

namespace Cert.KernelIdeal.Attn

open Idealize.ShloMosaic Idealize.ShloMosaic.TcCoe Idealize.SL.Sem Cert.KernelIdeal.Gen Cert.Attn

theorem user_val (U : Fin 416) : 8 * (tOf U).val + (uOf U).val = U.val := by
  show 8 * (U.val / 8) + U.val % 8 = U.val; omega

theorem slab_blk3 {α : Type} {p q : Nat} (X : Shape.Idx ⟨3, ![416, p, q]⟩ → α) (U : Fin 416) (a : Fin p) (b : Fin q) :
    slab (blk3 X (tOf U)) (uOf U) (ix3 0 a b) = X (ix3 U a b) := by
  refine congrArg X (funext fun k => Fin.ext ?_)
  fin_cases k
  · exact user_val U
  · rfl
  · rfl

theorem blk2_user {α : Type} {p : Nat} (X : Shape.Idx ⟨2, ![416, p]⟩ → α) (U : Fin 416) (l : Fin p) :
    blk2 X (tOf U) (ix2 (uOf U) l) = X (ix2 U l) := by
  refine congrArg X (funext fun k => Fin.ext ?_)
  fin_cases k
  · exact user_val U
  · rfl

theorem qRow_apply (w s : IVec S8x128 32) (u : Fin 8) (c : Fin 4) (l : Fin 128) :
    qRow (expandQ (F := Ideal) w s) u c (ix2 0 l) = code (w (ix2 u l)) c.val * scaleVal (s (ix2 u l)) := by
  refine (congrArg (expandQ (F := Ideal) w s) (funext fun k => Fin.ext ?_)).trans (expandQ_apply w s u c l)
  fin_cases k
  · show 4 * u.val + c.val + 0 = 4 * u.val + c.val; omega
  · show 0 + l.val = l.val; omega

theorem code_zero (c : Fin 4) : code 0#32 c.val = 0 := by
  have e : byteAt 0#32 c.val = 0#8 := by unfold byteAt; simp
  show Ideal.ofBits .fp8e4m3 (byteAt 0#32 c.val) = 0
  rw [e]; simp [Ideal.ofBits, Ideal.e4m3fn]

variable (m : (ℓ : Loc nD τ sig) → Buf (Elt Ideal) ℓ) (hO : Ok m) (c : Dev nD)

/-- The argument arrays of the whole run. -/
abbrev aM : Shape.Idx ⟨2, ![106496, 64]⟩ → BitVec 32 := (m ((c.tc : Thread nD τ).loc main_arg1) : Vec Ideal S106496x64 .i32)
abbrev aT : Shape.Idx ⟨2, ![416, 4096]⟩ → BitVec 32 := (m ((c.tc : Thread nD τ).loc main_arg2) : Vec Ideal S416x4096 .i32)
abbrev aS : Shape.Idx ⟨2, ![416, 3072]⟩ → BitVec 32 := (m ((c.tc : Thread nD τ).loc main_arg3) : Vec Ideal S416x3072 .i32)
abbrev aQ1 : Shape.Idx ⟨2, ![416, 128]⟩ → BitVec 32 := (m ((c.tc : Thread nD τ).loc main_arg4) : Vec Ideal S416x128 .i32)
abbrev aQ2 : Shape.Idx ⟨2, ![416, 128]⟩ → BitVec 32 := (m ((c.tc : Thread nD τ).loc main_arg5) : Vec Ideal S416x128 .i32)
abbrev aS1 : Shape.Idx ⟨2, ![416, 128]⟩ → BitVec 32 := (m ((c.tc : Thread nD τ).loc main_arg6) : Vec Ideal S416x128 .i32)
abbrev aS2 : Shape.Idx ⟨2, ![416, 128]⟩ → BitVec 32 := (m ((c.tc : Thread nD τ).loc main_arg7) : Vec Ideal S416x128 .i32)

variable (hp : Packed (aM m c) (aT m c) (aS m c) (aQ1 m c) (aQ2 m c) (aS1 m c) (aS2 m c))

theorem key (U : Fin 416) : Key (slab (blk3 (A0 m c) (tOf U)) (uOf U)) (slab (blk3 (A1 m c) (tOf U)) (uOf U)) (slab (blk3 (A2 m c) (tOf U)) (uOf U))
    (kwOf (aM m c) (aT m c) U) (ksOf (aS m c) U) where
  main s k w := by
    refine (slab_blk3 (A0 m c) U _ _).trans ((A0_apply m c U _ _).trans (Eq.trans ?_ (kwOf_main U s k w).symm))
    refine congrArg (aM m c) (funext fun j => Fin.ext ?_)
    fin_cases j
    · show 256 * U.val + (2 * (32 * (s.val / 2) + k.val) + (64 * (s.val % 2) + w.val) / 64) = 256 * U.val + (64 * (s.val / 2) + 2 * k.val + s.val % 2)
      omega
    · show (64 * (s.val % 2) + w.val) % 64 = w.val
      omega
  tail s k e := (slab_blk3 (A1 m c) U _ _).trans ((A1_apply m c U _ _).trans (kwOf_tail U s k e).symm)
  scale s k i := (slab_blk3 (A2 m c) U _ _).trans ((A2_apply m c U _ _).trans (ksOf_main U s k i).symm)
  scaleTail s k := (slab_blk3 (A2 m c) U _ _).trans ((A2_apply m c U _ _).trans (ksOf_tail U s k).symm)

include hp

theorem query (U : Fin 416) : Query (fun j => qRow (expandQ (F := Ideal) (blk2 (A3 m c) (tOf U)) (blk2 (A5 m c) (tOf U))) (uOf U) j)
    (fun j => qRow (expandQ (F := Ideal) (blk2 (A4 m c) (tOf U)) (blk2 (A6 m c) (tOf U))) (uOf U) j)
    (qwOf (aQ1 m c) (aQ2 m c) U) (qsOf (aS1 m c) (aS2 m c) U) where
  main b h i e := by
    refine (qRow_apply _ _ _ _ _).trans ?_
    rw [blk2_user (A3 m c), blk2_user (A5 m c)]
    have e1 : A3 m c (ix2 U (⟨64 * h.val + (8 * i.val + e.val), by omega⟩ : Fin 128)) = qwOf (aQ1 m c) (aQ2 m c) U ⟨8 * i.val + e.val, by omega⟩ := by
      unfold qwOf
      rw [if_pos (by show 8 * i.val + e.val < 64; omega)]
      have := hp.rep1 U ⟨8 * i.val + e.val, by omega⟩
      obtain ⟨h, hh⟩ := h
      have hc : h = 0 ∨ h = 1 := by omega
      rcases hc with rfl | rfl
      · exact congrArg (fun l => aQ1 m c (ix2 U l)) (Fin.ext (by show 64 * 0 + (8 * i.val + e.val) = 8 * i.val + e.val; omega))
      · exact (congrArg (fun l => aQ1 m c (ix2 U l)) (Fin.ext (by show 64 * 1 + (8 * i.val + e.val) = 64 + (8 * i.val + e.val); omega))).trans this
    have e2 : A5 m c (ix2 U (⟨64 * h.val + (8 * i.val + e.val), by omega⟩ : Fin 128)) = qsOf (aS1 m c) (aS2 m c) U ⟨i.val, by omega⟩ := by
      unfold qsOf
      rw [if_pos (by show i.val < 8; omega)]
      exact hp.reps1 U h i e
    rw [e1, e2]
  tail b s e := by
    refine (qRow_apply _ _ _ _ _).trans ?_
    rw [blk2_user (A4 m c), blk2_user (A6 m c)]
    have e1 : A4 m c (ix2 U (⟨16 * s.val + e.val, by omega⟩ : Fin 128)) = qwOf (aQ1 m c) (aQ2 m c) U ⟨64 + e.val, by omega⟩ := by
      unfold qwOf
      rw [if_neg (by show ¬ 64 + e.val < 64; omega)]
      exact (hp.rep2 U s e).trans (congrArg (fun l => aQ2 m c (ix2 U l)) (Fin.ext (by show e.val = 64 + e.val - 64; omega)))
    have e2 : A6 m c (ix2 U (⟨16 * s.val + e.val, by omega⟩ : Fin 128)) = qsOf (aS1 m c) (aS2 m c) U 8 := by
      unfold qsOf
      rw [if_neg (by decide)]
      exact hp.reps2 U s e
    rw [e1, e2]
  rest b s e := by
    refine (qRow_apply _ _ _ _ _).trans ?_
    rw [blk2_user (A4 m c)]
    have e1 : A4 m c (ix2 U (⟨16 * s.val + (8 + e.val), by omega⟩ : Fin 128)) = 0#32 := hp.rest2 U s e
    rw [e1, code_zero]
    exact zero_mul _

theorem finite (U : Fin 416) : Finite (qwOf (aQ1 m c) (aQ2 m c) U) (qsOf (aS1 m c) (aS2 m c) U) (kwOf (aM m c) (aT m c) U) (ksOf (aS m c) U) where
  qw := hp.qw_real U
  qs := hp.qs_real U
  kw := hp.kw_real U
  ks := hp.ks_real U

omit hp in
/-- The weights of user `U` after the run, as the mathematics names them, from the users' counts. -/
abbrev wSpec (C : Fin 416 → BitVec 32) (U : Fin 416) : Fin 256 → EReal :=
  weightAt (C U) (scoreAt (C U) (dotAt (qwOf (aQ1 m c) (aQ2 m c) U) (qsOf (aS1 m c) (aS2 m c) U) (kwOf (aM m c) (aT m c) U) (ksOf (aS m c) U)))

theorem wArr_apply (C : Fin 416 → BitVec 32) (U : Fin 416) (s : Fin 8) (l : Fin 128) :
    wArr (A0 m c) (A1 m c) (A2 m c) (A3 m c) (A4 m c) (A5 m c) (A6 m c) C U (ix2 s l) = wSpec m c C U (slotOf s l) := by
  unfold wArr wUser wRow
  exact userW_apply (key m c U) (query m c hp U) (finite m c hp U) _ s l

variable (D : (p : Fin _) → (c : Dev nD) → Pipeline.Dat τ (Elt Ideal) Unit ℕ (UR sig nD τ) ℕ ((Pipeline.pin pcfgs fun _ => adm m hO) p) c)
  (C : Fin 416 → BitVec 32)

/-- The weights the program returns, for proof data whose body leaves the eight users' pieces at every point. -/
theorem run_weights (h : ∀ t : Fin grid0.N, (D 0 c).after 8 t = ((staged m hO c t).outs fun u => C (userAt t u)).2) (U : Fin 416) (n : Fin 256) :
    (Pipeline.afterTail pcfgs (fun _ => adm m hO) D 0 (V0 m) [hostOps1] c main_v9 : Vec Ideal S416x256 .f32) (ix2 U n) = wSpec m c C U n := by
  refine (tail_w m hO D c _ (final_w m hO (D 0 c) C h) U n).trans ((wOut_apply _ _ _).trans ((wArr_apply m c hp C U _ _).trans (congrArg _ (Fin.ext ?_))))
  show 32 * (4 * (n.val / 128) + n.val % 128 / 32) + 4 * (n.val % 128 % 32) / 4 = n.val
  omega

/-- The pooled rows the program returns. -/
theorem run_pooled (h : ∀ t : Fin grid0.N, (D 0 c).after 7 t = ((staged m hO c t).outs fun u => C (userAt t u)).1) (U : Fin 416) (d : Fin 288) :
    (Pipeline.afterTail pcfgs (fun _ => adm m hO) D 0 (V0 m) [hostOps1] c main_v8 : Vec Ideal S416x288 .bf16) (ix2 U d) =
      poolAt (wSpec m c C U) (kwOf (aM m c) (aT m c) U) (ksOf (aS m c) U) d := by
  refine (tail_p m hO D c _ (final_p m hO (D 0 c) C h) U d).trans ?_
  show pArr (A0 m c) (A1 m c) (A2 m c) (A3 m c) (A4 m c) (A5 m c) (A6 m c) C U (ix3 0 (⟨d.val % 4, by omega⟩ : Fin 4) (⟨d.val / 4, by omega⟩ : Fin 128)) = _
  unfold pArr pUser
  by_cases h : d.val / 4 < 64
  · refine (userP_main (key m c U) _ _ (wArr_apply m c hp C U) (⟨d.val % 4, by omega⟩ : Fin 4) (⟨d.val / 4, h⟩ : Fin 64)).trans (congrArg _ (Fin.ext ?_))
    show 4 * (d.val / 4) + d.val % 4 = d.val; omega
  · have e : (⟨d.val / 4, by omega⟩ : Fin 128) = ⟨64 + (d.val / 4 - 64), by omega⟩ := Fin.ext (by show d.val / 4 = 64 + (d.val / 4 - 64); omega)
    rw [e]
    refine (userP_tail (key m c U) _ _ (wArr_apply m c hp C U) (⟨d.val % 4, by omega⟩ : Fin 4) (⟨d.val / 4 - 64, by omega⟩ : Fin 8)).trans (congrArg _ (Fin.ext ?_))
    show 4 * (64 + (d.val / 4 - 64)) + d.val % 4 = d.val; omega

end Cert.KernelIdeal.Attn

end
-- ==== Proof.RefRead.lean ====
/- The payloads of the reference, entry by entry, over its five loads. -/
module

public import proofs.«01_k».proof.Proof.Gen.ReferenceIdeal.Value
public import proofs.«01_k».proof.Proof.Spec
public import Idealize.ShloMosaic.Lib.Pointwise

@[expose] public section

set_option maxRecDepth 65536

noncomputable section

namespace Cert.ReferenceIdeal.Attn

open Idealize.ShloMosaic Idealize.SL.Sem Cert.ReferenceIdeal.Gen Cert.Attn

/-- What the loads hold of user `U`. -/
structure Loads (P0 : Vec Ideal S416x1 .i32) (P1 : Vec Ideal S29952x256 .i32) (P2 : Vec Ideal S416x288x256 .i32) (P3 : Vec Ideal S29952x1 .i32)
    (P4 : Vec Ideal S416x288x1 .i32) (U : Fin 416) (cnt : BitVec 32) (kw : Fin 72 → Fin 256 → BitVec 32) (ks : Fin 9 → Fin 256 → BitVec 32)
    (qw : Fin 72 → BitVec 32) (qs : Fin 9 → BitVec 32) : Prop where
  count : P0 (ix2 U 0) = cnt
  kWord (w : Fin 72) (n : Fin 256) : P1 (ix2 (⟨72 * U.val + w.val, by omega⟩ : Fin 29952) n) = kw w n
  kScale (d : Fin 288) (n : Fin 256) : P2 (ix3 U d n) = ks ⟨d.val / 32, by omega⟩ n
  qWord (w : Fin 72) : P3 (ix2 (⟨72 * U.val + w.val, by omega⟩ : Fin 29952) 0) = qw w
  qScale (d : Fin 288) : P4 (ix3 U d 0) = qs ⟨d.val / 32, by omega⟩

variable {P0 : Vec Ideal S416x1 .i32} {P1 : Vec Ideal S29952x256 .i32} {P2 : Vec Ideal S416x288x256 .i32} {P3 : Vec Ideal S29952x1 .i32}
  {P4 : Vec Ideal S416x288x1 .i32} {U : Fin 416} {cnt : BitVec 32} {kw : Fin 72 → Fin 256 → BitVec 32} {ks : Fin 9 → Fin 256 → BitVec 32}
  {qw : Fin 72 → BitVec 32} {qs : Fin 9 → BitVec 32}

theorem pay3_apply (h : Loads P0 P1 P2 P3 P4 U cnt kw ks qw qs) (d : Fin 288) (n : Fin 256) :
    k0_pay3 P1 P2 (ix3 U d n) = keyAt kw ks d n := by
  unfold k0_pay3 keyAt
  pointwise
  rw [bitcast_32_8_ix2 P1 _ _ n (⟨72 * U.val + d.val / 4, by omega⟩ : Fin 29952)
      (by show 72 * U.val + d.val / 4 = (U.val * 288 + d.val) / 4; omega),
    h.kWord ⟨d.val / 4, by omega⟩ n, h.kScale d n]
  have e : (U.val * 288 + d.val) % 4 = d.val % 4 := by omega
  show Ideal.ofBits .fp8e4m3 (byteAt _ ((U.val * 288 + d.val) % 4)) * _ = _
  rw [e]
  rfl

theorem pay5_apply (h : Loads P0 P1 P2 P3 P4 U cnt kw ks qw qs) (n : Fin 256) :
    k0_pay5 P1 P2 P3 P4 P0 (ix2 U n) = scoreAt cnt (dotAt qw qs kw ks) n := by
  unfold k0_pay5 k0_pay4 scoreAt
  pointwise
  rw [h.count]
  have e (d : Fin 288) : Ideal.ofBits FTy.fp8e4m3
      (bitcast S119808x1 8 P3 bitcasts_S29952x1_w32_S119808x1_w8 (ix2 (⟨U.val * 288 + d.val, by omega⟩ : Fin 119808) 0)) *
      Ideal.ofBits FTy.f32 (P4 (ix3 U d 0)) * k0_pay3 P1 P2 (ix3 U d n) = queryAt qw qs d * keyAt kw ks d n := by
    rw [pay3_apply h, bitcast_32_8_ix2 P3 _ _ 0 (⟨72 * U.val + d.val / 4, by omega⟩ : Fin 29952)
        (by show 72 * U.val + d.val / 4 = (U.val * 288 + d.val) / 4; omega),
      h.qWord ⟨d.val / 4, by omega⟩, h.qScale d]
    have e : (U.val * 288 + d.val) % 4 = d.val % 4 := by omega
    show Ideal.ofBits .fp8e4m3 (byteAt _ ((U.val * 288 + d.val) % 4)) * _ * _ = _
    rw [e]
    rfl
  rw [Finset.sum_congr rfl fun d _ => e d]
  rfl

theorem pay1_apply (h : Loads P0 P1 P2 P3 P4 U cnt kw ks qw qs) (n : Fin 256) :
    k0_pay1 (k0_pay4 P0) (k0_pay5 P1 P2 P3 P4 P0) (k0_pay6 P1 P2 P3 P4 P0) (ix2 U n) =
      weightAt cnt (scoreAt cnt (dotAt qw qs kw ks)) n := by
  unfold k0_pay1 k0_pay4 k0_pay6 weightAt
  pointwise
  simp only [h.count, pay5_apply h]
  rfl

theorem pay2_apply (h : Loads P0 P1 P2 P3 P4 U cnt kw ks qw qs) (d : Fin 288) :
    k0_pay2 (k0_pay3 P1 P2) (k0_pay4 P0) (k0_pay5 P1 P2 P3 P4 P0) (k0_pay6 P1 P2 P3 P4 P0) (ix2 U d) =
      poolAt (weightAt cnt (scoreAt cnt (dotAt qw qs kw ks))) kw ks d := by
  unfold k0_pay2 poolAt
  pointwise
  simp only [pay1_apply h, pay3_apply h]

end Cert.ReferenceIdeal.Attn

end
-- ==== Proof.RefHost.lean ====
/- What the reference's call is handed: the words, scales and counts of `Layout.lean`. -/
module

public import proofs.«01_k».proof.Proof.RefRead
public import proofs.«01_k».proof.Proof.Layout
public import Idealize.ShloMosaic.Lib.StableHlo.ReadAt

@[expose] public section

set_option maxRecDepth 65536

noncomputable section

namespace Cert.ReferenceIdeal.Attn

open Idealize.ShloMosaic Idealize.ShloMosaic.TcCoe Idealize.SL.Sem Cert.ReferenceIdeal.Gen Cert.Attn

variable (m : (ℓ : Loc nD τ sig) → Buf (Elt Ideal) ℓ) (c : Dev nD)

theorem v43_apply (n : Fin 1664) : (V m c main_v43 : Vec Ideal S1664x1 .i32) (ix2 n 0) =
    (m ((c.tc : Thread nD τ).loc main_arg0) : Vec Ideal S1664 .i32) (ix1 n) := by
  unfold V
  after_reads_at

theorem v36_apply (U : Fin 416) (w : Fin 72) : (V m c main_v36 : Vec Ideal S29952x1 .i32) (ix2 (⟨72 * U.val + w.val, by omega⟩ : Fin 29952) 0) =
    qwOf (m ((c.tc : Thread nD τ).loc main_arg4) : Vec Ideal S416x128 .i32) (m ((c.tc : Thread nD τ).loc main_arg5) : Vec Ideal S416x128 .i32) U w := by
  unfold V
  after_reads_at
  split
  · rename_i h
    after_reads_at
    exact (if_pos h).symm
  · rename_i h
    after_reads_at
    exact (if_neg h).symm

theorem v42_apply (U : Fin 416) (d : Fin 288) : (V m c main_v42 : Vec Ideal S416x288x1 .i32) (ix3 U d 0) =
    qsOf (m ((c.tc : Thread nD τ).loc main_arg6) : Vec Ideal S416x128 .i32) (m ((c.tc : Thread nD τ).loc main_arg7) : Vec Ideal S416x128 .i32) U
      ⟨d.val / 32, by omega⟩ := by
  unfold V
  after_reads_at
  split
  · rename_i h
    after_reads_at
    exact (if_pos h).symm
  · rename_i h
    after_reads_at
    refine Eq.trans ?_ (if_neg h).symm
    exact congrArg (fun l => (m ((c.tc : Thread nD τ).loc main_arg7) : Vec Ideal S416x128 .i32) (ix2 U l)) (Fin.ext (by show d.val / 32 - 8 = 0; omega))

theorem v8_apply (U : Fin 416) (w : Fin 72) (n : Fin 256) : (V m c main_v8 : Vec Ideal S29952x256 .i32) (ix2 (⟨72 * U.val + w.val, by omega⟩ : Fin 29952) n) =
    kwOf (m ((c.tc : Thread nD τ).loc main_arg1) : Vec Ideal S106496x64 .i32) (m ((c.tc : Thread nD τ).loc main_arg2) : Vec Ideal S416x4096 .i32) U w n := by
  unfold V
  after_reads_at
  split
  · rename_i h
    after_reads_at
    refine Eq.trans ?_ (dif_pos h).symm
    exact congrArg (fun l => (m ((c.tc : Thread nD τ).loc main_arg1) : Vec Ideal S106496x64 .i32) (ix2 l (⟨w.val, h⟩ : Fin 64))) (Fin.ext (by
      show U.val * 256 + n.val / 64 * 64 + n.val % 32 * 2 + n.val / 32 % 2 = 256 * U.val + (64 * (n.val / 64) + 2 * (n.val % 32) + n.val / 32 % 2); omega))
  · rename_i h
    after_reads_at
    refine Eq.trans ?_ (dif_neg h).symm
    exact congrArg (fun l => (m ((c.tc : Thread nD τ).loc main_arg2) : Vec Ideal S416x4096 .i32) (ix2 U l)) (Fin.ext (by
      show n.val % 32 * 128 + n.val / 64 * 32 + n.val / 32 % 2 * 16 + (w.val - 64) = 128 * (n.val % 32) + (16 * (n.val / 32) + (w.val - 64)); omega))

theorem v32_apply (U : Fin 416) (d : Fin 288) (n : Fin 256) : (V m c main_v32 : Vec Ideal S416x288x256 .i32) (ix3 U d n) =
    ksOf (m ((c.tc : Thread nD τ).loc main_arg3) : Vec Ideal S416x3072 .i32) U ⟨d.val / 32, by omega⟩ n := by
  unfold V
  after_reads_at
  split
  · rename_i h
    after_reads_at
    refine Eq.trans ?_ (dif_pos h).symm
    exact congrArg (fun l => (m ((c.tc : Thread nD τ).loc main_arg3) : Vec Ideal S416x3072 .i32) (ix2 U l)) (Fin.ext (by
      show (n.val / 32 % 2 * 8 + d.val / 32) * 128 + (n.val / 64 * 32 + n.val % 32) = 128 * (8 * (n.val / 32 % 2) + d.val / 32) + (32 * (n.val / 64) + n.val % 32); omega))
  · rename_i h
    refine Eq.trans ?_ (dif_neg h).symm
    after_reads_at
    split
    · after_reads_at
      exact congrArg (fun l => (m ((c.tc : Thread nD τ).loc main_arg3) : Vec Ideal S416x3072 .i32) (ix2 U l)) (Fin.ext (by
        show (16 + n.val / 32 % 2) * 128 + n.val % 32 = 128 * (16 + n.val / 32) + (32 * (n.val / 64) + n.val % 32); omega))
    · split
      · after_reads_at
        exact congrArg (fun l => (m ((c.tc : Thread nD τ).loc main_arg3) : Vec Ideal S416x3072 .i32) (ix2 U l)) (Fin.ext (by
          show (16 + (2 + n.val / 32 % 2)) * 128 + (32 + n.val % 32) = 128 * (16 + n.val / 32) + (32 * (n.val / 64) + n.val % 32); omega))
      · split
        · after_reads_at
          exact congrArg (fun l => (m ((c.tc : Thread nD τ).loc main_arg3) : Vec Ideal S416x3072 .i32) (ix2 U l)) (Fin.ext (by
            show (16 + (4 + n.val / 32 % 2)) * 128 + (64 + n.val % 32) = 128 * (16 + n.val / 32) + (32 * (n.val / 64) + n.val % 32); omega))
        · after_reads_at
          exact congrArg (fun l => (m ((c.tc : Thread nD τ).loc main_arg3) : Vec Ideal S416x3072 .i32) (ix2 U l)) (Fin.ext (by
            show (16 + (6 + n.val / 32 % 2)) * 128 + (96 + n.val % 32) = 128 * (16 + n.val / 32) + (32 * (n.val / 64) + n.val % 32); omega))

end Cert.ReferenceIdeal.Attn

end
-- ==== Proof.RefRun.lean ====
/- The reference's run: its two results are the pooled rows and the weights of `Spec.lean`. -/
module

public import proofs.«01_k».proof.Proof.RefHost

@[expose] public section

set_option maxRecDepth 65536

noncomputable section

namespace Cert.ReferenceIdeal.Attn

open Idealize.ShloMosaic Idealize.ShloMosaic.TcCoe Idealize.SL.Sem Cert.ReferenceIdeal.Gen Cert.ReferenceIdeal.Value Cert.Attn

variable (m : (ℓ : Loc nD τ sig) → Buf (Elt Ideal) ℓ) (c : Dev nD)

/-- The argument arrays. -/
abbrev aM : Shape.Idx ⟨2, ![106496, 64]⟩ → BitVec 32 := (m ((c.tc : Thread nD τ).loc main_arg1) : Vec Ideal S106496x64 .i32)
abbrev aT : Shape.Idx ⟨2, ![416, 4096]⟩ → BitVec 32 := (m ((c.tc : Thread nD τ).loc main_arg2) : Vec Ideal S416x4096 .i32)
abbrev aS : Shape.Idx ⟨2, ![416, 3072]⟩ → BitVec 32 := (m ((c.tc : Thread nD τ).loc main_arg3) : Vec Ideal S416x3072 .i32)
abbrev aQ1 : Shape.Idx ⟨2, ![416, 128]⟩ → BitVec 32 := (m ((c.tc : Thread nD τ).loc main_arg4) : Vec Ideal S416x128 .i32)
abbrev aQ2 : Shape.Idx ⟨2, ![416, 128]⟩ → BitVec 32 := (m ((c.tc : Thread nD τ).loc main_arg5) : Vec Ideal S416x128 .i32)
abbrev aS1 : Shape.Idx ⟨2, ![416, 128]⟩ → BitVec 32 := (m ((c.tc : Thread nD τ).loc main_arg6) : Vec Ideal S416x128 .i32)
abbrev aS2 : Shape.Idx ⟨2, ![416, 128]⟩ → BitVec 32 := (m ((c.tc : Thread nD τ).loc main_arg7) : Vec Ideal S416x128 .i32)

/-- The one grid point. -/
abbrev pt : Fin cfg0.N := ⟨0, by decide⟩

/-- The loads of the words and the scales, and the load of the counts of 416 users from row `n` on. -/
abbrev r4 (n : Nat) (hn : ∀ a, (![n, 0] : Fin 2 → Nat) a + S416x1.size a ≤ S1664x1.size a) : Rect S1664x1 := Rect.unit (s := S1664x1) ![n, 0] S416x1.size hn
abbrev L0 (n : Nat) (hn : ∀ a, (![n, 0] : Fin 2 → Nat) a + S416x1.size a ≤ S1664x1.size a) : Vec Ideal S416x1 .i32 := View.ld (iblk m c 0 pt) (r4 n hn)
abbrev L1 : Vec Ideal S29952x256 .i32 := View.ld (iblk m c 1 pt) r0_0
abbrev L2 : Vec Ideal S416x288x256 .i32 := View.ld (iblk m c 2 pt) r0_1
abbrev L3 : Vec Ideal S29952x1 .i32 := View.ld (iblk m c 3 pt) r0_2
abbrev L4 : Vec Ideal S416x288x1 .i32 := View.ld (iblk m c 4 pt) r0_3

variable (n : Nat) (hn : ∀ a, (![n, 0] : Fin 2 → Nat) a + S416x1.size a ≤ S1664x1.size a)

/-- User `U`'s count. -/
abbrev aC (h : n + 416 ≤ 1664) (U : Fin 416) : BitVec 32 := (m ((c.tc : Thread nD τ).loc main_arg0) : Vec Ideal S1664 .i32) (ix1 (⟨n + U.val, by omega⟩ : Fin 1664))

theorem L0_eq (h : n + 416 ≤ 1664) (U : Fin 416) : L0 m c n hn (ix2 U 0) = aC m c n h U := by
  refine Eq.trans ?_ (v43_apply m c ⟨n + U.val, by omega⟩)
  refine congrArg (V m c main_v43 : Vec Ideal S1664x1 .i32) (funext fun k => Fin.ext ?_)
  fin_cases k
  · show 0 * 1664 + 1 * (n + 1 * U.val) = n + U.val; omega
  · show 0 * 1 + 1 * (0 + 1 * 0) = 0; omega
theorem L1_eq (y : S29952x256.Idx) : L1 m c y = (V m c main_v8 : Vec Ideal S29952x256 .i32) y := by
  refine congrArg (V m c main_v8 : Vec Ideal S29952x256 .i32) (funext fun k => Fin.ext ?_)
  fin_cases k
  · show 0 * 29952 + 1 * (0 + 1 * (y 0).val) = (y 0).val; omega
  · show 0 * 256 + 1 * (0 + 1 * (y 1).val) = (y 1).val; omega
theorem L2_eq (y : S416x288x256.Idx) : L2 m c y = (V m c main_v32 : Vec Ideal S416x288x256 .i32) y := by
  refine congrArg (V m c main_v32 : Vec Ideal S416x288x256 .i32) (funext fun k => Fin.ext ?_)
  fin_cases k
  · show 0 * 416 + 1 * (0 + 1 * (y 0).val) = (y 0).val; omega
  · show 0 * 288 + 1 * (0 + 1 * (y 1).val) = (y 1).val; omega
  · show 0 * 256 + 1 * (0 + 1 * (y 2).val) = (y 2).val; omega
theorem L3_eq (y : S29952x1.Idx) : L3 m c y = (V m c main_v36 : Vec Ideal S29952x1 .i32) y := by
  refine congrArg (V m c main_v36 : Vec Ideal S29952x1 .i32) (funext fun k => Fin.ext ?_)
  fin_cases k
  · show 0 * 29952 + 1 * (0 + 1 * (y 0).val) = (y 0).val; omega
  · show 0 * 1 + 1 * (0 + 1 * (y 1).val) = (y 1).val; omega
theorem L4_eq (y : S416x288x1.Idx) : L4 m c y = (V m c main_v42 : Vec Ideal S416x288x1 .i32) y := by
  refine congrArg (V m c main_v42 : Vec Ideal S416x288x1 .i32) (funext fun k => Fin.ext ?_)
  fin_cases k
  · show 0 * 416 + 1 * (0 + 1 * (y 0).val) = (y 0).val; omega
  · show 0 * 288 + 1 * (0 + 1 * (y 1).val) = (y 1).val; omega
  · show 0 * 1 + 1 * (0 + 1 * (y 2).val) = (y 2).val; omega

theorem loads (h : n + 416 ≤ 1664) (U : Fin 416) : Loads (L0 m c n hn) (L1 m c) (L2 m c) (L3 m c) (L4 m c) U (aC m c n h U) (kwOf (aM m c) (aT m c) U)
    (ksOf (aS m c) U) (qwOf (aQ1 m c) (aQ2 m c) U) (qsOf (aS1 m c) (aS2 m c) U) where
  count := L0_eq m c n hn h U
  kWord w n := (L1_eq m c _).trans (v8_apply m c U w n)
  kScale d n := (L2_eq m c _).trans (v32_apply m c U d n)
  qWord w := (L3_eq m c _).trans (v36_apply m c U w)
  qScale d := (L4_eq m c _).trans (v42_apply m c U d)

/-- The weights of user `U`, as the mathematics names them, from the users' counts. -/
abbrev wSpec (C : Fin 416 → BitVec 32) (U : Fin 416) : Fin 256 → EReal :=
  weightAt (C U) (scoreAt (C U) (dotAt (qwOf (aQ1 m c) (aQ2 m c) U) (qsOf (aS1 m c) (aS2 m c) U) (kwOf (aM m c) (aT m c) U) (ksOf (aS m c) U)))

/-- What the body stores: the pooled rows and the weights. -/
abbrev pooled : Vec Ideal S416x288 .bf16 :=
  k0_pay2 (k0_pay3 (L1 m c) (L2 m c)) (k0_pay4 (L0 m c n hn)) (k0_pay5 (L1 m c) (L2 m c) (L3 m c) (L4 m c) (L0 m c n hn))
    (k0_pay6 (L1 m c) (L2 m c) (L3 m c) (L4 m c) (L0 m c n hn))
abbrev weights : Vec Ideal S416x256 .f32 :=
  k0_pay1 (k0_pay4 (L0 m c n hn)) (k0_pay5 (L1 m c) (L2 m c) (L3 m c) (L4 m c) (L0 m c n hn)) (k0_pay6 (L1 m c) (L2 m c) (L3 m c) (L4 m c) (L0 m c n hn))

/-- A whole-array store is the array stored. -/
theorem canon_5 (P : Vec Ideal S416x288 .bf16) (y : S416x288.Idx) : View.canon (Val := Elt Ideal) [⟨r0_6, P⟩] y = P y := by
  refine View.canon_apply_of_pieces (Val := Elt Ideal) P _ ?_ y (cover0_5 _ y)
  intro pc hpc
  rcases List.mem_cons.mp hpc with rfl | hpc
  · intro x
    refine congrArg P (funext fun k => Fin.ext ?_)
    fin_cases k
    · show (x 0).val = 0 + 1 * (x 0).val; omega
    · show (x 1).val = 0 + 1 * (x 1).val; omega
  · nomatch hpc

/-- A whole-array store is the array stored. -/
theorem canon_6 (P : Vec Ideal S416x256 .f32) (y : S416x256.Idx) : View.canon (Val := Elt Ideal) [⟨r0_5, P⟩] y = P y := by
  refine View.canon_apply_of_pieces (Val := Elt Ideal) P _ ?_ y (cover0_6 _ y)
  intro pc hpc
  rcases List.mem_cons.mp hpc with rfl | hpc
  · intro x
    refine congrArg P (funext fun k => Fin.ext ?_)
    fin_cases k
    · show (x 0).val = 0 + 1 * (x 0).val; omega
    · show (x 1).val = 0 + 1 * (x 1).val; omega
  · nomatch hpc

theorem flush5 : (cfg0.win 5).flush pt = true := (by decide +kernel : win0_5.flush (⟨0, by decide⟩ : Fin grid0.N) = true)
theorem flush6 : (cfg0.win 6).flush pt = true := (by decide +kernel : win0_6.flush (⟨0, by decide⟩ : Fin grid0.N) = true)

/-! ## The results, for proof data whose body stores the two arrays -/

variable {c} (d : Pipeline.Dat τ (Elt Ideal) Unit ℕ (UR sig nD τ) ℕ cfg0 c)

theorem pooled_out (h : d.after 5 pt = View.canon (Val := Elt Ideal) [⟨r0_6, pooled m c n hn⟩]) (y : S416x288.Idx) :
    (d.arrAt 5 cfg0.N : Vec Ideal S416x288 .bf16) y = pooled m c n hn y := by
  have e := congrFun (d.read_blk_arrAt_eq_flushed 5 disjoint5 cfg0.N pt pt.isLt flush5) y
  have f : d.flushed 5 pt = (cfg0.win 5).cut (grid0.coords pt) (d.after 5 pt) := rfl
  rw [f, h] at e
  refine Eq.trans ?_ (e.trans (canon_5 _ y))
  refine congrArg (d.arrAt 5 cfg0.N) (funext fun k => Fin.ext ?_)
  fin_cases k
  · show (y 0).val = 0 * 416 + 1 * (y 0).val; omega
  · show (y 1).val = 0 * 288 + 1 * (y 1).val; omega

theorem weights_out (h : d.after 6 pt = View.canon (Val := Elt Ideal) [⟨r0_5, weights m c n hn⟩]) (y : S416x256.Idx) :
    (d.arrAt 6 cfg0.N : Vec Ideal S416x256 .f32) y = weights m c n hn y := by
  have e := congrFun (d.read_blk_arrAt_eq_flushed 6 disjoint6 cfg0.N pt pt.isLt flush6) y
  have f : d.flushed 6 pt = (cfg0.win 6).cut (grid0.coords pt) (d.after 6 pt) := rfl
  rw [f, h] at e
  refine Eq.trans ?_ (e.trans (canon_6 _ y))
  refine congrArg (d.arrAt 6 cfg0.N) (funext fun k => Fin.ext ?_)
  fin_cases k
  · show (y 0).val = 0 * 416 + 1 * (y 0).val; omega
  · show (y 1).val = 0 * 256 + 1 * (y 1).val; omega

theorem run_pooled (h : d.after 5 pt = View.canon (Val := Elt Ideal) [⟨r0_6, pooled m c n hn⟩]) (hn' : n + 416 ≤ 1664) (U : Fin 416) (e : Fin 288) :
    (d.arrAt 5 cfg0.N : Vec Ideal S416x288 .bf16) (ix2 U e) = poolAt (wSpec m c (aC m c n hn') U) (kwOf (aM m c) (aT m c) U) (ksOf (aS m c) U) e :=
  (pooled_out m n hn d h _).trans (pay2_apply (loads m c n hn hn' U) e)

theorem run_weights (h : d.after 6 pt = View.canon (Val := Elt Ideal) [⟨r0_5, weights m c n hn⟩]) (hn' : n + 416 ≤ 1664) (U : Fin 416) (e : Fin 256) :
    (d.arrAt 6 cfg0.N : Vec Ideal S416x256 .f32) (ix2 U e) = wSpec m c (aC m c n hn') U e :=
  (weights_out m n hn d h _).trans (pay1_apply (loads m c n hn hn' U) e)

end Cert.ReferenceIdeal.Attn

end
-- ==== Proof.Decode.lean ====
/- The precondition, read entry by entry. -/
module

public import proofs.«01_k».proof.Pre_packed
public import proofs.«01_k».proof.Proof.Layout
public import Idealize.ShloMosaic.Lib.Pointwise

@[expose] public section

set_option maxRecDepth 65536

noncomputable section

namespace Cert.Attn

open Idealize.ShloMosaic Cert.Pre_packed

theorem and_one {a b : BitVec 1} (h : IntOp.andi a b = 1#1) : a = 1#1 ∧ b = 1#1 := by
  revert a b; decide

theorem or_left {a b : BitVec 1} (h : IntOp.ori a b = 1#1) (hb : b = 0#1) : a = 1#1 := by
  revert a b; decide

theorem ne_of_cmpi {a b : BitVec 32} (h : IntOp.cmpi .ne a b = 1#1) : a ≠ b := by
  intro e; subst e; simp [IntOp.cmpi] at h

theorem eq_of_cmpi {a b : BitVec 32} (h : IntOp.cmpi .eq a b = 1#1) : a = b := by
  by_contra e
  have hf : (a == b) = false := by simpa using e
  have h : BitVec.ofBool (a == b) = 1#1 := h
  rw [hf] at h
  exact absurd h (by decide)

/-- Half of `s`, rounded down, by the host's signed division. -/
theorem floor_half : ∀ s : Fin 8, ~~~IntOp.cmpi .eq
    (Scalar.select
      (IntOp.andi
        (IntOp.cmpi .ne (if BitVec.ofNat 32 s.val = 0 then (0 : BitVec 32) else if (BitVec.ofNat 32 s.val).msb = true then -1 else 1)
          (if (2#32 : BitVec 32) = 0 then (0 : BitVec 32) else if (2#32 : BitVec 32).msb = true then -1 else 1))
        (IntOp.cmpi .ne (IntOp.remsi ArithUnit.host (BitVec.ofNat 32 s.val) 2#32) 0#32))
      (IntOp.subi (IntOp.divsi ArithUnit.host (BitVec.ofNat 32 s.val) 2#32) 1#32)
      (IntOp.divsi ArithUnit.host (BitVec.ofNat 32 s.val) 2#32))
    (BitVec.ofNat 32 (s.val / 2)) = 0#1 := by decide

/-- A NaN byte shows in the whole word under the byte's mask. -/
theorem nan_bits (w : BitVec 32) (b : Fin 4) (h : byteAt w b.val &&& 0x7F#8 = 0x7F#8) :
    IntOp.andi w (0x7F#32 <<< (8 * b.val)) = 0x7F#32 <<< (8 * b.val) := by
  have hb (j : Nat) (hj : j < 7) : w.getLsbD (8 * b.val + j) = true := by
    have e := congrArg (fun v : BitVec 8 => v.getLsbD j) h
    have ht : ∀ j : Fin 7, (0x7F#8).getLsbD j.val = true := by decide
    have hc := ht ⟨j, hj⟩
    simp only [BitVec.getLsbD_and] at e
    rw [hc, Bool.and_true, byteAt, BitVec.getLsbD_extractLsb'] at e
    simpa using (Bool.and_eq_true_iff.1 e).2
  show w &&& _ = _
  apply BitVec.eq_of_getLsbD_eq
  intro i hi
  rw [BitVec.getLsbD_and]
  by_cases hm : 8 * b.val ≤ i ∧ i < 8 * b.val + 7
  · have e := hb (i - 8 * b.val) (by omega)
    rw [show 8 * b.val + (i - 8 * b.val) = i by omega] at e
    rw [e, Bool.true_and]
  · have ht : ∀ (b : Fin 4) (i : Fin 32), ¬(8 * b.val ≤ i.val ∧ i.val < 8 * b.val + 7) → (0x7F#32 <<< (8 * b.val)).getLsbD i.val = false := by decide
    have e := ht b ⟨i, hi⟩ hm
    rw [e, Bool.and_false]

/-- The four comparisons of a word say that none of its bytes is a NaN code. -/
theorem codesOk (w : BitVec 32)
    (h : IntOp.andi (IntOp.andi (IntOp.andi (IntOp.cmpi .ne (IntOp.andi w 127#32) 127#32) (IntOp.cmpi .ne (IntOp.andi w 32512#32) 32512#32))
      (IntOp.cmpi .ne (IntOp.andi w 8323072#32) 8323072#32)) (IntOp.cmpi .ne (IntOp.andi w 2130706432#32) 2130706432#32) = 1#1) : CodesOk w := by
  obtain ⟨h, h3⟩ := and_one h
  obtain ⟨h, h2⟩ := and_one h
  obtain ⟨h0, h1⟩ := and_one h
  have k0 := ne_of_cmpi h0
  have k1 := ne_of_cmpi h1
  have k2 := ne_of_cmpi h2
  have k3 := ne_of_cmpi h3
  intro b e
  have n := nan_bits w b e
  fin_cases b
  · exact k0 n
  · exact k1 n
  · exact k2 n
  · exact k3 n

theorem finiteBits (w : BitVec 32) (h : IntOp.cmpi .ne (IntOp.andi w 2139095040#32) 2139095040#32 = 1#1) : FiniteBits w := ne_of_cmpi h

variable [Cert.Pre_packed.Facts] (C : IVec Cert.Pre_packed.S1664 32) (M : IVec S106496x64 32) (T : IVec S416x4096 32) (S : IVec S416x3072 32) (Q1 Q2 S1 S2 : IVec S416x128 32)

theorem main_at (hp : (fn (F := Ideal) C M T S Q1 Q2 S1 S2).1 = fun _ => 1#1) (r : Fin 106496) (w : Fin 64) :
    CodesOk (M (ix2 r w)) := by
  have g := congrFun hp (ix2 r w)
  dsimp only [fn, fn_part1, fn_part2, fn_part3, fn_part4, fn_part5, fn_part6, fn_part7] at g
  pointwise at g
  exact codesOk _ g

theorem tail_at (hp : (fn (F := Ideal) C M T S Q1 Q2 S1 S2).2.1 = fun _ => 1#1) (U : Fin 416) (m : Fin 32) (s e : Fin 8) :
    CodesOk (T (ix2 U (⟨128 * m.val + (16 * s.val + e.val), by omega⟩ : Fin 4096))) := by
  have g := congrFun hp (ix4 U m s e)
  dsimp only [fn, fn_part1, fn_part2, fn_part3, fn_part4, fn_part5, fn_part6, fn_part7] at g
  pointwise at g
  have hi : (⟨128 * m.val + (16 * s.val + e.val), by omega⟩ : Fin 4096) = ⟨m.val * 128 + s.val * 16 + e.val, by omega⟩ := Fin.ext (by show 128 * m.val + (16 * s.val + e.val) = m.val * 128 + s.val * 16 + e.val; omega)
  rw [hi]
  exact codesOk _ g

theorem scale_at (hp : (fn (F := Ideal) C M T S Q1 Q2 S1 S2).2.2.1 = fun _ => 1#1) (U : Fin 416) (r : Fin 16) (l : Fin 128) :
    FiniteBits (S (ix2 U (⟨128 * r.val + l.val, by omega⟩ : Fin 3072))) := by
  have g := congrFun hp (ix4 U r (⟨l.val / 32, by omega⟩ : Fin 4) (⟨l.val % 32, by omega⟩ : Fin 32))
  dsimp only [fn, fn_part1, fn_part2, fn_part3, fn_part4, fn_part5, fn_part6, fn_part7] at g
  pointwise at g
  have hi : (⟨128 * r.val + l.val, by omega⟩ : Fin 3072) = ⟨r.val * 128 + l.val / 32 * 32 + l.val % 32, by omega⟩ := Fin.ext (by show 128 * r.val + l.val = r.val * 128 + l.val / 32 * 32 + l.val % 32; omega)
  rw [hi]
  exact finiteBits _ g

theorem scaleTail_at (hp : (fn (F := Ideal) C M T S Q1 Q2 S1 S2).2.2.2.1 = fun _ => 1#1) (U : Fin 416) (s : Fin 8) (m : Fin 32) :
    FiniteBits (S (ix2 U (⟨128 * (16 + s.val) + (32 * (s.val / 2) + m.val), by omega⟩ : Fin 3072))) := by
  have g := congrFun hp (ix4 U s (⟨s.val / 2, by omega⟩ : Fin 4) m)
  dsimp only [fn, fn_part1, fn_part2, fn_part3, fn_part4, fn_part5, fn_part6, fn_part7, fn_floor_divide, fn_where] at g
  pointwise at g
  replace g := or_left g (floor_half s)
  have hi : (⟨128 * (16 + s.val) + (32 * (s.val / 2) + m.val), by omega⟩ : Fin 3072) = ⟨(16 + s.val) * 128 + s.val / 2 * 32 + m.val, by omega⟩ := Fin.ext (by show 128 * (16 + s.val) + (32 * (s.val / 2) + m.val) = (16 + s.val) * 128 + s.val / 2 * 32 + m.val; omega)
  rw [hi]
  exact finiteBits _ g

theorem q1_at (hp : (fn (F := Ideal) C M T S Q1 Q2 S1 S2).2.2.2.2.1 = fun _ => 1#1) (U : Fin 416) (w : Fin 64) :
    CodesOk (Q1 (ix2 U (⟨w.val, by omega⟩ : Fin 128))) := by
  have g := congrFun hp (ix2 U w)
  dsimp only [fn, fn_part1, fn_part2, fn_part3, fn_part4, fn_part5, fn_part6, fn_part7] at g
  pointwise at g
  exact codesOk _ g

theorem rep1_at (hp : (fn (F := Ideal) C M T S Q1 Q2 S1 S2).2.2.2.2.2.1 = fun _ => 1#1) (U : Fin 416) (w : Fin 64) :
    Q1 (ix2 U (⟨64 + w.val, by omega⟩ : Fin 128)) = Q1 (ix2 U (⟨w.val, by omega⟩ : Fin 128)) := by
  have g := congrFun hp (ix2 U w)
  dsimp only [fn, fn_part1, fn_part2, fn_part3, fn_part4, fn_part5, fn_part6, fn_part7] at g
  pointwise at g
  exact eq_of_cmpi g

theorem q2_at (hp : (fn (F := Ideal) C M T S Q1 Q2 S1 S2).2.2.2.2.2.2.1 = fun _ => 1#1) (U : Fin 416) (w : Fin 8) :
    CodesOk (Q2 (ix2 U (⟨w.val, by omega⟩ : Fin 128))) := by
  have g := congrFun hp (ix2 U w)
  dsimp only [fn, fn_part1, fn_part2, fn_part3, fn_part4, fn_part5, fn_part6, fn_part7] at g
  pointwise at g
  exact codesOk _ g

theorem rep2_at (hp : (fn (F := Ideal) C M T S Q1 Q2 S1 S2).2.2.2.2.2.2.2.1 = fun _ => 1#1) (U : Fin 416) (s e : Fin 8) :
    Q2 (ix2 U (⟨16 * s.val + e.val, by omega⟩ : Fin 128)) = Q2 (ix2 U (⟨e.val, by omega⟩ : Fin 128)) := by
  have g := congrFun hp (ix3 U s e)
  dsimp only [fn, fn_part1, fn_part2, fn_part3, fn_part4, fn_part5, fn_part6, fn_part7] at g
  pointwise at g
  have hi : (⟨16 * s.val + e.val, by omega⟩ : Fin 128) = ⟨s.val * 16 + e.val, by omega⟩ := Fin.ext (by show 16 * s.val + e.val = s.val * 16 + e.val; omega)
  rw [hi]
  exact eq_of_cmpi g

theorem rest2_at (hp : (fn (F := Ideal) C M T S Q1 Q2 S1 S2).2.2.2.2.2.2.2.2.1 = fun _ => 1#1) (U : Fin 416) (s e : Fin 8) :
    Q2 (ix2 U (⟨16 * s.val + (8 + e.val), by omega⟩ : Fin 128)) = 0#32 := by
  have g := congrFun hp (ix3 U s e)
  dsimp only [fn, fn_part1, fn_part2, fn_part3, fn_part4, fn_part5, fn_part6, fn_part7] at g
  pointwise at g
  have hi : (⟨16 * s.val + (8 + e.val), by omega⟩ : Fin 128) = ⟨s.val * 16 + (8 + e.val), by omega⟩ := Fin.ext (by show 16 * s.val + (8 + e.val) = s.val * 16 + (8 + e.val); omega)
  rw [hi]
  exact eq_of_cmpi g

theorem s1_at (hp : (fn (F := Ideal) C M T S Q1 Q2 S1 S2).2.2.2.2.2.2.2.2.2.1 = fun _ => 1#1) (U : Fin 416) (i : Fin 8) :
    FiniteBits (S1 (ix2 U (⟨8 * i.val, by omega⟩ : Fin 128))) := by
  have g := congrFun hp (ix2 U i)
  dsimp only [fn, fn_part1, fn_part2, fn_part3, fn_part4, fn_part5, fn_part6, fn_part7] at g
  pointwise at g
  exact finiteBits _ g

theorem reps1_at (hp : (fn (F := Ideal) C M T S Q1 Q2 S1 S2).2.2.2.2.2.2.2.2.2.2.1 = fun _ => 1#1) (U : Fin 416) (h : Fin 2) (i e : Fin 8) :
    S1 (ix2 U (⟨64 * h.val + (8 * i.val + e.val), by omega⟩ : Fin 128)) = S1 (ix2 U (⟨8 * i.val, by omega⟩ : Fin 128)) := by
  have g := congrFun hp (ix4 U h i e)
  dsimp only [fn, fn_part1, fn_part2, fn_part3, fn_part4, fn_part5, fn_part6, fn_part7] at g
  pointwise at g
  have hi : (⟨64 * h.val + (8 * i.val + e.val), by omega⟩ : Fin 128) = ⟨h.val * 64 + i.val * 8 + e.val, by omega⟩ := Fin.ext (by show 64 * h.val + (8 * i.val + e.val) = h.val * 64 + i.val * 8 + e.val; omega)
  rw [hi]
  exact eq_of_cmpi g

theorem s2_at (hp : (fn (F := Ideal) C M T S Q1 Q2 S1 S2).2.2.2.2.2.2.2.2.2.2.2.1 = fun _ => 1#1) (U : Fin 416) :
    FiniteBits (S2 (ix2 U (0 : Fin 128))) := by
  have g := congrFun hp (ix2 U (0 : Fin 1))
  dsimp only [fn, fn_part1, fn_part2, fn_part3, fn_part4, fn_part5, fn_part6, fn_part7] at g
  pointwise at g
  exact finiteBits _ g

theorem reps2_at (hp : (fn (F := Ideal) C M T S Q1 Q2 S1 S2).2.2.2.2.2.2.2.2.2.2.2.2 = fun _ => 1#1) (U : Fin 416) (s e : Fin 8) :
    S2 (ix2 U (⟨16 * s.val + e.val, by omega⟩ : Fin 128)) = S2 (ix2 U (0 : Fin 128)) := by
  have g := congrFun hp (ix3 U s e)
  dsimp only [fn, fn_part1, fn_part2, fn_part3, fn_part4, fn_part5, fn_part6, fn_part7] at g
  pointwise at g
  have hi : (⟨16 * s.val + e.val, by omega⟩ : Fin 128) = ⟨s.val * 16 + e.val, by omega⟩ := Fin.ext (by show 16 * s.val + e.val = s.val * 16 + e.val; omega)
  rw [hi]
  exact eq_of_cmpi g

/-- The precondition says what `Packed` says. -/
theorem packed_of (h : (fn (F := Ideal) C M T S Q1 Q2 S1 S2).1 = (fun _ => 1#1) ∧
      (fn (F := Ideal) C M T S Q1 Q2 S1 S2).2.1 = (fun _ => 1#1) ∧
      (fn (F := Ideal) C M T S Q1 Q2 S1 S2).2.2.1 = (fun _ => 1#1) ∧
      (fn (F := Ideal) C M T S Q1 Q2 S1 S2).2.2.2.1 = (fun _ => 1#1) ∧
      (fn (F := Ideal) C M T S Q1 Q2 S1 S2).2.2.2.2.1 = (fun _ => 1#1) ∧
      (fn (F := Ideal) C M T S Q1 Q2 S1 S2).2.2.2.2.2.1 = (fun _ => 1#1) ∧
      (fn (F := Ideal) C M T S Q1 Q2 S1 S2).2.2.2.2.2.2.1 = (fun _ => 1#1) ∧
      (fn (F := Ideal) C M T S Q1 Q2 S1 S2).2.2.2.2.2.2.2.1 = (fun _ => 1#1) ∧
      (fn (F := Ideal) C M T S Q1 Q2 S1 S2).2.2.2.2.2.2.2.2.1 = (fun _ => 1#1) ∧
      (fn (F := Ideal) C M T S Q1 Q2 S1 S2).2.2.2.2.2.2.2.2.2.1 = (fun _ => 1#1) ∧
      (fn (F := Ideal) C M T S Q1 Q2 S1 S2).2.2.2.2.2.2.2.2.2.2.1 = (fun _ => 1#1) ∧
      (fn (F := Ideal) C M T S Q1 Q2 S1 S2).2.2.2.2.2.2.2.2.2.2.2.1 = (fun _ => 1#1) ∧
      (fn (F := Ideal) C M T S Q1 Q2 S1 S2).2.2.2.2.2.2.2.2.2.2.2.2 = (fun _ => 1#1)) : Packed M T S Q1 Q2 S1 S2 := by
  obtain ⟨h0, h1, h2, h3, h4, h5, h6, h7, h8, h9, h10, h11, h12⟩ := h
  exact {
    main := main_at C M T S Q1 Q2 S1 S2 h0
    tail := tail_at C M T S Q1 Q2 S1 S2 h1
    scale := scale_at C M T S Q1 Q2 S1 S2 h2
    scaleTail := scaleTail_at C M T S Q1 Q2 S1 S2 h3
    q1 := q1_at C M T S Q1 Q2 S1 S2 h4
    rep1 := rep1_at C M T S Q1 Q2 S1 S2 h5
    q2 := q2_at C M T S Q1 Q2 S1 S2 h6
    rep2 := rep2_at C M T S Q1 Q2 S1 S2 h7
    rest2 := rest2_at C M T S Q1 Q2 S1 S2 h8
    s1 := s1_at C M T S Q1 Q2 S1 S2 h9
    reps1 := reps1_at C M T S Q1 Q2 S1 S2 h10
    s2 := s2_at C M T S Q1 Q2 S1 S2 h11
    reps2 := reps2_at C M T S Q1 Q2 S1 S2 h12
  }

end Cert.Attn

end
-- ==== Proof.Agree.lean ====
/- The precondition's shape facts, and the meeting of the two sides: proof data of the kernel's call and of the reference's call
   that name the same users' counts give equal results. -/
module

public import proofs.«01_k».proof.Defs
public import proofs.«01_k».proof.Proof.Users
public import proofs.«01_k».proof.Proof.RefRun
public import proofs.«01_k».proof.Proof.Decode

@[expose] public section

set_option maxRecDepth 65536

noncomputable section

namespace Cert.Pre_packed

open Idealize.ShloMosaic

/-- The shape facts the precondition states. -/
theorem facts : Facts where
  shapeCasts_S416x4096_S416x32x8x16 := by decide
  shapeCasts_S416x3072_S416x24x4x32 := by decide
  bcast_S_S416x8x4x32 := by decide
  shapeCasts_S416x128_S416x8x16 := by decide
  bcast_S_S106496x64 := by decide
  slices_S416x32x8x16_S416x32x8x8_0_0_0_0 := by decide
  bcast_S_S416x32x8x8 := by decide
  slices_S416x24x4x32_S416x16x4x32_0_0_0_0 := by decide
  bcast_S_S416x16x4x32 := by decide
  slices_S416x24x4x32_S416x8x4x32_0_16_0_0 := by decide
  slices_S416x128_S416x64_0_0 := by decide
  bcast_S_S416x64 := by decide
  slices_S416x128_S416x64_0_64 := by decide
  slices_S416x128_S416x8_0_0 := by decide
  bcast_S_S416x8 := by decide
  slices_S416x8x16_S416x8x8_0_0_0 := by decide
  bcast_S416x8_S416x1x8_0_2 := by decide
  bcast_S416x1x8_S416x8x8_0_1_2 := by decide
  slices_S416x8x16_S416x8x8_0_0_8 := by decide
  bcast_S_S416x8x8 := by decide
  slicesBy_S416x128_S416x8_0s1_0s8 := by decide
  shapeCasts_S416x128_S416x2x8x8 := by decide
  bcast_S416x8_S416x1x8x1_0_2 := by decide
  bcast_S416x1x8x1_S416x2x8x8_0_1_2_3 := by decide
  slices_S416x128_S416x1_0_0 := by decide
  bcast_S_S416x1 := by decide
  bcast_S416x1_S416x1x1_0_1 := by decide
  bcast_S416x1x1_S416x8x8_0_1_2 := by decide

end Cert.Pre_packed

namespace Cert.Attn

open Idealize.ShloMosaic Idealize.ShloMosaic.TcCoe Idealize.SL.Sem
open Idealize.ShloMosaic.Pipeline (Dat)

/-- Every index of a matrix is a pair. -/
theorem pair_surj {p q : Nat} (y : Shape.Idx ⟨2, ![p, q]⟩) : ∃ (a : Fin p) (b : Fin q), y = ix2 a b :=
  ⟨y 0, y 1, by funext k; fin_cases k <;> rfl⟩

theorem ext_matrix {α : Type} {p q : Nat} {x y : Shape.Idx ⟨2, ![p, q]⟩ → α} (h : ∀ a b, x (ix2 a b) = y (ix2 a b)) : x = y :=
  funext fun i => by obtain ⟨a, b, rfl⟩ := pair_surj i; exact h a b

open Cert.KernelIdeal (pcfgs) in
open Cert.KernelIdeal.Gen Cert.KernelIdeal.Attn in
/-- The results agree: the kernel's proof data `D`, whose body leaves in its two output blocks the pieces of the users `n`, `n + 1`, …, and the
    reference's proof data `d`, whose body reads the counts from row `n` on, end with the same pooled rows and the same weights. -/
theorem agree (n : Nat) (hn : n + 416 ≤ 1664)
    (hr : ∀ a, (![n, 0] : Fin 2 → Nat) a + Cert.ReferenceIdeal.S416x1.size a ≤ Cert.ReferenceIdeal.S1664x1.size a)
    (m : (ℓ : Loc Cert.KernelIdeal.nD Cert.KernelIdeal.τ Cert.KernelIdeal.sig) → Buf (Elt Ideal) ℓ) (hO : Ok m) (c : Dev Cert.KernelIdeal.nD)
    (m' : (ℓ : Loc Cert.ReferenceIdeal.nD Cert.ReferenceIdeal.τ Cert.ReferenceIdeal.sig) → Buf (Elt Ideal) ℓ)
    (hp : Packed (aM m c) (aT m c) (aS m c) (aQ1 m c) (aQ2 m c) (aS1 m c) (aS2 m c))
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (D : (p : Fin _) → (c : Dev Cert.KernelIdeal.nD) → Dat Cert.KernelIdeal.τ (Elt Ideal) Unit ℕ (UR Cert.KernelIdeal.sig Cert.KernelIdeal.nD Cert.KernelIdeal.τ) ℕ
      ((Pipeline.pin pcfgs fun _ => adm m hO) p) c)
    (h7 : ∀ t : Fin Cert.KernelIdeal.grid0.N, (D 0 c).after 7 t = ((staged m hO c t).outs fun u => countFrom m n hn (userAt t u)).1)
    (h8 : ∀ t : Fin Cert.KernelIdeal.grid0.N, (D 0 c).after 8 t = ((staged m hO c t).outs fun u => countFrom m n hn (userAt t u)).2)
    (d : Dat Cert.ReferenceIdeal.τ (Elt Ideal) Unit ℕ (UR Cert.ReferenceIdeal.sig Cert.ReferenceIdeal.nD Cert.ReferenceIdeal.τ) ℕ Cert.ReferenceIdeal.cfg0 c)
    (h5 : d.after 5 Cert.ReferenceIdeal.Attn.pt = View.canon (Val := Elt Ideal) [⟨Cert.ReferenceIdeal.Gen.r0_6, Cert.ReferenceIdeal.Attn.pooled m' c n hr⟩])
    (h6 : d.after 6 Cert.ReferenceIdeal.Attn.pt = View.canon (Val := Elt Ideal) [⟨Cert.ReferenceIdeal.Gen.r0_5, Cert.ReferenceIdeal.Attn.weights m' c n hr⟩]) :
    (d.arrAt 5 Cert.ReferenceIdeal.cfg0.N : Vec Ideal Cert.KernelIdeal.S416x288 .bf16) =
        (Pipeline.afterTail pcfgs (fun _ => adm m hO) D 0 (V0 m) [hostOps1] c Cert.KernelIdeal.main_v8 : Vec Ideal Cert.KernelIdeal.S416x288 .bf16)
      ∧ (d.arrAt 6 Cert.ReferenceIdeal.cfg0.N : Vec Ideal Cert.KernelIdeal.S416x256 .f32) =
        (Pipeline.afterTail pcfgs (fun _ => adm m hO) D 0 (V0 m) [hostOps1] c Cert.KernelIdeal.main_v9 : Vec Ideal Cert.KernelIdeal.S416x256 .f32) := by
  obtain ⟨a0, hM, hT, hS, hQ1, hQ2, hS1, hS2⟩ := ha
  have hC : ∀ U, Cert.ReferenceIdeal.Attn.aC m' c n hn U = countFrom m n hn U := by
    intro U
    obtain rfl : c = (0 : Dev Cert.KernelIdeal.nD) := Subsingleton.elim _ _
    exact congrFun a0 _
  replace hM : Cert.ReferenceIdeal.Attn.aM m' c = aM m c := hM
  replace hT : Cert.ReferenceIdeal.Attn.aT m' c = aT m c := hT
  replace hS : Cert.ReferenceIdeal.Attn.aS m' c = aS m c := hS
  replace hQ1 : Cert.ReferenceIdeal.Attn.aQ1 m' c = aQ1 m c := hQ1
  replace hQ2 : Cert.ReferenceIdeal.Attn.aQ2 m' c = aQ2 m c := hQ2
  replace hS1 : Cert.ReferenceIdeal.Attn.aS1 m' c = aS1 m c := hS1
  replace hS2 : Cert.ReferenceIdeal.Attn.aS2 m' c = aS2 m c := hS2
  have hw : ∀ U, Cert.ReferenceIdeal.Attn.wSpec m' c (Cert.ReferenceIdeal.Attn.aC m' c n hn) U = wSpec m c (countFrom m n hn) U := by
    intro U
    unfold Cert.ReferenceIdeal.Attn.wSpec wSpec
    rw [hC, hM, hT, hS, hQ1, hQ2, hS1, hS2]
  constructor
  · refine ext_matrix fun U e => ?_
    refine (Cert.ReferenceIdeal.Attn.run_pooled m' n hr d h5 hn U e).trans
      (Eq.trans ?_ (run_pooled m hO c hp D (countFrom m n hn) h7 U e).symm)
    rw [hw, hM, hT, hS]
  · refine ext_matrix fun U e => ?_
    exact (Cert.ReferenceIdeal.Attn.run_weights m' n hr d h6 hn U e).trans
      ((congrFun (hw U) e).trans (run_weights m hO c hp D (countFrom m n hn) h8 U e).symm)

end Cert.Attn

end
-- ==== Proof.Chunks.lean ====
/- The value claim of each of the four calls: the call's body leaves, at every point, the pieces of the block's users with the counts
   from the call's first user on, and its reference reads the counts from there on. The programs differ in that number only, so
   the arrays, the runs and the mathematics are those of the modules this one imports. -/
module

public import proofs.«01_k».proof.Defs
public import proofs.«01_k».proof.Proof.Agree
public import proofs.«01_k».proof.Proof.Gen.KernelBIdeal.Frame
public import proofs.«01_k».proof.Proof.Gen.ReferenceBIdeal.Value
public import proofs.«01_k».proof.Proof.Gen.KernelCIdeal.Frame
public import proofs.«01_k».proof.Proof.Gen.ReferenceCIdeal.Value
public import proofs.«01_k».proof.Proof.Gen.KernelDIdeal.Frame
public import proofs.«01_k».proof.Proof.Gen.ReferenceDIdeal.Value

@[expose] public section

set_option maxRecDepth 65536

noncomputable section

open Idealize.ShloMosaic Idealize.ShloMosaic.TcCoe Idealize.SL.Sem Cert.KernelIdeal.Attn

/-! ## Users 0 to 415 -/

namespace Cert.KernelIdeal.Attn

open Cert.KernelIdeal Cert.KernelIdeal.Gen

theorem point (m : (ℓ : Loc nD τ sig) → Buf (Elt Ideal) ℓ) (hO : Ok m) (c : Dev nD) (t : Fin grid0.N) :
    outsAt0 m hO c t = (staged m hO c t).outs fun u => countFrom m 0 (by decide) (userAt t u) := by
  have e : outsAt0 m hO c t = (staged m hO c t).outs fun u =>
      tableAt (F := Ideal) (k0_off1 (grid0.coords t) (BitVec.ofNat 32 u.val)) (k0_off1_inb (grid0.coords t) u) (tbl m 0) := by
    sl_kernel_rfl
  refine e.trans (congrArg (staged m hO c t).outs (funext fun u => tableAt_user m 0 (by decide) t u _ _ ?_))
  rw [k0_off1_eq]
  exact (Nat.zero_add _).symm

theorem algebraic : Cert.algebraic_KernelIdeal_ReferenceIdeal_pre_packed (hKernelIdeal := facts)
    (hReferenceIdeal := Cert.ReferenceIdeal.Gen.facts) (hPre_packed := Cert.Pre_packed.facts) := by
  intro m g m' g' hpre hag
  have ok : Ok m := trivial
  refine ⟨_, _, (θ_run defs _ _).mono (fun _ h c => ⟨(h.1 c).2 main_v8 (by decide : main_v8 ∈ Pipeline.restRefs sig spec0),
      (h.1 c).2 main_v9 (by decide : main_v9 ∈ Pipeline.restRefs sig spec0), h.2 c⟩) (θ_run_and (run_main m g ok) (unchanged m g ok)),
    (θ_run _ _ _).mono (fun r h c => ?_) (Cert.ReferenceIdeal.Value.run_blocks m' g')⟩
  have e := Cert.Attn.agree 0 (by decide) (by decide) m ok c m' (@Cert.Attn.packed_of Cert.Pre_packed.facts _ _ _ _ _ _ _ _ (hpre c)) (hag c)
    (dats m ok) (fun t => (after0_7 m ok c t).trans (congrArg Prod.fst (point m ok c t)))
    (fun t => (after0_8 m ok c t).trans (congrArg Prod.snd (point m ok c t))) (Cert.ReferenceIdeal.Gen.dats m' 0 c) (by sl_kernel_rfl) (by sl_kernel_rfl)
  exact ⟨(h c).1.trans e.1, (h c).2.1.trans e.2, (h c).2.2⟩

end Cert.KernelIdeal.Attn

/-! ## Users 416 to 831 -/

namespace Cert.KernelBIdeal.Attn

open Cert.KernelBIdeal Cert.KernelBIdeal.Gen

theorem point (m : (ℓ : Loc nD τ sig) → Buf (Elt Ideal) ℓ) (hO : Ok m) (c : Dev nD) (t : Fin grid0.N) :
    outsAt0 m hO c t = (staged m hO c t).outs fun u => countFrom m 416 (by decide) (userAt t u) := by
  have e : outsAt0 m hO c t = (staged m hO c t).outs fun u =>
      tableAt (F := Ideal) (k0_off1 (grid0.coords t) (BitVec.ofNat 32 u.val)) (k0_off1_inb (grid0.coords t) u) (tbl m 0) := by
    sl_kernel_rfl
  refine e.trans (congrArg (staged m hO c t).outs (funext fun u => tableAt_user m 416 (by decide) t u _ _ ?_))
  rw [k0_off1_eq]
  exact Nat.add_comm _ _

theorem algebraic : Cert.algebraic_KernelBIdeal_ReferenceBIdeal_pre_packed (hKernelBIdeal := facts)
    (hReferenceBIdeal := Cert.ReferenceBIdeal.Gen.facts) (hPre_packed := Cert.Pre_packed.facts) := by
  intro m g m' g' hpre hag
  have ok : Ok m := trivial
  refine ⟨_, _, (θ_run defs _ _).mono (fun _ h c => ⟨(h.1 c).2 main_v8 (by decide : main_v8 ∈ Pipeline.restRefs sig spec0),
      (h.1 c).2 main_v9 (by decide : main_v9 ∈ Pipeline.restRefs sig spec0), h.2 c⟩) (θ_run_and (run_main m g ok) (unchanged m g ok)),
    (θ_run _ _ _).mono (fun r h c => ?_) (Cert.ReferenceBIdeal.Value.run_blocks m' g')⟩
  have e := Cert.Attn.agree 416 (by decide) (by decide) m ok c m' (@Cert.Attn.packed_of Cert.Pre_packed.facts _ _ _ _ _ _ _ _ (hpre c)) (hag c)
    (dats m ok) (fun t => (after0_7 m ok c t).trans (congrArg Prod.fst (point m ok c t)))
    (fun t => (after0_8 m ok c t).trans (congrArg Prod.snd (point m ok c t))) (Cert.ReferenceBIdeal.Gen.dats m' 0 c) (by sl_kernel_rfl) (by sl_kernel_rfl)
  exact ⟨(h c).1.trans e.1, (h c).2.1.trans e.2, (h c).2.2⟩

end Cert.KernelBIdeal.Attn

/-! ## Users 832 to 1247 -/

namespace Cert.KernelCIdeal.Attn

open Cert.KernelCIdeal Cert.KernelCIdeal.Gen

theorem point (m : (ℓ : Loc nD τ sig) → Buf (Elt Ideal) ℓ) (hO : Ok m) (c : Dev nD) (t : Fin grid0.N) :
    outsAt0 m hO c t = (staged m hO c t).outs fun u => countFrom m 832 (by decide) (userAt t u) := by
  have e : outsAt0 m hO c t = (staged m hO c t).outs fun u =>
      tableAt (F := Ideal) (k0_off1 (grid0.coords t) (BitVec.ofNat 32 u.val)) (k0_off1_inb (grid0.coords t) u) (tbl m 0) := by
    sl_kernel_rfl
  refine e.trans (congrArg (staged m hO c t).outs (funext fun u => tableAt_user m 832 (by decide) t u _ _ ?_))
  rw [k0_off1_eq]
  exact Nat.add_comm _ _

theorem algebraic : Cert.algebraic_KernelCIdeal_ReferenceCIdeal_pre_packed (hKernelCIdeal := facts)
    (hReferenceCIdeal := Cert.ReferenceCIdeal.Gen.facts) (hPre_packed := Cert.Pre_packed.facts) := by
  intro m g m' g' hpre hag
  have ok : Ok m := trivial
  refine ⟨_, _, (θ_run defs _ _).mono (fun _ h c => ⟨(h.1 c).2 main_v8 (by decide : main_v8 ∈ Pipeline.restRefs sig spec0),
      (h.1 c).2 main_v9 (by decide : main_v9 ∈ Pipeline.restRefs sig spec0), h.2 c⟩) (θ_run_and (run_main m g ok) (unchanged m g ok)),
    (θ_run _ _ _).mono (fun r h c => ?_) (Cert.ReferenceCIdeal.Value.run_blocks m' g')⟩
  have e := Cert.Attn.agree 832 (by decide) (by decide) m ok c m' (@Cert.Attn.packed_of Cert.Pre_packed.facts _ _ _ _ _ _ _ _ (hpre c)) (hag c)
    (dats m ok) (fun t => (after0_7 m ok c t).trans (congrArg Prod.fst (point m ok c t)))
    (fun t => (after0_8 m ok c t).trans (congrArg Prod.snd (point m ok c t))) (Cert.ReferenceCIdeal.Gen.dats m' 0 c) (by sl_kernel_rfl) (by sl_kernel_rfl)
  exact ⟨(h c).1.trans e.1, (h c).2.1.trans e.2, (h c).2.2⟩

end Cert.KernelCIdeal.Attn

/-! ## Users 1248 to 1663 -/

namespace Cert.KernelDIdeal.Attn

open Cert.KernelDIdeal Cert.KernelDIdeal.Gen

theorem point (m : (ℓ : Loc nD τ sig) → Buf (Elt Ideal) ℓ) (hO : Ok m) (c : Dev nD) (t : Fin grid0.N) :
    outsAt0 m hO c t = (staged m hO c t).outs fun u => countFrom m 1248 (by decide) (userAt t u) := by
  have e : outsAt0 m hO c t = (staged m hO c t).outs fun u =>
      tableAt (F := Ideal) (k0_off1 (grid0.coords t) (BitVec.ofNat 32 u.val)) (k0_off1_inb (grid0.coords t) u) (tbl m 0) := by
    sl_kernel_rfl
  refine e.trans (congrArg (staged m hO c t).outs (funext fun u => tableAt_user m 1248 (by decide) t u _ _ ?_))
  rw [k0_off1_eq]
  exact Nat.add_comm _ _

theorem algebraic : Cert.algebraic_KernelDIdeal_ReferenceDIdeal_pre_packed (hKernelDIdeal := facts)
    (hReferenceDIdeal := Cert.ReferenceDIdeal.Gen.facts) (hPre_packed := Cert.Pre_packed.facts) := by
  intro m g m' g' hpre hag
  have ok : Ok m := trivial
  refine ⟨_, _, (θ_run defs _ _).mono (fun _ h c => ⟨(h.1 c).2 main_v8 (by decide : main_v8 ∈ Pipeline.restRefs sig spec0),
      (h.1 c).2 main_v9 (by decide : main_v9 ∈ Pipeline.restRefs sig spec0), h.2 c⟩) (θ_run_and (run_main m g ok) (unchanged m g ok)),
    (θ_run _ _ _).mono (fun r h c => ?_) (Cert.ReferenceDIdeal.Value.run_blocks m' g')⟩
  have e := Cert.Attn.agree 1248 (by decide) (by decide) m ok c m' (@Cert.Attn.packed_of Cert.Pre_packed.facts _ _ _ _ _ _ _ _ (hpre c)) (hag c)
    (dats m ok) (fun t => (after0_7 m ok c t).trans (congrArg Prod.fst (point m ok c t)))
    (fun t => (after0_8 m ok c t).trans (congrArg Prod.snd (point m ok c t))) (Cert.ReferenceDIdeal.Gen.dats m' 0 c) (by sl_kernel_rfl) (by sl_kernel_rfl)
  exact ⟨(h c).1.trans e.1, (h c).2.1.trans e.2, (h c).2.2⟩

end Cert.KernelDIdeal.Attn

end
-- ==== Proof.TableRun.lean ====
/- The body of the item table's call, run: what its twenty strided stores leave in the block, as pieces. -/
module

public import proofs.«01_k».proof.Proof.Gen.Table.Launch
public import proofs.«01_k».proof.Proof.Gen.Table.Skeleton
public import Idealize.ShloMosaic.Lib.Pipeline.Frame
public import Idealize.ShloMosaic.Lib.Pipeline.FrameBody
public import Idealize.ShloMosaic.Lib.Pipeline.DatRel
public import Idealize.ShloMosaic.Lib.Pipeline.ArrRel
public import Idealize.ShloMosaic.Lib.Exec
public import Idealize.ShloMosaic.Lib.Tactic

@[expose] public section

set_option maxRecDepth 16384

noncomputable section

namespace Cert.Table.Rows

open Idealize.ShloMosaic Idealize.ShloMosaic.TcCoe Idealize.ShloMosaic.Tactic Cert.Table.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

set_option maxHeartbeats 4000000 in
/-- What the body's stores leave in the output's staging memref, as pieces (last first), with the proof that the body,
    on whole staging memrefs, ends with the inputs' as they were and the output's with those pieces written. -/
noncomputable def bodyRun (c : Dev nD) (i : grid0.Coords) (arg1 : Memref sig .tc .vmem S288x4096 .fp8e4m3) (harg1 : arg1.IsWhole)
    (arg2 : Memref sig .tc .vmem S9x4096 .f32) (harg2 : arg2.IsWhole) (arg3 : Memref sig .tc .vmem S2560x128 .i32) (harg3 : arg3.IsWhole)
    (x0 : Vec F S288x4096 .fp8e4m3) (x1 : Vec F S9x4096 .f32) :
    { L : List (View.Piece (Elt F) S2560x128 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, owns (c : Thread nD τ) arg3 fullShare (arg3.view.read (Elt F) (arg3.view.writes (Elt F) f L)))) -∗ K ⟨⟩))
          ⊢ wp frame (wpE (defs₀ (F := F)) Variants.none c none) E (cc0_item_table i arg1 harg1 arg2 harg2 arg3 harg3) K } := by
  refine ⟨?_, fun E K => ?run⟩
  case run =>
    simp only [cc0_item_table_eq_skeleton]; unfold cc0_item_table_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold k0_part1_skel k0_part2_skel k0_part3_skel k0_part4_skel k0_part5_skel k0_part6_skel k0_part7_skel k0_part8_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexists _; isplitr
    swap; · iexact H2
    ipureintro; rfl

end Cert.Table.Rows

end
-- ==== Proof.TableWord.lean ====
/- A word of an item's row, from the item's column of codes and its column of scales: the words the table's call makes
   128 items at a time, and the words its reference makes of the whole arrays, are these. -/
module

public import proofs.«01_k».proof.Proof.Gen.Table.Skeleton
public import proofs.«01_k».proof.Proof.Gen.TableReference.Skeleton
public import proofs.«01_k».proof.Proof.Gen.Table
public import proofs.«01_k».proof.Proof.Gen.TableReference
public import Idealize.ShloMosaic.Lib.BitcastFour
public import Idealize.ShloMosaic.Lib.BitcastPair
public import Idealize.ShloMosaic.Lib.Pipeline.Value

@[expose] public section

set_option maxRecDepth 16384

noncomputable section

namespace Cert.TableWord

open Idealize.ShloMosaic Idealize.ShloMosaic.ValueIdx

variable {F : FTy → Type} [BitOps F]

abbrev Mat (r n : Nat) : Shape := ⟨2, ![r, n]⟩

/-- Four bytes of a column to a word: the word depends on the column alone. -/
theorem bytes_congr {n n' : Nat} (x : (Mat 288 n).Idx → BitVec 8) (x' : (Mat 288 n').Idx → BitVec 8)
    (h : (Mat 288 n).Bitcasts 8 (Mat 72 n) 32) (h' : (Mat 288 n').Bitcasts 8 (Mat 72 n') 32) (a : Fin 72) (l : Fin n) (l' : Fin n')
    (e : ∀ p : Fin 288, x (ix2 p l) = x' (ix2 p l')) :
    bitcast (Mat 72 n) 32 x h (ix2 a l) = bitcast (Mat 72 n') 32 x' h' (ix2 a l') := by
  apply BitVec.eq_of_getLsbD_eq
  intro q hq
  rw [bitcast_8_32_getLsbD_ix2 x h a l q hq ⟨4 * a.val + q / 8, by omega⟩ rfl,
    bitcast_8_32_getLsbD_ix2 x' h' a l' q hq ⟨4 * a.val + q / 8, by omega⟩ rfl, e]

/-- Two halves of a column to a word: bit `q` of row `a`'s word is a bit of source row `2a + q / 16`. -/
theorem halves_getLsbD {n : Nat} (x : (Mat 16 n).Idx → BitVec 16) (h : (Mat 16 n).Bitcasts 16 (Mat 8 n) 32) (a : Fin 8) (l : Fin n)
    (q : Nat) (hq : q < 32) (p : Fin 16) (hp : p.val = 2 * a.val + q / 16) :
    (bitcast (Mat 8 n) 32 x h (ix2 a l)).getLsbD q = (x (ix2 p l)).getLsbD (q % 16) := by
  have hrow : (Mat 8 n).row (ix2 a l) = a.val := by
    simp [Shape.row, Shape.rowAx, ix2]
  rw [bitcast_getLsbD x h _ q hq (by decide)]
  have ep : ((Mat 8 n).row (ix2 a l) * 32 + q) / 16 = p.val := by rw [hrow]; omega
  have eq : ((Mat 8 n).row (ix2 a l) * 32 + q) % 16 = q % 16 := by omega
  rw [eq]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

theorem halves_congr {n n' : Nat} (x : (Mat 16 n).Idx → BitVec 16) (x' : (Mat 16 n').Idx → BitVec 16)
    (h : (Mat 16 n).Bitcasts 16 (Mat 8 n) 32) (h' : (Mat 16 n').Bitcasts 16 (Mat 8 n') 32) (a : Fin 8) (l : Fin n) (l' : Fin n')
    (e : ∀ p : Fin 16, x (ix2 p l) = x' (ix2 p l')) :
    bitcast (Mat 8 n) 32 x h (ix2 a l) = bitcast (Mat 8 n') 32 x' h' (ix2 a l') := by
  apply BitVec.eq_of_getLsbD_eq
  intro q hq
  rw [halves_getLsbD x h a l q hq ⟨2 * a.val + q / 16, by omega⟩ rfl,
    halves_getLsbD x' h' a l' q hq ⟨2 * a.val + q / 16, by omega⟩ rfl, e]

/-- Two pieces stacked, read at a row of the first, or at one of the second. -/
theorem stack_fst {α : Type} {n r₁ r₂ r : Nat} (x : (Mat r₁ n).Idx → α) (y : (Mat r₂ n).Idx → α)
    (h : Shape.Concatenates [Mat r₁ n, Mat r₂ n] (Mat r n) 0) (p : Fin r) (l : Fin n) (hp : p.val < r₁) :
    concatenate (Mat r n) 0 [⟨Mat r₁ n, x⟩, ⟨Mat r₂ n, y⟩] h (ix2 p l) = x (ix2 ⟨p.val, hp⟩ l) := by
  refine concatenate_apply_piece (t := Mat r n) 0 [⟨Mat r₁ n, x⟩, ⟨Mat r₂ n, y⟩] h _ 0 (by show 0 < 2; decide) (Mat r₁ n) x rfl rfl 0 rfl _ ?_ ?_
  · intro b hb
    match b with
    | ⟨0, _⟩ => exact absurd rfl hb
    | ⟨1, _⟩ => rfl
  · exact Nat.zero_add _

theorem stack_snd {α : Type} {n r₁ r₂ r : Nat} (x : (Mat r₁ n).Idx → α) (y : (Mat r₂ n).Idx → α)
    (h : Shape.Concatenates [Mat r₁ n, Mat r₂ n] (Mat r n) 0) (p : Fin r) (l : Fin n) (p' : Fin r₂) (hp : p.val = r₁ + p'.val) :
    concatenate (Mat r n) 0 [⟨Mat r₁ n, x⟩, ⟨Mat r₂ n, y⟩] h (ix2 p l) = y (ix2 p' l) := by
  refine concatenate_apply_piece (t := Mat r n) 0 [⟨Mat r₁ n, x⟩, ⟨Mat r₂ n, y⟩] h _ 1 (by show 1 < 2; decide) (Mat r₂ n) y rfl rfl r₁ ?_ _ ?_ ?_
  · simp [Shape.size]
  · intro b hb
    match b with
    | ⟨0, _⟩ => exact absurd rfl hb
    | ⟨1, _⟩ => rfl
  · exact hp.symm

/-- A column's scales in bf16 over seven zeros. -/
def halves {n : Nat} (s : (Mat 9 n).Idx → F .f32) (h : Shape.Concatenates [Mat 9 n, Mat 7 n] (Mat 16 n) 0) : (Mat 16 n).Idx → F .bf16 :=
  concatenate (Mat 16 n) 0 [⟨Mat 9 n, (truncf .bf16 s (by decide) : FVec F (Mat 9 n) .bf16)⟩,
    ⟨Mat 7 n, broadcast (Mat 7 n) (Scalar.ofBits .bf16 0x0000#16 : F .bf16)⟩] h

theorem halves_eq {n n' : Nat} (s : (Mat 9 n).Idx → F .f32) (s' : (Mat 9 n').Idx → F .f32) (h) (h') (l : Fin n) (l' : Fin n')
    (e : ∀ p : Fin 9, s (ix2 p l) = s' (ix2 p l')) (p : Fin 16) : halves s h (ix2 p l) = halves s' h' (ix2 p l') := by
  unfold halves
  by_cases hp : p.val < 9
  · rw [stack_fst _ _ h p l hp, stack_fst _ _ h' p l' hp]
    show truncf .bf16 s _ _ = truncf .bf16 s' _ _
    unfold truncf
    simp only [e]
  · rw [stack_snd _ _ h p l ⟨p.val - 9, by omega⟩ (by show p.val = 9 + (p.val - 9); omega),
      stack_snd _ _ h' p l' ⟨p.val - 9, by omega⟩ (by show p.val = 9 + (p.val - 9); omega)]
    rfl

theorem bitcasts_8 : (Mat 288 1).Bitcasts 8 (Mat 72 1) 32 := by decide
theorem bitcasts_16 : (Mat 16 1).Bitcasts 16 (Mat 8 1) 32 := by decide
theorem columnStack : Shape.Concatenates [Mat 9 1, Mat 7 1] (Mat 16 1) 0 := by decide

/-- Word `q` of the row of the item with the column of codes `c` and the column of scales `s`. -/
def word (c : Fin 288 → F .fp8e4m3) (s : Fin 9 → F .f32) (q : Fin 80) : BitVec 32 :=
  if h : q.val < 72 then
    bitcast (Mat 72 1) 32 (bitcastToInt (s := Mat 288 1) fun i => c (i 0)) bitcasts_8 (ix2 ⟨q.val, h⟩ 0)
  else
    bitcast (Mat 8 1) 32 (bitcastToInt (halves (n := 1) (fun i => s (i 0)) columnStack)) bitcasts_16 (ix2 ⟨q.val - 72, by omega⟩ 0)

theorem codes_word {n : Nat} (x : (Mat 288 n).Idx → F .fp8e4m3) (h : (Mat 288 n).Bitcasts 8 (Mat 72 n) 32) (s : Fin 9 → F .f32)
    (a : Fin 72) (l : Fin n) (q : Fin 80) (hq : q.val = a.val) :
    bitcast (Mat 72 n) 32 (bitcastToInt x) h (ix2 a l) = word (fun p => x (ix2 p l)) s q := by
  unfold word
  rw [dif_pos (show q.val < 72 by omega)]
  have ha : (⟨q.val, by omega⟩ : Fin 72) = a := Fin.ext hq
  rw [ha]
  exact bytes_congr _ _ _ _ _ _ _ fun p => rfl

theorem scales_word {n : Nat} (x : (Mat 9 n).Idx → F .f32) (hc) (h : (Mat 16 n).Bitcasts 16 (Mat 8 n) 32) (c : Fin 288 → F .fp8e4m3)
    (a : Fin 8) (l : Fin n) (q : Fin 80) (hq : q.val = 72 + a.val) :
    bitcast (Mat 8 n) 32 (bitcastToInt (halves x hc)) h (ix2 a l) = word c (fun p => x (ix2 p l)) q := by
  unfold word
  rw [dif_neg (show ¬ q.val < 72 by omega)]
  have ha : (⟨q.val - 72, by omega⟩ : Fin 8) = a := Fin.ext (by show q.val - 72 = a.val; omega)
  rw [ha]
  exact halves_congr _ _ _ _ _ _ _ fun p =>
    congrArg BitOps.toBits (halves_eq x (fun i : (Mat 9 1).Idx => x (ix2 (i 0) l)) hc columnStack l 0 (fun _ => rfl) p)

/-- The reference's words. -/
theorem reference_word (s : Vec F TableReference.S9x350000 .f32) (c : Vec F TableReference.S288x350000 .fp8e4m3) (q : Fin 80) (l : Fin 350000) :
    TableReference.Gen.k0_pay1 s c (ix2 q l) = word (fun p => c (ix2 p l)) (fun p => s (ix2 p l)) q := by
  unfold TableReference.Gen.k0_pay1
  by_cases hq : q.val < 72
  · refine (stack_fst _ _ _ q l hq).trans ?_
    exact codes_word c _ _ _ l q rfl
  · refine (stack_snd _ _ _ q l ⟨q.val - 72, by omega⟩ (by show q.val = 72 + (q.val - 72); omega)).trans ?_
    exact scales_word s _ _ _ _ l q (by show q.val = 72 + (q.val - 72); omega)

/-- The words of 128 items' codes, and of their scales. -/
def lower (c : Vec F Table.S288x128 .fp8e4m3) : IVec Table.S72x128 32 :=
  bitcast (Mat 72 128) 32 (bitcastToInt (s := Mat 288 128) c) Table.Facts₀.bitcasts_S288x128_w8_S72x128_w32
def upper (s : Vec F Table.S9x128 .f32) : IVec Table.S8x128 32 :=
  bitcast (Mat 8 128) 32 (bitcastToInt (halves (n := 128) s Table.Facts₀.concatenates_S9x128_S7x128_S16x128_d0))
    Table.Facts₀.bitcasts_S16x128_w16_S8x128_w32

theorem lower_word (c : Vec F Table.S288x128 .fp8e4m3) (s : Fin 9 → F .f32) (a : Fin 72) (l : Fin 128) (q : Fin 80) (hq : q.val = a.val) :
    lower c (ix2 a l) = word (fun p => c (ix2 p l)) s q := by
  unfold lower; exact codes_word (n := 128) c _ s a l q hq

theorem upper_word (s : Vec F Table.S9x128 .f32) (c : Fin 288 → F .fp8e4m3) (a : Fin 8) (l : Fin 128) (q : Fin 80) (hq : q.val = 72 + a.val) :
    upper s (ix2 a l) = word c (fun p => s (ix2 p l)) q := by
  unfold upper; exact scales_word (n := 128) s _ _ c a l q hq

/-- A run of 128 of a group's rows, turned. -/
theorem turned_apply (X : IVec Table.S640x128 32) (o : Nat) (hs : Table.S640x128.Slices ![o, 0] Table.S128x128)
    (ht : Table.S128x128.Transposes [1, 0] Table.S128x128) (l k : Fin 128) (j : Fin 640) (hj : j.val = o + k.val) :
    transpose Table.S128x128 [1, 0] (extractStridedSlice Table.S128x128 ![o, 0] X hs) ht (ix2 l k) = X (ix2 j l) := by
  refine (transpose_apply _ _ ht _ (ix2 k l) ?_).trans (extractStridedSlice_apply _ X hs _ _ ?_)
  · intro b
    match b with
    | ⟨0, _⟩ => rfl
    | ⟨1, _⟩ => rfl
  · intro b
    match b with
    | ⟨0, _⟩ => exact hj
    | ⟨1, _⟩ => exact (Nat.zero_add _).symm

end Cert.TableWord

end
-- ==== Proof.TableGroup.lean ====
/- A group of the table: 640 rows of words, of 1024 items. -/
module

public import proofs.«01_k».proof.Proof.TableWord

@[expose] public section

set_option maxRecDepth 16384

noncomputable section

namespace Cert.TableWord

open Idealize.ShloMosaic Idealize.ShloMosaic.ValueIdx

variable {F : FTy → Type} [BitOps F]

/-- A group's 640 rows: its eight runs of 128 items, each 72 rows of codes and 8 of scales. -/
def group (c : Fin 8 → Vec F Table.S288x128 .fp8e4m3) (s : Fin 8 → Vec F Table.S9x128 .f32) : IVec Table.S640x128 32 :=
  concatenate Table.S640x128 0 [⟨Table.S72x128, lower (c 0)⟩, ⟨Table.S8x128, upper (s 0)⟩, ⟨Table.S72x128, lower (c 1)⟩, ⟨Table.S8x128, upper (s 1)⟩, ⟨Table.S72x128, lower (c 2)⟩, ⟨Table.S8x128, upper (s 2)⟩, ⟨Table.S72x128, lower (c 3)⟩, ⟨Table.S8x128, upper (s 3)⟩, ⟨Table.S72x128, lower (c 4)⟩, ⟨Table.S8x128, upper (s 4)⟩, ⟨Table.S72x128, lower (c 5)⟩, ⟨Table.S8x128, upper (s 5)⟩, ⟨Table.S72x128, lower (c 6)⟩, ⟨Table.S8x128, upper (s 6)⟩, ⟨Table.S72x128, lower (c 7)⟩, ⟨Table.S8x128, upper (s 7)⟩] (Table.Facts₀.concatenates_S72x128_S8x128_S72x128_S8x128_S72x128_S8x128_S72x128_S8x128_S72x128_S8x128_S72x128_S8x128_S72x128_S8x128_S72x128_S8x128_S640x128_d0)

set_option maxHeartbeats 4000000 in
theorem group_word (c : Fin 8 → Vec F Table.S288x128 .fp8e4m3) (s : Fin 8 → Vec F Table.S9x128 .f32) (a : Fin 8) (q : Fin 80) (l : Fin 128)
    (k : Fin 640) (hk : k.val = 80 * a.val + q.val) :
    group c s (ix2 k l) = word (fun p => c a (ix2 p l)) (fun p => s a (ix2 p l)) q := by
  unfold group
  by_cases hq : q.val < 72
  · rw [← lower_word (c a) _ ⟨q.val, hq⟩ l q rfl]
    match a, hk with
    | ⟨0, _⟩, hk =>
      refine concatenate_apply_piece (t := Table.S640x128) 0 _ _ _ 0 (by show 0 < 16; decide) Table.S72x128 (lower (c 0)) rfl rfl 0 rfl _ ?_ ?_
      · intro b hb
        match b with
        | ⟨0, _⟩ => exact absurd rfl hb
        | ⟨1, _⟩ => rfl
      · show 0 + q.val = k.val
        simp only at hk; omega
    | ⟨1, _⟩, hk =>
      refine concatenate_apply_piece (t := Table.S640x128) 0 _ _ _ 2 (by show 2 < 16; decide) Table.S72x128 (lower (c 1)) rfl rfl 80 rfl _ ?_ ?_
      · intro b hb
        match b with
        | ⟨0, _⟩ => exact absurd rfl hb
        | ⟨1, _⟩ => rfl
      · show 80 + q.val = k.val
        simp only at hk; omega
    | ⟨2, _⟩, hk =>
      refine concatenate_apply_piece (t := Table.S640x128) 0 _ _ _ 4 (by show 4 < 16; decide) Table.S72x128 (lower (c 2)) rfl rfl 160 rfl _ ?_ ?_
      · intro b hb
        match b with
        | ⟨0, _⟩ => exact absurd rfl hb
        | ⟨1, _⟩ => rfl
      · show 160 + q.val = k.val
        simp only at hk; omega
    | ⟨3, _⟩, hk =>
      refine concatenate_apply_piece (t := Table.S640x128) 0 _ _ _ 6 (by show 6 < 16; decide) Table.S72x128 (lower (c 3)) rfl rfl 240 rfl _ ?_ ?_
      · intro b hb
        match b with
        | ⟨0, _⟩ => exact absurd rfl hb
        | ⟨1, _⟩ => rfl
      · show 240 + q.val = k.val
        simp only at hk; omega
    | ⟨4, _⟩, hk =>
      refine concatenate_apply_piece (t := Table.S640x128) 0 _ _ _ 8 (by show 8 < 16; decide) Table.S72x128 (lower (c 4)) rfl rfl 320 rfl _ ?_ ?_
      · intro b hb
        match b with
        | ⟨0, _⟩ => exact absurd rfl hb
        | ⟨1, _⟩ => rfl
      · show 320 + q.val = k.val
        simp only at hk; omega
    | ⟨5, _⟩, hk =>
      refine concatenate_apply_piece (t := Table.S640x128) 0 _ _ _ 10 (by show 10 < 16; decide) Table.S72x128 (lower (c 5)) rfl rfl 400 rfl _ ?_ ?_
      · intro b hb
        match b with
        | ⟨0, _⟩ => exact absurd rfl hb
        | ⟨1, _⟩ => rfl
      · show 400 + q.val = k.val
        simp only at hk; omega
    | ⟨6, _⟩, hk =>
      refine concatenate_apply_piece (t := Table.S640x128) 0 _ _ _ 12 (by show 12 < 16; decide) Table.S72x128 (lower (c 6)) rfl rfl 480 rfl _ ?_ ?_
      · intro b hb
        match b with
        | ⟨0, _⟩ => exact absurd rfl hb
        | ⟨1, _⟩ => rfl
      · show 480 + q.val = k.val
        simp only at hk; omega
    | ⟨7, _⟩, hk =>
      refine concatenate_apply_piece (t := Table.S640x128) 0 _ _ _ 14 (by show 14 < 16; decide) Table.S72x128 (lower (c 7)) rfl rfl 560 rfl _ ?_ ?_
      · intro b hb
        match b with
        | ⟨0, _⟩ => exact absurd rfl hb
        | ⟨1, _⟩ => rfl
      · show 560 + q.val = k.val
        simp only at hk; omega
  · have hq' : q.val = 72 + (q.val - 72) := by omega
    rw [← upper_word (s a) _ ⟨q.val - 72, by omega⟩ l q hq']
    match a, hk with
    | ⟨0, _⟩, hk =>
      refine concatenate_apply_piece (t := Table.S640x128) 0 _ _ _ 1 (by show 1 < 16; decide) Table.S8x128 (upper (s 0)) rfl rfl 72 rfl _ ?_ ?_
      · intro b hb
        match b with
        | ⟨0, _⟩ => exact absurd rfl hb
        | ⟨1, _⟩ => rfl
      · show 72 + (q.val - 72) = k.val
        simp only at hk; omega
    | ⟨1, _⟩, hk =>
      refine concatenate_apply_piece (t := Table.S640x128) 0 _ _ _ 3 (by show 3 < 16; decide) Table.S8x128 (upper (s 1)) rfl rfl 152 rfl _ ?_ ?_
      · intro b hb
        match b with
        | ⟨0, _⟩ => exact absurd rfl hb
        | ⟨1, _⟩ => rfl
      · show 152 + (q.val - 72) = k.val
        simp only at hk; omega
    | ⟨2, _⟩, hk =>
      refine concatenate_apply_piece (t := Table.S640x128) 0 _ _ _ 5 (by show 5 < 16; decide) Table.S8x128 (upper (s 2)) rfl rfl 232 rfl _ ?_ ?_
      · intro b hb
        match b with
        | ⟨0, _⟩ => exact absurd rfl hb
        | ⟨1, _⟩ => rfl
      · show 232 + (q.val - 72) = k.val
        simp only at hk; omega
    | ⟨3, _⟩, hk =>
      refine concatenate_apply_piece (t := Table.S640x128) 0 _ _ _ 7 (by show 7 < 16; decide) Table.S8x128 (upper (s 3)) rfl rfl 312 rfl _ ?_ ?_
      · intro b hb
        match b with
        | ⟨0, _⟩ => exact absurd rfl hb
        | ⟨1, _⟩ => rfl
      · show 312 + (q.val - 72) = k.val
        simp only at hk; omega
    | ⟨4, _⟩, hk =>
      refine concatenate_apply_piece (t := Table.S640x128) 0 _ _ _ 9 (by show 9 < 16; decide) Table.S8x128 (upper (s 4)) rfl rfl 392 rfl _ ?_ ?_
      · intro b hb
        match b with
        | ⟨0, _⟩ => exact absurd rfl hb
        | ⟨1, _⟩ => rfl
      · show 392 + (q.val - 72) = k.val
        simp only at hk; omega
    | ⟨5, _⟩, hk =>
      refine concatenate_apply_piece (t := Table.S640x128) 0 _ _ _ 11 (by show 11 < 16; decide) Table.S8x128 (upper (s 5)) rfl rfl 472 rfl _ ?_ ?_
      · intro b hb
        match b with
        | ⟨0, _⟩ => exact absurd rfl hb
        | ⟨1, _⟩ => rfl
      · show 472 + (q.val - 72) = k.val
        simp only at hk; omega
    | ⟨6, _⟩, hk =>
      refine concatenate_apply_piece (t := Table.S640x128) 0 _ _ _ 13 (by show 13 < 16; decide) Table.S8x128 (upper (s 6)) rfl rfl 552 rfl _ ?_ ?_
      · intro b hb
        match b with
        | ⟨0, _⟩ => exact absurd rfl hb
        | ⟨1, _⟩ => rfl
      · show 552 + (q.val - 72) = k.val
        simp only at hk; omega
    | ⟨7, _⟩, hk =>
      refine concatenate_apply_piece (t := Table.S640x128) 0 _ _ _ 15 (by show 15 < 16; decide) Table.S8x128 (upper (s 7)) rfl rfl 632 rfl _ ?_ ?_
      · intro b hb
        match b with
        | ⟨0, _⟩ => exact absurd rfl hb
        | ⟨1, _⟩ => rfl
      · show 632 + (q.val - 72) = k.val
        simp only at hk; omega

end Cert.TableWord

end
-- ==== Proof.TableRows.lean ====
/- What the body of the table's call leaves in its block: at each row and lane the word of one item of the block. -/
module

public import proofs.«01_k».proof.Proof.TableRun
public import proofs.«01_k».proof.Proof.TableGroup

@[expose] public section

set_option maxRecDepth 16384

noncomputable section

namespace Cert.Table.Rows

open Idealize.ShloMosaic Idealize.ShloMosaic.ValueIdx Cert.Table.Gen Cert.TableWord

variable {F : FTy → Type} [BitOps F]

theorem run_inb0 (g : Fin 4) (a : Fin 8) : ∀ b, (![0, 1024 * g.val + 128 * a.val] : Fin 2 → Nat) b + S288x128.size b ≤ S288x4096.size b := by
  intro b; match b with
  | ⟨0, _⟩ => exact Nat.le_of_eq rfl
  | ⟨1, _⟩ => show 1024 * g.val + 128 * a.val + 128 ≤ 4096; omega

theorem run_inb1 (g : Fin 4) (a : Fin 8) : ∀ b, (![0, 1024 * g.val + 128 * a.val] : Fin 2 → Nat) b + S9x128.size b ≤ S9x4096.size b := by
  intro b; match b with
  | ⟨0, _⟩ => exact Nat.le_of_eq rfl
  | ⟨1, _⟩ => show 1024 * g.val + 128 * a.val + 128 ≤ 4096; omega

/-- Run `a` of group `g` of a block: its codes, its scales. -/
def run0 (x0 : Vec F S288x4096 .fp8e4m3) (g : Fin 4) (a : Fin 8) : Vec F S288x128 .fp8e4m3 :=
  View.ld x0 (Rect.unit (s := S288x4096) ![0, 1024 * g.val + 128 * a.val] S288x128.size (run_inb0 g a))

def run1 (x1 : Vec F S9x4096 .f32) (g : Fin 4) (a : Fin 8) : Vec F S9x128 .f32 :=
  View.ld x1 (Rect.unit (s := S9x4096) ![0, 1024 * g.val + 128 * a.val] S9x128.size (run_inb1 g a))

theorem run0_apply (x0 : Vec F S288x4096 .fp8e4m3) (g : Fin 4) (a : Fin 8) (p : Fin 288) (l : Fin 128) (j : Fin 4096)
    (hj : j.val = 1024 * g.val + 128 * a.val + l.val) : run0 x0 g a (ix2 p l) = x0 (ix2 p j) := by
  unfold run0 View.ld
  refine congrArg x0 (funext fun b => ?_)
  match b with
  | ⟨0, _⟩ => exact Fin.ext (by show 0 + 1 * p.val = p.val; omega)
  | ⟨1, _⟩ => exact Fin.ext (by show 1024 * g.val + 128 * a.val + 1 * l.val = j.val; omega)

theorem run1_apply (x1 : Vec F S9x4096 .f32) (g : Fin 4) (a : Fin 8) (p : Fin 9) (l : Fin 128) (j : Fin 4096)
    (hj : j.val = 1024 * g.val + 128 * a.val + l.val) : run1 x1 g a (ix2 p l) = x1 (ix2 p j) := by
  unfold run1 View.ld
  refine congrArg x1 (funext fun b => ?_)
  match b with
  | ⟨0, _⟩ => exact Fin.ext (by show 0 + 1 * p.val = p.val; omega)
  | ⟨1, _⟩ => exact Fin.ext (by show 1024 * g.val + 128 * a.val + 1 * l.val = j.val; omega)

/-- A row and lane of a block: the word there, and the item of the block it is of. -/
def at_ (R : Fin 2560) (L : Fin 128) : Nat := 128 * (R.val % 5) + L.val
def col (R : Fin 2560) (L : Fin 128) : Fin 4096 :=
  ⟨1024 * (R.val / 640) + 128 * (at_ R L / 80) + R.val % 640 / 5, by
    have h1 : R.val / 640 < 4 := by omega
    have h2 : at_ R L / 80 < 8 := by unfold at_; omega
    have h3 : R.val % 640 / 5 < 128 := by omega
    omega⟩
def wd (R : Fin 2560) (L : Fin 128) : Fin 80 := ⟨at_ R L % 80, Nat.mod_lt _ (by decide)⟩

/-- The block of words of a block of items. -/
def rows (x0 : Vec F S288x4096 .fp8e4m3) (x1 : Vec F S9x4096 .f32) : Vec F S2560x128 .i32 := fun y =>
  word (fun p => x0 (ix2 p (col (y 0) (y 1)))) (fun p => x1 (ix2 p (col (y 0) (y 1)))) (wd (y 0) (y 1))

theorem slices (q : Fin 5) : S640x128.Slices ![128 * q.val, 0] S128x128 := by
  revert q; decide

theorem piece_inb (g : Fin 4) (q : Fin 5) :
    ∀ a : Fin 2, S128x128.size a = 0 ∨
      (![640 * g.val + q.val, 0] : Fin 2 → Nat) a + (![5, 1] : Fin 2 → Nat) a * (S128x128.size a - 1) < S2560x128.size a := by
  revert g q; decide

/-- The rectangle of store `q` of group `g`, and what is stored there. -/
def piece (x0 : Vec F S288x4096 .fp8e4m3) (x1 : Vec F S9x4096 .f32) (g : Fin 4) (q : Fin 5) : View.Piece (Elt F) S2560x128 .i32 :=
  ⟨⟨⟨![640 * g.val + q.val, 0], S128x128.size, ![5, 1], piece_inb g q⟩, Facts₀.spos_5_1⟩,
    transpose S128x128 [1, 0] (extractStridedSlice S128x128 ![128 * q.val, 0] (group (run0 x0 g) (run1 x1 g)) (slices q))
      Facts₀.transposes_S128x128_p1_0_S128x128⟩

/-- The rectangle's row and lane `(l, k)` is row `640g + q + 5l`, lane `k`. -/
theorem piece_emb (x0 : Vec F S288x4096 .fp8e4m3) (x1 : Vec F S9x4096 .f32) (g : Fin 4) (q : Fin 5) (l k : Fin 128) (R : Fin 2560)
    (hR : R.val = 640 * g.val + q.val + 5 * l.val) : (piece x0 x1 g q).1.emb (ix2 l k) = ix2 R k := by
  funext b
  match b with
  | ⟨0, _⟩ => exact Fin.ext hR.symm
  | ⟨1, _⟩ => exact Fin.ext (by show 0 + 1 * k.val = k.val; omega)

theorem piece_eq (x0 : Vec F S288x4096 .fp8e4m3) (x1 : Vec F S9x4096 .f32) (g : Fin 4) (q : Fin 5) (x : (piece x0 x1 g q).1.shape.Idx) :
    (piece x0 x1 g q).2 x = rows x0 x1 ((piece x0 x1 g q).1.emb x) := by
  obtain ⟨l, k, rfl⟩ : ∃ l k : Fin 128, x = ix2 l k := ⟨x 0, x 1, by funext b; match b with | ⟨0, _⟩ => rfl | ⟨1, _⟩ => rfl⟩
  have hRl : 640 * g.val + q.val + 5 * l.val < 2560 := by omega
  rw [piece_emb x0 x1 g q l k ⟨_, hRl⟩ rfl]
  have hk : 128 * q.val + k.val < 640 := by omega
  show transpose S128x128 [1, 0] (extractStridedSlice S128x128 ![128 * q.val, 0] (group (run0 x0 g) (run1 x1 g)) (slices q)) _ (ix2 l k)
    = word (fun p => x0 (ix2 p (col ⟨_, hRl⟩ k))) (fun p => x1 (ix2 p (col ⟨_, hRl⟩ k))) (wd ⟨_, hRl⟩ k)
  rw [turned_apply _ _ _ _ l k ⟨128 * q.val + k.val, hk⟩ rfl]
  have hq5 : (640 * g.val + q.val + 5 * l.val) % 5 = q.val := by omega
  have ha : at_ ⟨640 * g.val + q.val + 5 * l.val, hRl⟩ k = 128 * q.val + k.val := by unfold at_; simp only [hq5]
  have hA : (128 * q.val + k.val) / 80 < 8 := by omega
  have h1 : (640 * g.val + q.val + 5 * l.val) / 640 = g.val := by omega
  have h2 : (640 * g.val + q.val + 5 * l.val) % 640 / 5 = l.val := by omega
  have hc : (col ⟨640 * g.val + q.val + 5 * l.val, hRl⟩ k).val = 1024 * g.val + 128 * ((128 * q.val + k.val) / 80) + l.val := by
    unfold col; simp only [ha, h1, h2]
  rw [group_word _ _ ⟨_, hA⟩ (wd ⟨_, hRl⟩ k) l _ (by
    show 128 * q.val + k.val = 80 * ((128 * q.val + k.val) / 80) + at_ ⟨640 * g.val + q.val + 5 * l.val, hRl⟩ k % 80
    rw [ha]; omega)]
  exact congrArg₂ (fun c s => word c s _) (funext fun p => run0_apply x0 g ⟨_, hA⟩ p l _ hc) (funext fun p => run1_apply x1 g ⟨_, hA⟩ p l _ hc)

theorem piece_cover (x0 : Vec F S288x4096 .fp8e4m3) (x1 : Vec F S9x4096 .f32) (y : S2560x128.Idx) :
    ∃ g q, y ∈ (piece x0 x1 g q).1.set := by
  have hy : (y 0).val < 2560 := (y 0).isLt
  refine ⟨⟨(y 0).val / 640, by omega⟩, ⟨(y 0).val % 5, by omega⟩, ?_⟩
  refine (LoadRect.mem_set _).mpr fun a => ?_
  match a with
  | ⟨0, _⟩ =>
    exact ⟨(y 0).val % 640 / 5, by show (y 0).val % 640 / 5 < 128; omega, by
      show (y 0).val = 640 * ((y 0).val / 640) + (y 0).val % 5 + 5 * ((y 0).val % 640 / 5); omega⟩
  | ⟨1, _⟩ => exact ⟨(y 1).val, (y 1).isLt, by show (y 1).val = 0 + 1 * (y 1).val; omega⟩

/-- The body's stores, last first. -/
def pieces (x0 : Vec F S288x4096 .fp8e4m3) (x1 : Vec F S9x4096 .f32) : List (View.Piece (Elt F) S2560x128 .i32) :=
  [piece x0 x1 3 4, piece x0 x1 3 3, piece x0 x1 3 2, piece x0 x1 3 1, piece x0 x1 3 0, piece x0 x1 2 4, piece x0 x1 2 3, piece x0 x1 2 2, piece x0 x1 2 1, piece x0 x1 2 0, piece x0 x1 1 4, piece x0 x1 1 3, piece x0 x1 1 2, piece x0 x1 1 1, piece x0 x1 1 0, piece x0 x1 0 4, piece x0 x1 0 3, piece x0 x1 0 2, piece x0 x1 0 1, piece x0 x1 0 0]

theorem mem_pieces (x0 : Vec F S288x4096 .fp8e4m3) (x1 : Vec F S9x4096 .f32) (g : Fin 4) (q : Fin 5) : piece x0 x1 g q ∈ pieces x0 x1 := by
  unfold pieces
  match g, q with
  | ⟨0, _⟩, ⟨0, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))
  | ⟨0, _⟩, ⟨1, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))
  | ⟨0, _⟩, ⟨2, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))
  | ⟨0, _⟩, ⟨3, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))
  | ⟨0, _⟩, ⟨4, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))
  | ⟨1, _⟩, ⟨0, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))
  | ⟨1, _⟩, ⟨1, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))
  | ⟨1, _⟩, ⟨2, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))
  | ⟨1, _⟩, ⟨3, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))
  | ⟨1, _⟩, ⟨4, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))
  | ⟨2, _⟩, ⟨0, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))
  | ⟨2, _⟩, ⟨1, _⟩ => exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))
  | ⟨2, _⟩, ⟨2, _⟩ => exact List.mem_cons_of_mem _ (List.mem_cons_of_mem _ (List.mem_cons_of_mem _ (List.mem_cons_of_mem _ (List.mem_cons_of_mem _ (List.mem_cons_of_mem _ (List.mem_cons_of_mem _ (List.mem_cons_self)))))))
  | ⟨2, _⟩, ⟨3, _⟩ => exact List.mem_cons_of_mem _ (List.mem_cons_of_mem _ (List.mem_cons_of_mem _ (List.mem_cons_of_mem _ (List.mem_cons_of_mem _ (List.mem_cons_of_mem _ (List.mem_cons_self))))))
  | ⟨2, _⟩, ⟨4, _⟩ => exact List.mem_cons_of_mem _ (List.mem_cons_of_mem _ (List.mem_cons_of_mem _ (List.mem_cons_of_mem _ (List.mem_cons_of_mem _ (List.mem_cons_self)))))
  | ⟨3, _⟩, ⟨0, _⟩ => exact List.mem_cons_of_mem _ (List.mem_cons_of_mem _ (List.mem_cons_of_mem _ (List.mem_cons_of_mem _ (List.mem_cons_self))))
  | ⟨3, _⟩, ⟨1, _⟩ => exact List.mem_cons_of_mem _ (List.mem_cons_of_mem _ (List.mem_cons_of_mem _ (List.mem_cons_self)))
  | ⟨3, _⟩, ⟨2, _⟩ => exact List.mem_cons_of_mem _ (List.mem_cons_of_mem _ (List.mem_cons_self))
  | ⟨3, _⟩, ⟨3, _⟩ => exact List.mem_cons_of_mem _ (List.mem_cons_self)
  | ⟨3, _⟩, ⟨4, _⟩ => exact List.mem_cons_self

theorem pieces_mem (x0 : Vec F S288x4096 .fp8e4m3) (x1 : Vec F S9x4096 .f32) (p) (hp : p ∈ pieces x0 x1) : ∃ g q, p = piece x0 x1 g q := by
  unfold pieces at hp
  simp only [List.mem_cons, List.not_mem_nil, or_false] at hp
  rcases hp with rfl | rfl | rfl | rfl | rfl | rfl | rfl | rfl | rfl | rfl | rfl | rfl | rfl | rfl | rfl | rfl | rfl | rfl | rfl | rfl <;> exact ⟨_, _, rfl⟩

/-- Whatever memref the pieces are written to reads the block of words. -/
theorem read_pieces {κ sp} (v : View sig κ sp S2560x128 .i32) (f : v.ty.Contents (Elt F)) (x0 : Vec F S288x4096 .fp8e4m3)
    (x1 : Vec F S9x4096 .f32) : v.read (Elt F) (v.writes (Elt F) f (pieces x0 x1)) = rows x0 x1 := by
  funext y
  refine View.read_writes_apply_of_pieces v f (rows x0 x1) _ ?_ y ?_
  · intro p hp x
    obtain ⟨g, q, rfl⟩ := pieces_mem x0 x1 p hp
    exact piece_eq x0 x1 g q x
  · obtain ⟨g, q, h⟩ := piece_cover x0 x1 y
    exact ⟨_, mem_pieces x0 x1 g q, h⟩

end Cert.Table.Rows

end
-- ==== Proof.TableStores.lean ====
/- The stores of the body of the table's call are the pieces of the block of words. -/
module

public import proofs.«01_k».proof.Proof.TableRows

@[expose] public section

set_option maxRecDepth 16384

noncomputable section

namespace Cert.Table.Rows

open Idealize.ShloMosaic Idealize.ShloMosaic.ValueIdx Cert.Table.Gen Cert.TableWord

variable {F : FTy → Type} [BitOps F]

theorem group0 (c : Fin 8 → Vec F S288x128 .fp8e4m3) (s : Fin 8 → Vec F S9x128 .f32) :
    k0_pay16 (k0_pay6 (c 0)) (k0_pay7 (s 0)) (k0_pay8 (c 1)) (k0_pay9 (s 1)) (k0_pay10 (c 2)) (k0_pay11 (s 2)) (k0_pay12 (c 3)) (k0_pay13 (s 3)) (k0_pay14 (s 4)) (k0_pay15 (c 4)) (s 5) (c 5) (s 6) (c 6) (s 7) (c 7) = group c s := by
  unfold k0_pay16 k0_pay6 k0_pay7 k0_pay8 k0_pay9 k0_pay10 k0_pay11 k0_pay12 k0_pay13 k0_pay14 k0_pay15 group lower upper halves
  rfl

theorem group1 (c : Fin 8 → Vec F S288x128 .fp8e4m3) (s : Fin 8 → Vec F S9x128 .f32) :
    k0_pay31 (k0_pay22 (c 0)) (k0_pay23 (s 0)) (k0_pay24 (c 1)) (k0_pay25 (s 1)) (k0_pay26 (c 2)) (k0_pay27 (s 2)) (k0_pay28 (c 3)) (k0_pay29 (s 3)) (k0_pay30 (s 4)) (c 4) (s 5) (c 5) (s 6) (c 6) (s 7) (c 7) = group c s := by
  unfold k0_pay31 k0_pay22 k0_pay23 k0_pay24 k0_pay25 k0_pay26 k0_pay27 k0_pay28 k0_pay29 k0_pay30 group lower upper halves
  rfl

theorem group2 (c : Fin 8 → Vec F S288x128 .fp8e4m3) (s : Fin 8 → Vec F S9x128 .f32) :
    k0_pay44 (k0_pay37 (c 0)) (k0_pay38 (s 0)) (k0_pay39 (c 1)) (k0_pay40 (s 1)) (k0_pay41 (c 2)) (k0_pay42 (s 2)) (k0_pay43 (s 3)) (c 3) (s 4) (c 4) (s 5) (c 5) (s 6) (c 6) (s 7) (c 7) = group c s := by
  unfold k0_pay44 k0_pay37 k0_pay38 k0_pay39 k0_pay40 k0_pay41 k0_pay42 k0_pay43 group lower upper halves
  rfl

theorem group3 (c : Fin 8 → Vec F S288x128 .fp8e4m3) (s : Fin 8 → Vec F S9x128 .f32) :
    k0_pay56 (k0_pay50 (c 0)) (k0_pay51 (s 0)) (k0_pay52 (c 1)) (k0_pay53 (s 1)) (k0_pay54 (c 2)) (k0_pay55 (s 2)) (s 3) (c 3) (s 4) (c 4) (s 5) (c 5) (s 6) (c 6) (s 7) (c 7) = group c s := by
  unfold k0_pay56 k0_pay50 k0_pay51 k0_pay52 k0_pay53 k0_pay54 k0_pay55 group lower upper halves
  rfl

def stored00 (x0 : Vec F S288x4096 .fp8e4m3) (x1 : Vec F S9x4096 .f32) : View.Piece (Elt F) S2560x128 .i32 :=
  ⟨⟨⟨![0, 0], S128x128.size, ![5, 1], Facts₀.inb_S2560x128_S128x128_0_0_s_5_1⟩, Facts₀.spos_5_1⟩,
    k0_pay17 (k0_pay6 (run0 x0 0 0)) (k0_pay7 (run1 x1 0 0)) (k0_pay8 (run0 x0 0 1)) (k0_pay9 (run1 x1 0 1)) (k0_pay10 (run0 x0 0 2)) (k0_pay11 (run1 x1 0 2)) (k0_pay12 (run0 x0 0 3)) (k0_pay13 (run1 x1 0 3)) (k0_pay14 (run1 x1 0 4)) (k0_pay15 (run0 x0 0 4)) (run1 x1 0 5) (run0 x0 0 5) (run1 x1 0 6) (run0 x0 0 6) (run1 x1 0 7) (run0 x0 0 7)⟩

def stored01 (x0 : Vec F S288x4096 .fp8e4m3) (x1 : Vec F S9x4096 .f32) : View.Piece (Elt F) S2560x128 .i32 :=
  ⟨⟨⟨![1, 0], S128x128.size, ![5, 1], Facts₀.inb_S2560x128_S128x128_1_0_s_5_1⟩, Facts₀.spos_5_1⟩,
    k0_pay18 (k0_pay6 (run0 x0 0 0)) (k0_pay7 (run1 x1 0 0)) (k0_pay8 (run0 x0 0 1)) (k0_pay9 (run1 x1 0 1)) (k0_pay10 (run0 x0 0 2)) (k0_pay11 (run1 x1 0 2)) (k0_pay12 (run0 x0 0 3)) (k0_pay13 (run1 x1 0 3)) (k0_pay14 (run1 x1 0 4)) (k0_pay15 (run0 x0 0 4)) (run1 x1 0 5) (run0 x0 0 5) (run1 x1 0 6) (run0 x0 0 6) (run1 x1 0 7) (run0 x0 0 7)⟩

def stored02 (x0 : Vec F S288x4096 .fp8e4m3) (x1 : Vec F S9x4096 .f32) : View.Piece (Elt F) S2560x128 .i32 :=
  ⟨⟨⟨![2, 0], S128x128.size, ![5, 1], Facts₀.inb_S2560x128_S128x128_2_0_s_5_1⟩, Facts₀.spos_5_1⟩,
    k0_pay19 (k0_pay6 (run0 x0 0 0)) (k0_pay7 (run1 x1 0 0)) (k0_pay8 (run0 x0 0 1)) (k0_pay9 (run1 x1 0 1)) (k0_pay10 (run0 x0 0 2)) (k0_pay11 (run1 x1 0 2)) (k0_pay12 (run0 x0 0 3)) (k0_pay13 (run1 x1 0 3)) (k0_pay14 (run1 x1 0 4)) (k0_pay15 (run0 x0 0 4)) (run1 x1 0 5) (run0 x0 0 5) (run1 x1 0 6) (run0 x0 0 6) (run1 x1 0 7) (run0 x0 0 7)⟩

def stored03 (x0 : Vec F S288x4096 .fp8e4m3) (x1 : Vec F S9x4096 .f32) : View.Piece (Elt F) S2560x128 .i32 :=
  ⟨⟨⟨![3, 0], S128x128.size, ![5, 1], Facts₀.inb_S2560x128_S128x128_3_0_s_5_1⟩, Facts₀.spos_5_1⟩,
    k0_pay20 (k0_pay6 (run0 x0 0 0)) (k0_pay7 (run1 x1 0 0)) (k0_pay8 (run0 x0 0 1)) (k0_pay9 (run1 x1 0 1)) (k0_pay10 (run0 x0 0 2)) (k0_pay11 (run1 x1 0 2)) (k0_pay12 (run0 x0 0 3)) (k0_pay13 (run1 x1 0 3)) (k0_pay14 (run1 x1 0 4)) (k0_pay15 (run0 x0 0 4)) (run1 x1 0 5) (run0 x0 0 5) (run1 x1 0 6) (run0 x0 0 6) (run1 x1 0 7) (run0 x0 0 7)⟩

def stored04 (x0 : Vec F S288x4096 .fp8e4m3) (x1 : Vec F S9x4096 .f32) : View.Piece (Elt F) S2560x128 .i32 :=
  ⟨⟨⟨![4, 0], S128x128.size, ![5, 1], Facts₀.inb_S2560x128_S128x128_4_0_s_5_1⟩, Facts₀.spos_5_1⟩,
    k0_pay21 (k0_pay16 (k0_pay6 (run0 x0 0 0)) (k0_pay7 (run1 x1 0 0)) (k0_pay8 (run0 x0 0 1)) (k0_pay9 (run1 x1 0 1)) (k0_pay10 (run0 x0 0 2)) (k0_pay11 (run1 x1 0 2)) (k0_pay12 (run0 x0 0 3)) (k0_pay13 (run1 x1 0 3)) (k0_pay14 (run1 x1 0 4)) (k0_pay15 (run0 x0 0 4)) (run1 x1 0 5) (run0 x0 0 5) (run1 x1 0 6) (run0 x0 0 6) (run1 x1 0 7) (run0 x0 0 7))⟩

def stored10 (x0 : Vec F S288x4096 .fp8e4m3) (x1 : Vec F S9x4096 .f32) : View.Piece (Elt F) S2560x128 .i32 :=
  ⟨⟨⟨![640, 0], S128x128.size, ![5, 1], Facts₀.inb_S2560x128_S128x128_640_0_s_5_1⟩, Facts₀.spos_5_1⟩,
    k0_pay32 (k0_pay22 (run0 x0 1 0)) (k0_pay23 (run1 x1 1 0)) (k0_pay24 (run0 x0 1 1)) (k0_pay25 (run1 x1 1 1)) (k0_pay26 (run0 x0 1 2)) (k0_pay27 (run1 x1 1 2)) (k0_pay28 (run0 x0 1 3)) (k0_pay29 (run1 x1 1 3)) (k0_pay30 (run1 x1 1 4)) (run0 x0 1 4) (run1 x1 1 5) (run0 x0 1 5) (run1 x1 1 6) (run0 x0 1 6) (run1 x1 1 7) (run0 x0 1 7)⟩

def stored11 (x0 : Vec F S288x4096 .fp8e4m3) (x1 : Vec F S9x4096 .f32) : View.Piece (Elt F) S2560x128 .i32 :=
  ⟨⟨⟨![641, 0], S128x128.size, ![5, 1], Facts₀.inb_S2560x128_S128x128_641_0_s_5_1⟩, Facts₀.spos_5_1⟩,
    k0_pay33 (k0_pay22 (run0 x0 1 0)) (k0_pay23 (run1 x1 1 0)) (k0_pay24 (run0 x0 1 1)) (k0_pay25 (run1 x1 1 1)) (k0_pay26 (run0 x0 1 2)) (k0_pay27 (run1 x1 1 2)) (k0_pay28 (run0 x0 1 3)) (k0_pay29 (run1 x1 1 3)) (k0_pay30 (run1 x1 1 4)) (run0 x0 1 4) (run1 x1 1 5) (run0 x0 1 5) (run1 x1 1 6) (run0 x0 1 6) (run1 x1 1 7) (run0 x0 1 7)⟩

def stored12 (x0 : Vec F S288x4096 .fp8e4m3) (x1 : Vec F S9x4096 .f32) : View.Piece (Elt F) S2560x128 .i32 :=
  ⟨⟨⟨![642, 0], S128x128.size, ![5, 1], Facts₀.inb_S2560x128_S128x128_642_0_s_5_1⟩, Facts₀.spos_5_1⟩,
    k0_pay34 (k0_pay22 (run0 x0 1 0)) (k0_pay23 (run1 x1 1 0)) (k0_pay24 (run0 x0 1 1)) (k0_pay25 (run1 x1 1 1)) (k0_pay26 (run0 x0 1 2)) (k0_pay27 (run1 x1 1 2)) (k0_pay28 (run0 x0 1 3)) (k0_pay29 (run1 x1 1 3)) (k0_pay30 (run1 x1 1 4)) (run0 x0 1 4) (run1 x1 1 5) (run0 x0 1 5) (run1 x1 1 6) (run0 x0 1 6) (run1 x1 1 7) (run0 x0 1 7)⟩

def stored13 (x0 : Vec F S288x4096 .fp8e4m3) (x1 : Vec F S9x4096 .f32) : View.Piece (Elt F) S2560x128 .i32 :=
  ⟨⟨⟨![643, 0], S128x128.size, ![5, 1], Facts₀.inb_S2560x128_S128x128_643_0_s_5_1⟩, Facts₀.spos_5_1⟩,
    k0_pay35 (k0_pay31 (k0_pay22 (run0 x0 1 0)) (k0_pay23 (run1 x1 1 0)) (k0_pay24 (run0 x0 1 1)) (k0_pay25 (run1 x1 1 1)) (k0_pay26 (run0 x0 1 2)) (k0_pay27 (run1 x1 1 2)) (k0_pay28 (run0 x0 1 3)) (k0_pay29 (run1 x1 1 3)) (k0_pay30 (run1 x1 1 4)) (run0 x0 1 4) (run1 x1 1 5) (run0 x0 1 5) (run1 x1 1 6) (run0 x0 1 6) (run1 x1 1 7) (run0 x0 1 7))⟩

def stored14 (x0 : Vec F S288x4096 .fp8e4m3) (x1 : Vec F S9x4096 .f32) : View.Piece (Elt F) S2560x128 .i32 :=
  ⟨⟨⟨![644, 0], S128x128.size, ![5, 1], Facts₀.inb_S2560x128_S128x128_644_0_s_5_1⟩, Facts₀.spos_5_1⟩,
    k0_pay36 (k0_pay31 (k0_pay22 (run0 x0 1 0)) (k0_pay23 (run1 x1 1 0)) (k0_pay24 (run0 x0 1 1)) (k0_pay25 (run1 x1 1 1)) (k0_pay26 (run0 x0 1 2)) (k0_pay27 (run1 x1 1 2)) (k0_pay28 (run0 x0 1 3)) (k0_pay29 (run1 x1 1 3)) (k0_pay30 (run1 x1 1 4)) (run0 x0 1 4) (run1 x1 1 5) (run0 x0 1 5) (run1 x1 1 6) (run0 x0 1 6) (run1 x1 1 7) (run0 x0 1 7))⟩

def stored20 (x0 : Vec F S288x4096 .fp8e4m3) (x1 : Vec F S9x4096 .f32) : View.Piece (Elt F) S2560x128 .i32 :=
  ⟨⟨⟨![1280, 0], S128x128.size, ![5, 1], Facts₀.inb_S2560x128_S128x128_1280_0_s_5_1⟩, Facts₀.spos_5_1⟩,
    k0_pay45 (k0_pay37 (run0 x0 2 0)) (k0_pay38 (run1 x1 2 0)) (k0_pay39 (run0 x0 2 1)) (k0_pay40 (run1 x1 2 1)) (k0_pay41 (run0 x0 2 2)) (k0_pay42 (run1 x1 2 2)) (k0_pay43 (run1 x1 2 3)) (run0 x0 2 3) (run1 x1 2 4) (run0 x0 2 4) (run1 x1 2 5) (run0 x0 2 5) (run1 x1 2 6) (run0 x0 2 6) (run1 x1 2 7) (run0 x0 2 7)⟩

def stored21 (x0 : Vec F S288x4096 .fp8e4m3) (x1 : Vec F S9x4096 .f32) : View.Piece (Elt F) S2560x128 .i32 :=
  ⟨⟨⟨![1281, 0], S128x128.size, ![5, 1], Facts₀.inb_S2560x128_S128x128_1281_0_s_5_1⟩, Facts₀.spos_5_1⟩,
    k0_pay46 (k0_pay37 (run0 x0 2 0)) (k0_pay38 (run1 x1 2 0)) (k0_pay39 (run0 x0 2 1)) (k0_pay40 (run1 x1 2 1)) (k0_pay41 (run0 x0 2 2)) (k0_pay42 (run1 x1 2 2)) (k0_pay43 (run1 x1 2 3)) (run0 x0 2 3) (run1 x1 2 4) (run0 x0 2 4) (run1 x1 2 5) (run0 x0 2 5) (run1 x1 2 6) (run0 x0 2 6) (run1 x1 2 7) (run0 x0 2 7)⟩

def stored22 (x0 : Vec F S288x4096 .fp8e4m3) (x1 : Vec F S9x4096 .f32) : View.Piece (Elt F) S2560x128 .i32 :=
  ⟨⟨⟨![1282, 0], S128x128.size, ![5, 1], Facts₀.inb_S2560x128_S128x128_1282_0_s_5_1⟩, Facts₀.spos_5_1⟩,
    k0_pay47 (k0_pay44 (k0_pay37 (run0 x0 2 0)) (k0_pay38 (run1 x1 2 0)) (k0_pay39 (run0 x0 2 1)) (k0_pay40 (run1 x1 2 1)) (k0_pay41 (run0 x0 2 2)) (k0_pay42 (run1 x1 2 2)) (k0_pay43 (run1 x1 2 3)) (run0 x0 2 3) (run1 x1 2 4) (run0 x0 2 4) (run1 x1 2 5) (run0 x0 2 5) (run1 x1 2 6) (run0 x0 2 6) (run1 x1 2 7) (run0 x0 2 7))⟩

def stored23 (x0 : Vec F S288x4096 .fp8e4m3) (x1 : Vec F S9x4096 .f32) : View.Piece (Elt F) S2560x128 .i32 :=
  ⟨⟨⟨![1283, 0], S128x128.size, ![5, 1], Facts₀.inb_S2560x128_S128x128_1283_0_s_5_1⟩, Facts₀.spos_5_1⟩,
    k0_pay48 (k0_pay44 (k0_pay37 (run0 x0 2 0)) (k0_pay38 (run1 x1 2 0)) (k0_pay39 (run0 x0 2 1)) (k0_pay40 (run1 x1 2 1)) (k0_pay41 (run0 x0 2 2)) (k0_pay42 (run1 x1 2 2)) (k0_pay43 (run1 x1 2 3)) (run0 x0 2 3) (run1 x1 2 4) (run0 x0 2 4) (run1 x1 2 5) (run0 x0 2 5) (run1 x1 2 6) (run0 x0 2 6) (run1 x1 2 7) (run0 x0 2 7))⟩

def stored24 (x0 : Vec F S288x4096 .fp8e4m3) (x1 : Vec F S9x4096 .f32) : View.Piece (Elt F) S2560x128 .i32 :=
  ⟨⟨⟨![1284, 0], S128x128.size, ![5, 1], Facts₀.inb_S2560x128_S128x128_1284_0_s_5_1⟩, Facts₀.spos_5_1⟩,
    k0_pay49 (k0_pay44 (k0_pay37 (run0 x0 2 0)) (k0_pay38 (run1 x1 2 0)) (k0_pay39 (run0 x0 2 1)) (k0_pay40 (run1 x1 2 1)) (k0_pay41 (run0 x0 2 2)) (k0_pay42 (run1 x1 2 2)) (k0_pay43 (run1 x1 2 3)) (run0 x0 2 3) (run1 x1 2 4) (run0 x0 2 4) (run1 x1 2 5) (run0 x0 2 5) (run1 x1 2 6) (run0 x0 2 6) (run1 x1 2 7) (run0 x0 2 7))⟩

def stored30 (x0 : Vec F S288x4096 .fp8e4m3) (x1 : Vec F S9x4096 .f32) : View.Piece (Elt F) S2560x128 .i32 :=
  ⟨⟨⟨![1920, 0], S128x128.size, ![5, 1], Facts₀.inb_S2560x128_S128x128_1920_0_s_5_1⟩, Facts₀.spos_5_1⟩,
    k0_pay1 (k0_pay57 (k0_pay50 (run0 x0 3 0)) (k0_pay51 (run1 x1 3 0)) (k0_pay52 (run0 x0 3 1)) (k0_pay53 (run1 x1 3 1)) (k0_pay54 (run0 x0 3 2)) (k0_pay55 (run1 x1 3 2)) (run1 x1 3 3) (run0 x0 3 3) (run1 x1 3 4) (run0 x0 3 4) (run1 x1 3 5) (run0 x0 3 5) (run1 x1 3 6) (run0 x0 3 6) (run1 x1 3 7) (run0 x0 3 7))⟩

def stored31 (x0 : Vec F S288x4096 .fp8e4m3) (x1 : Vec F S9x4096 .f32) : View.Piece (Elt F) S2560x128 .i32 :=
  ⟨⟨⟨![1921, 0], S128x128.size, ![5, 1], Facts₀.inb_S2560x128_S128x128_1921_0_s_5_1⟩, Facts₀.spos_5_1⟩,
    k0_pay2 (k0_pay56 (k0_pay50 (run0 x0 3 0)) (k0_pay51 (run1 x1 3 0)) (k0_pay52 (run0 x0 3 1)) (k0_pay53 (run1 x1 3 1)) (k0_pay54 (run0 x0 3 2)) (k0_pay55 (run1 x1 3 2)) (run1 x1 3 3) (run0 x0 3 3) (run1 x1 3 4) (run0 x0 3 4) (run1 x1 3 5) (run0 x0 3 5) (run1 x1 3 6) (run0 x0 3 6) (run1 x1 3 7) (run0 x0 3 7))⟩

def stored32 (x0 : Vec F S288x4096 .fp8e4m3) (x1 : Vec F S9x4096 .f32) : View.Piece (Elt F) S2560x128 .i32 :=
  ⟨⟨⟨![1922, 0], S128x128.size, ![5, 1], Facts₀.inb_S2560x128_S128x128_1922_0_s_5_1⟩, Facts₀.spos_5_1⟩,
    k0_pay3 (k0_pay56 (k0_pay50 (run0 x0 3 0)) (k0_pay51 (run1 x1 3 0)) (k0_pay52 (run0 x0 3 1)) (k0_pay53 (run1 x1 3 1)) (k0_pay54 (run0 x0 3 2)) (k0_pay55 (run1 x1 3 2)) (run1 x1 3 3) (run0 x0 3 3) (run1 x1 3 4) (run0 x0 3 4) (run1 x1 3 5) (run0 x0 3 5) (run1 x1 3 6) (run0 x0 3 6) (run1 x1 3 7) (run0 x0 3 7))⟩

def stored33 (x0 : Vec F S288x4096 .fp8e4m3) (x1 : Vec F S9x4096 .f32) : View.Piece (Elt F) S2560x128 .i32 :=
  ⟨⟨⟨![1923, 0], S128x128.size, ![5, 1], Facts₀.inb_S2560x128_S128x128_1923_0_s_5_1⟩, Facts₀.spos_5_1⟩,
    k0_pay4 (k0_pay56 (k0_pay50 (run0 x0 3 0)) (k0_pay51 (run1 x1 3 0)) (k0_pay52 (run0 x0 3 1)) (k0_pay53 (run1 x1 3 1)) (k0_pay54 (run0 x0 3 2)) (k0_pay55 (run1 x1 3 2)) (run1 x1 3 3) (run0 x0 3 3) (run1 x1 3 4) (run0 x0 3 4) (run1 x1 3 5) (run0 x0 3 5) (run1 x1 3 6) (run0 x0 3 6) (run1 x1 3 7) (run0 x0 3 7))⟩

def stored34 (x0 : Vec F S288x4096 .fp8e4m3) (x1 : Vec F S9x4096 .f32) : View.Piece (Elt F) S2560x128 .i32 :=
  ⟨⟨⟨![1924, 0], S128x128.size, ![5, 1], Facts₀.inb_S2560x128_S128x128_1924_0_s_5_1⟩, Facts₀.spos_5_1⟩,
    k0_pay5 (k0_pay56 (k0_pay50 (run0 x0 3 0)) (k0_pay51 (run1 x1 3 0)) (k0_pay52 (run0 x0 3 1)) (k0_pay53 (run1 x1 3 1)) (k0_pay54 (run0 x0 3 2)) (k0_pay55 (run1 x1 3 2)) (run1 x1 3 3) (run0 x0 3 3) (run1 x1 3 4) (run0 x0 3 4) (run1 x1 3 5) (run0 x0 3 5) (run1 x1 3 6) (run0 x0 3 6) (run1 x1 3 7) (run0 x0 3 7))⟩

theorem stored00_eq (x0 : Vec F S288x4096 .fp8e4m3) (x1 : Vec F S9x4096 .f32) : stored00 x0 x1 = piece x0 x1 0 0 := by
  unfold stored00 k0_pay17
  rw [group0]
  rfl

theorem stored01_eq (x0 : Vec F S288x4096 .fp8e4m3) (x1 : Vec F S9x4096 .f32) : stored01 x0 x1 = piece x0 x1 0 1 := by
  unfold stored01 k0_pay18
  rw [group0]
  rfl

theorem stored02_eq (x0 : Vec F S288x4096 .fp8e4m3) (x1 : Vec F S9x4096 .f32) : stored02 x0 x1 = piece x0 x1 0 2 := by
  unfold stored02 k0_pay19
  rw [group0]
  rfl

theorem stored03_eq (x0 : Vec F S288x4096 .fp8e4m3) (x1 : Vec F S9x4096 .f32) : stored03 x0 x1 = piece x0 x1 0 3 := by
  unfold stored03 k0_pay20
  rw [group0]
  rfl

theorem stored04_eq (x0 : Vec F S288x4096 .fp8e4m3) (x1 : Vec F S9x4096 .f32) : stored04 x0 x1 = piece x0 x1 0 4 := by
  unfold stored04 k0_pay21
  rw [group0]
  rfl

theorem stored10_eq (x0 : Vec F S288x4096 .fp8e4m3) (x1 : Vec F S9x4096 .f32) : stored10 x0 x1 = piece x0 x1 1 0 := by
  unfold stored10 k0_pay32
  rw [group1]
  rfl

theorem stored11_eq (x0 : Vec F S288x4096 .fp8e4m3) (x1 : Vec F S9x4096 .f32) : stored11 x0 x1 = piece x0 x1 1 1 := by
  unfold stored11 k0_pay33
  rw [group1]
  rfl

theorem stored12_eq (x0 : Vec F S288x4096 .fp8e4m3) (x1 : Vec F S9x4096 .f32) : stored12 x0 x1 = piece x0 x1 1 2 := by
  unfold stored12 k0_pay34
  rw [group1]
  rfl

theorem stored13_eq (x0 : Vec F S288x4096 .fp8e4m3) (x1 : Vec F S9x4096 .f32) : stored13 x0 x1 = piece x0 x1 1 3 := by
  unfold stored13 k0_pay35
  rw [group1]
  rfl

theorem stored14_eq (x0 : Vec F S288x4096 .fp8e4m3) (x1 : Vec F S9x4096 .f32) : stored14 x0 x1 = piece x0 x1 1 4 := by
  unfold stored14 k0_pay36
  rw [group1]
  rfl

theorem stored20_eq (x0 : Vec F S288x4096 .fp8e4m3) (x1 : Vec F S9x4096 .f32) : stored20 x0 x1 = piece x0 x1 2 0 := by
  unfold stored20 k0_pay45
  rw [group2]
  rfl

theorem stored21_eq (x0 : Vec F S288x4096 .fp8e4m3) (x1 : Vec F S9x4096 .f32) : stored21 x0 x1 = piece x0 x1 2 1 := by
  unfold stored21 k0_pay46
  rw [group2]
  rfl

theorem stored22_eq (x0 : Vec F S288x4096 .fp8e4m3) (x1 : Vec F S9x4096 .f32) : stored22 x0 x1 = piece x0 x1 2 2 := by
  unfold stored22 k0_pay47
  rw [group2]
  rfl

theorem stored23_eq (x0 : Vec F S288x4096 .fp8e4m3) (x1 : Vec F S9x4096 .f32) : stored23 x0 x1 = piece x0 x1 2 3 := by
  unfold stored23 k0_pay48
  rw [group2]
  rfl

theorem stored24_eq (x0 : Vec F S288x4096 .fp8e4m3) (x1 : Vec F S9x4096 .f32) : stored24 x0 x1 = piece x0 x1 2 4 := by
  unfold stored24 k0_pay49
  rw [group2]
  rfl

theorem stored30_eq (x0 : Vec F S288x4096 .fp8e4m3) (x1 : Vec F S9x4096 .f32) : stored30 x0 x1 = piece x0 x1 3 0 := by
  unfold stored30 k0_pay1 k0_pay57
  rw [group3]
  rfl

theorem stored31_eq (x0 : Vec F S288x4096 .fp8e4m3) (x1 : Vec F S9x4096 .f32) : stored31 x0 x1 = piece x0 x1 3 1 := by
  unfold stored31 k0_pay2
  rw [group3]
  rfl

theorem stored32_eq (x0 : Vec F S288x4096 .fp8e4m3) (x1 : Vec F S9x4096 .f32) : stored32 x0 x1 = piece x0 x1 3 2 := by
  unfold stored32 k0_pay3
  rw [group3]
  rfl

theorem stored33_eq (x0 : Vec F S288x4096 .fp8e4m3) (x1 : Vec F S9x4096 .f32) : stored33 x0 x1 = piece x0 x1 3 3 := by
  unfold stored33 k0_pay4
  rw [group3]
  rfl

theorem stored34_eq (x0 : Vec F S288x4096 .fp8e4m3) (x1 : Vec F S9x4096 .f32) : stored34 x0 x1 = piece x0 x1 3 4 := by
  unfold stored34 k0_pay5
  rw [group3]
  rfl

theorem load0_00 (v : View sig .tc .vmem S288x4096 .fp8e4m3) (f : v.ty.Contents (Elt F)) :
    v.readAt (Elt F) (Rect.unit (s := S288x4096) ![0, 0] S288x128.size Facts₀.inb_S288x4096_S288x128_0_0).toLoadRect f = run0 (v.read (Elt F) f) 0 0 := rfl

theorem load1_00 (v : View sig .tc .vmem S9x4096 .f32) (f : v.ty.Contents (Elt F)) :
    v.readAt (Elt F) (Rect.unit (s := S9x4096) ![0, 0] S9x128.size Facts₀.inb_S9x4096_S9x128_0_0).toLoadRect f = run1 (v.read (Elt F) f) 0 0 := rfl

theorem load0_01 (v : View sig .tc .vmem S288x4096 .fp8e4m3) (f : v.ty.Contents (Elt F)) :
    v.readAt (Elt F) (Rect.unit (s := S288x4096) ![0, 128] S288x128.size Facts₀.inb_S288x4096_S288x128_0_128).toLoadRect f = run0 (v.read (Elt F) f) 0 1 := rfl

theorem load1_01 (v : View sig .tc .vmem S9x4096 .f32) (f : v.ty.Contents (Elt F)) :
    v.readAt (Elt F) (Rect.unit (s := S9x4096) ![0, 128] S9x128.size Facts₀.inb_S9x4096_S9x128_0_128).toLoadRect f = run1 (v.read (Elt F) f) 0 1 := rfl

theorem load0_02 (v : View sig .tc .vmem S288x4096 .fp8e4m3) (f : v.ty.Contents (Elt F)) :
    v.readAt (Elt F) (Rect.unit (s := S288x4096) ![0, 256] S288x128.size Facts₀.inb_S288x4096_S288x128_0_256).toLoadRect f = run0 (v.read (Elt F) f) 0 2 := rfl

theorem load1_02 (v : View sig .tc .vmem S9x4096 .f32) (f : v.ty.Contents (Elt F)) :
    v.readAt (Elt F) (Rect.unit (s := S9x4096) ![0, 256] S9x128.size Facts₀.inb_S9x4096_S9x128_0_256).toLoadRect f = run1 (v.read (Elt F) f) 0 2 := rfl

theorem load0_03 (v : View sig .tc .vmem S288x4096 .fp8e4m3) (f : v.ty.Contents (Elt F)) :
    v.readAt (Elt F) (Rect.unit (s := S288x4096) ![0, 384] S288x128.size Facts₀.inb_S288x4096_S288x128_0_384).toLoadRect f = run0 (v.read (Elt F) f) 0 3 := rfl

theorem load1_03 (v : View sig .tc .vmem S9x4096 .f32) (f : v.ty.Contents (Elt F)) :
    v.readAt (Elt F) (Rect.unit (s := S9x4096) ![0, 384] S9x128.size Facts₀.inb_S9x4096_S9x128_0_384).toLoadRect f = run1 (v.read (Elt F) f) 0 3 := rfl

theorem load0_04 (v : View sig .tc .vmem S288x4096 .fp8e4m3) (f : v.ty.Contents (Elt F)) :
    v.readAt (Elt F) (Rect.unit (s := S288x4096) ![0, 512] S288x128.size Facts₀.inb_S288x4096_S288x128_0_512).toLoadRect f = run0 (v.read (Elt F) f) 0 4 := rfl

theorem load1_04 (v : View sig .tc .vmem S9x4096 .f32) (f : v.ty.Contents (Elt F)) :
    v.readAt (Elt F) (Rect.unit (s := S9x4096) ![0, 512] S9x128.size Facts₀.inb_S9x4096_S9x128_0_512).toLoadRect f = run1 (v.read (Elt F) f) 0 4 := rfl

theorem load0_05 (v : View sig .tc .vmem S288x4096 .fp8e4m3) (f : v.ty.Contents (Elt F)) :
    v.readAt (Elt F) (Rect.unit (s := S288x4096) ![0, 640] S288x128.size Facts₀.inb_S288x4096_S288x128_0_640).toLoadRect f = run0 (v.read (Elt F) f) 0 5 := rfl

theorem load1_05 (v : View sig .tc .vmem S9x4096 .f32) (f : v.ty.Contents (Elt F)) :
    v.readAt (Elt F) (Rect.unit (s := S9x4096) ![0, 640] S9x128.size Facts₀.inb_S9x4096_S9x128_0_640).toLoadRect f = run1 (v.read (Elt F) f) 0 5 := rfl

theorem load0_06 (v : View sig .tc .vmem S288x4096 .fp8e4m3) (f : v.ty.Contents (Elt F)) :
    v.readAt (Elt F) (Rect.unit (s := S288x4096) ![0, 768] S288x128.size Facts₀.inb_S288x4096_S288x128_0_768).toLoadRect f = run0 (v.read (Elt F) f) 0 6 := rfl

theorem load1_06 (v : View sig .tc .vmem S9x4096 .f32) (f : v.ty.Contents (Elt F)) :
    v.readAt (Elt F) (Rect.unit (s := S9x4096) ![0, 768] S9x128.size Facts₀.inb_S9x4096_S9x128_0_768).toLoadRect f = run1 (v.read (Elt F) f) 0 6 := rfl

theorem load0_07 (v : View sig .tc .vmem S288x4096 .fp8e4m3) (f : v.ty.Contents (Elt F)) :
    v.readAt (Elt F) (Rect.unit (s := S288x4096) ![0, 896] S288x128.size Facts₀.inb_S288x4096_S288x128_0_896).toLoadRect f = run0 (v.read (Elt F) f) 0 7 := rfl

theorem load1_07 (v : View sig .tc .vmem S9x4096 .f32) (f : v.ty.Contents (Elt F)) :
    v.readAt (Elt F) (Rect.unit (s := S9x4096) ![0, 896] S9x128.size Facts₀.inb_S9x4096_S9x128_0_896).toLoadRect f = run1 (v.read (Elt F) f) 0 7 := rfl

theorem load0_10 (v : View sig .tc .vmem S288x4096 .fp8e4m3) (f : v.ty.Contents (Elt F)) :
    v.readAt (Elt F) (Rect.unit (s := S288x4096) ![0, 1024] S288x128.size Facts₀.inb_S288x4096_S288x128_0_1024).toLoadRect f = run0 (v.read (Elt F) f) 1 0 := rfl

theorem load1_10 (v : View sig .tc .vmem S9x4096 .f32) (f : v.ty.Contents (Elt F)) :
    v.readAt (Elt F) (Rect.unit (s := S9x4096) ![0, 1024] S9x128.size Facts₀.inb_S9x4096_S9x128_0_1024).toLoadRect f = run1 (v.read (Elt F) f) 1 0 := rfl

theorem load0_11 (v : View sig .tc .vmem S288x4096 .fp8e4m3) (f : v.ty.Contents (Elt F)) :
    v.readAt (Elt F) (Rect.unit (s := S288x4096) ![0, 1152] S288x128.size Facts₀.inb_S288x4096_S288x128_0_1152).toLoadRect f = run0 (v.read (Elt F) f) 1 1 := rfl

theorem load1_11 (v : View sig .tc .vmem S9x4096 .f32) (f : v.ty.Contents (Elt F)) :
    v.readAt (Elt F) (Rect.unit (s := S9x4096) ![0, 1152] S9x128.size Facts₀.inb_S9x4096_S9x128_0_1152).toLoadRect f = run1 (v.read (Elt F) f) 1 1 := rfl

theorem load0_12 (v : View sig .tc .vmem S288x4096 .fp8e4m3) (f : v.ty.Contents (Elt F)) :
    v.readAt (Elt F) (Rect.unit (s := S288x4096) ![0, 1280] S288x128.size Facts₀.inb_S288x4096_S288x128_0_1280).toLoadRect f = run0 (v.read (Elt F) f) 1 2 := rfl

theorem load1_12 (v : View sig .tc .vmem S9x4096 .f32) (f : v.ty.Contents (Elt F)) :
    v.readAt (Elt F) (Rect.unit (s := S9x4096) ![0, 1280] S9x128.size Facts₀.inb_S9x4096_S9x128_0_1280).toLoadRect f = run1 (v.read (Elt F) f) 1 2 := rfl

theorem load0_13 (v : View sig .tc .vmem S288x4096 .fp8e4m3) (f : v.ty.Contents (Elt F)) :
    v.readAt (Elt F) (Rect.unit (s := S288x4096) ![0, 1408] S288x128.size Facts₀.inb_S288x4096_S288x128_0_1408).toLoadRect f = run0 (v.read (Elt F) f) 1 3 := rfl

theorem load1_13 (v : View sig .tc .vmem S9x4096 .f32) (f : v.ty.Contents (Elt F)) :
    v.readAt (Elt F) (Rect.unit (s := S9x4096) ![0, 1408] S9x128.size Facts₀.inb_S9x4096_S9x128_0_1408).toLoadRect f = run1 (v.read (Elt F) f) 1 3 := rfl

theorem load0_14 (v : View sig .tc .vmem S288x4096 .fp8e4m3) (f : v.ty.Contents (Elt F)) :
    v.readAt (Elt F) (Rect.unit (s := S288x4096) ![0, 1536] S288x128.size Facts₀.inb_S288x4096_S288x128_0_1536).toLoadRect f = run0 (v.read (Elt F) f) 1 4 := rfl

theorem load1_14 (v : View sig .tc .vmem S9x4096 .f32) (f : v.ty.Contents (Elt F)) :
    v.readAt (Elt F) (Rect.unit (s := S9x4096) ![0, 1536] S9x128.size Facts₀.inb_S9x4096_S9x128_0_1536).toLoadRect f = run1 (v.read (Elt F) f) 1 4 := rfl

theorem load0_15 (v : View sig .tc .vmem S288x4096 .fp8e4m3) (f : v.ty.Contents (Elt F)) :
    v.readAt (Elt F) (Rect.unit (s := S288x4096) ![0, 1664] S288x128.size Facts₀.inb_S288x4096_S288x128_0_1664).toLoadRect f = run0 (v.read (Elt F) f) 1 5 := rfl

theorem load1_15 (v : View sig .tc .vmem S9x4096 .f32) (f : v.ty.Contents (Elt F)) :
    v.readAt (Elt F) (Rect.unit (s := S9x4096) ![0, 1664] S9x128.size Facts₀.inb_S9x4096_S9x128_0_1664).toLoadRect f = run1 (v.read (Elt F) f) 1 5 := rfl

theorem load0_16 (v : View sig .tc .vmem S288x4096 .fp8e4m3) (f : v.ty.Contents (Elt F)) :
    v.readAt (Elt F) (Rect.unit (s := S288x4096) ![0, 1792] S288x128.size Facts₀.inb_S288x4096_S288x128_0_1792).toLoadRect f = run0 (v.read (Elt F) f) 1 6 := rfl

theorem load1_16 (v : View sig .tc .vmem S9x4096 .f32) (f : v.ty.Contents (Elt F)) :
    v.readAt (Elt F) (Rect.unit (s := S9x4096) ![0, 1792] S9x128.size Facts₀.inb_S9x4096_S9x128_0_1792).toLoadRect f = run1 (v.read (Elt F) f) 1 6 := rfl

theorem load0_17 (v : View sig .tc .vmem S288x4096 .fp8e4m3) (f : v.ty.Contents (Elt F)) :
    v.readAt (Elt F) (Rect.unit (s := S288x4096) ![0, 1920] S288x128.size Facts₀.inb_S288x4096_S288x128_0_1920).toLoadRect f = run0 (v.read (Elt F) f) 1 7 := rfl

theorem load1_17 (v : View sig .tc .vmem S9x4096 .f32) (f : v.ty.Contents (Elt F)) :
    v.readAt (Elt F) (Rect.unit (s := S9x4096) ![0, 1920] S9x128.size Facts₀.inb_S9x4096_S9x128_0_1920).toLoadRect f = run1 (v.read (Elt F) f) 1 7 := rfl

theorem load0_20 (v : View sig .tc .vmem S288x4096 .fp8e4m3) (f : v.ty.Contents (Elt F)) :
    v.readAt (Elt F) (Rect.unit (s := S288x4096) ![0, 2048] S288x128.size Facts₀.inb_S288x4096_S288x128_0_2048).toLoadRect f = run0 (v.read (Elt F) f) 2 0 := rfl

theorem load1_20 (v : View sig .tc .vmem S9x4096 .f32) (f : v.ty.Contents (Elt F)) :
    v.readAt (Elt F) (Rect.unit (s := S9x4096) ![0, 2048] S9x128.size Facts₀.inb_S9x4096_S9x128_0_2048).toLoadRect f = run1 (v.read (Elt F) f) 2 0 := rfl

theorem load0_21 (v : View sig .tc .vmem S288x4096 .fp8e4m3) (f : v.ty.Contents (Elt F)) :
    v.readAt (Elt F) (Rect.unit (s := S288x4096) ![0, 2176] S288x128.size Facts₀.inb_S288x4096_S288x128_0_2176).toLoadRect f = run0 (v.read (Elt F) f) 2 1 := rfl

theorem load1_21 (v : View sig .tc .vmem S9x4096 .f32) (f : v.ty.Contents (Elt F)) :
    v.readAt (Elt F) (Rect.unit (s := S9x4096) ![0, 2176] S9x128.size Facts₀.inb_S9x4096_S9x128_0_2176).toLoadRect f = run1 (v.read (Elt F) f) 2 1 := rfl

theorem load0_22 (v : View sig .tc .vmem S288x4096 .fp8e4m3) (f : v.ty.Contents (Elt F)) :
    v.readAt (Elt F) (Rect.unit (s := S288x4096) ![0, 2304] S288x128.size Facts₀.inb_S288x4096_S288x128_0_2304).toLoadRect f = run0 (v.read (Elt F) f) 2 2 := rfl

theorem load1_22 (v : View sig .tc .vmem S9x4096 .f32) (f : v.ty.Contents (Elt F)) :
    v.readAt (Elt F) (Rect.unit (s := S9x4096) ![0, 2304] S9x128.size Facts₀.inb_S9x4096_S9x128_0_2304).toLoadRect f = run1 (v.read (Elt F) f) 2 2 := rfl

theorem load0_23 (v : View sig .tc .vmem S288x4096 .fp8e4m3) (f : v.ty.Contents (Elt F)) :
    v.readAt (Elt F) (Rect.unit (s := S288x4096) ![0, 2432] S288x128.size Facts₀.inb_S288x4096_S288x128_0_2432).toLoadRect f = run0 (v.read (Elt F) f) 2 3 := rfl

theorem load1_23 (v : View sig .tc .vmem S9x4096 .f32) (f : v.ty.Contents (Elt F)) :
    v.readAt (Elt F) (Rect.unit (s := S9x4096) ![0, 2432] S9x128.size Facts₀.inb_S9x4096_S9x128_0_2432).toLoadRect f = run1 (v.read (Elt F) f) 2 3 := rfl

theorem load0_24 (v : View sig .tc .vmem S288x4096 .fp8e4m3) (f : v.ty.Contents (Elt F)) :
    v.readAt (Elt F) (Rect.unit (s := S288x4096) ![0, 2560] S288x128.size Facts₀.inb_S288x4096_S288x128_0_2560).toLoadRect f = run0 (v.read (Elt F) f) 2 4 := rfl

theorem load1_24 (v : View sig .tc .vmem S9x4096 .f32) (f : v.ty.Contents (Elt F)) :
    v.readAt (Elt F) (Rect.unit (s := S9x4096) ![0, 2560] S9x128.size Facts₀.inb_S9x4096_S9x128_0_2560).toLoadRect f = run1 (v.read (Elt F) f) 2 4 := rfl

theorem load0_25 (v : View sig .tc .vmem S288x4096 .fp8e4m3) (f : v.ty.Contents (Elt F)) :
    v.readAt (Elt F) (Rect.unit (s := S288x4096) ![0, 2688] S288x128.size Facts₀.inb_S288x4096_S288x128_0_2688).toLoadRect f = run0 (v.read (Elt F) f) 2 5 := rfl

theorem load1_25 (v : View sig .tc .vmem S9x4096 .f32) (f : v.ty.Contents (Elt F)) :
    v.readAt (Elt F) (Rect.unit (s := S9x4096) ![0, 2688] S9x128.size Facts₀.inb_S9x4096_S9x128_0_2688).toLoadRect f = run1 (v.read (Elt F) f) 2 5 := rfl

theorem load0_26 (v : View sig .tc .vmem S288x4096 .fp8e4m3) (f : v.ty.Contents (Elt F)) :
    v.readAt (Elt F) (Rect.unit (s := S288x4096) ![0, 2816] S288x128.size Facts₀.inb_S288x4096_S288x128_0_2816).toLoadRect f = run0 (v.read (Elt F) f) 2 6 := rfl

theorem load1_26 (v : View sig .tc .vmem S9x4096 .f32) (f : v.ty.Contents (Elt F)) :
    v.readAt (Elt F) (Rect.unit (s := S9x4096) ![0, 2816] S9x128.size Facts₀.inb_S9x4096_S9x128_0_2816).toLoadRect f = run1 (v.read (Elt F) f) 2 6 := rfl

theorem load0_27 (v : View sig .tc .vmem S288x4096 .fp8e4m3) (f : v.ty.Contents (Elt F)) :
    v.readAt (Elt F) (Rect.unit (s := S288x4096) ![0, 2944] S288x128.size Facts₀.inb_S288x4096_S288x128_0_2944).toLoadRect f = run0 (v.read (Elt F) f) 2 7 := rfl

theorem load1_27 (v : View sig .tc .vmem S9x4096 .f32) (f : v.ty.Contents (Elt F)) :
    v.readAt (Elt F) (Rect.unit (s := S9x4096) ![0, 2944] S9x128.size Facts₀.inb_S9x4096_S9x128_0_2944).toLoadRect f = run1 (v.read (Elt F) f) 2 7 := rfl

theorem load0_30 (v : View sig .tc .vmem S288x4096 .fp8e4m3) (f : v.ty.Contents (Elt F)) :
    v.readAt (Elt F) (Rect.unit (s := S288x4096) ![0, 3072] S288x128.size Facts₀.inb_S288x4096_S288x128_0_3072).toLoadRect f = run0 (v.read (Elt F) f) 3 0 := rfl

theorem load1_30 (v : View sig .tc .vmem S9x4096 .f32) (f : v.ty.Contents (Elt F)) :
    v.readAt (Elt F) (Rect.unit (s := S9x4096) ![0, 3072] S9x128.size Facts₀.inb_S9x4096_S9x128_0_3072).toLoadRect f = run1 (v.read (Elt F) f) 3 0 := rfl

theorem load0_31 (v : View sig .tc .vmem S288x4096 .fp8e4m3) (f : v.ty.Contents (Elt F)) :
    v.readAt (Elt F) (Rect.unit (s := S288x4096) ![0, 3200] S288x128.size Facts₀.inb_S288x4096_S288x128_0_3200).toLoadRect f = run0 (v.read (Elt F) f) 3 1 := rfl

theorem load1_31 (v : View sig .tc .vmem S9x4096 .f32) (f : v.ty.Contents (Elt F)) :
    v.readAt (Elt F) (Rect.unit (s := S9x4096) ![0, 3200] S9x128.size Facts₀.inb_S9x4096_S9x128_0_3200).toLoadRect f = run1 (v.read (Elt F) f) 3 1 := rfl

theorem load0_32 (v : View sig .tc .vmem S288x4096 .fp8e4m3) (f : v.ty.Contents (Elt F)) :
    v.readAt (Elt F) (Rect.unit (s := S288x4096) ![0, 3328] S288x128.size Facts₀.inb_S288x4096_S288x128_0_3328).toLoadRect f = run0 (v.read (Elt F) f) 3 2 := rfl

theorem load1_32 (v : View sig .tc .vmem S9x4096 .f32) (f : v.ty.Contents (Elt F)) :
    v.readAt (Elt F) (Rect.unit (s := S9x4096) ![0, 3328] S9x128.size Facts₀.inb_S9x4096_S9x128_0_3328).toLoadRect f = run1 (v.read (Elt F) f) 3 2 := rfl

theorem load0_33 (v : View sig .tc .vmem S288x4096 .fp8e4m3) (f : v.ty.Contents (Elt F)) :
    v.readAt (Elt F) (Rect.unit (s := S288x4096) ![0, 3456] S288x128.size Facts₀.inb_S288x4096_S288x128_0_3456).toLoadRect f = run0 (v.read (Elt F) f) 3 3 := rfl

theorem load1_33 (v : View sig .tc .vmem S9x4096 .f32) (f : v.ty.Contents (Elt F)) :
    v.readAt (Elt F) (Rect.unit (s := S9x4096) ![0, 3456] S9x128.size Facts₀.inb_S9x4096_S9x128_0_3456).toLoadRect f = run1 (v.read (Elt F) f) 3 3 := rfl

theorem load0_34 (v : View sig .tc .vmem S288x4096 .fp8e4m3) (f : v.ty.Contents (Elt F)) :
    v.readAt (Elt F) (Rect.unit (s := S288x4096) ![0, 3584] S288x128.size Facts₀.inb_S288x4096_S288x128_0_3584).toLoadRect f = run0 (v.read (Elt F) f) 3 4 := rfl

theorem load1_34 (v : View sig .tc .vmem S9x4096 .f32) (f : v.ty.Contents (Elt F)) :
    v.readAt (Elt F) (Rect.unit (s := S9x4096) ![0, 3584] S9x128.size Facts₀.inb_S9x4096_S9x128_0_3584).toLoadRect f = run1 (v.read (Elt F) f) 3 4 := rfl

theorem load0_35 (v : View sig .tc .vmem S288x4096 .fp8e4m3) (f : v.ty.Contents (Elt F)) :
    v.readAt (Elt F) (Rect.unit (s := S288x4096) ![0, 3712] S288x128.size Facts₀.inb_S288x4096_S288x128_0_3712).toLoadRect f = run0 (v.read (Elt F) f) 3 5 := rfl

theorem load1_35 (v : View sig .tc .vmem S9x4096 .f32) (f : v.ty.Contents (Elt F)) :
    v.readAt (Elt F) (Rect.unit (s := S9x4096) ![0, 3712] S9x128.size Facts₀.inb_S9x4096_S9x128_0_3712).toLoadRect f = run1 (v.read (Elt F) f) 3 5 := rfl

theorem load0_36 (v : View sig .tc .vmem S288x4096 .fp8e4m3) (f : v.ty.Contents (Elt F)) :
    v.readAt (Elt F) (Rect.unit (s := S288x4096) ![0, 3840] S288x128.size Facts₀.inb_S288x4096_S288x128_0_3840).toLoadRect f = run0 (v.read (Elt F) f) 3 6 := rfl

theorem load1_36 (v : View sig .tc .vmem S9x4096 .f32) (f : v.ty.Contents (Elt F)) :
    v.readAt (Elt F) (Rect.unit (s := S9x4096) ![0, 3840] S9x128.size Facts₀.inb_S9x4096_S9x128_0_3840).toLoadRect f = run1 (v.read (Elt F) f) 3 6 := rfl

theorem load0_37 (v : View sig .tc .vmem S288x4096 .fp8e4m3) (f : v.ty.Contents (Elt F)) :
    v.readAt (Elt F) (Rect.unit (s := S288x4096) ![0, 3968] S288x128.size Facts₀.inb_S288x4096_S288x128_0_3968).toLoadRect f = run0 (v.read (Elt F) f) 3 7 := rfl

theorem load1_37 (v : View sig .tc .vmem S9x4096 .f32) (f : v.ty.Contents (Elt F)) :
    v.readAt (Elt F) (Rect.unit (s := S9x4096) ![0, 3968] S9x128.size Facts₀.inb_S9x4096_S9x128_0_3968).toLoadRect f = run1 (v.read (Elt F) f) 3 7 := rfl

set_option maxHeartbeats 4000000 in
theorem bodyRun_pieces (c : Dev nD) (i : grid0.Coords) (arg1 : Memref sig .tc .vmem S288x4096 .fp8e4m3) (harg1 : arg1.IsWhole)
    (arg2 : Memref sig .tc .vmem S9x4096 .f32) (harg2 : arg2.IsWhole) (arg3 : Memref sig .tc .vmem S2560x128 .i32) (harg3 : arg3.IsWhole)
    (x0 : Vec F S288x4096 .fp8e4m3) (x1 : Vec F S9x4096 .f32) :
    (bodyRun c i arg1 harg1 arg2 harg2 arg3 harg3 x0 x1).1 = pieces x0 x1 := by
  obtain ⟨y0, h0⟩ : ∃ y, y = arg1.view.read (Elt F) (harg1.unread x0) := ⟨_, rfl⟩
  obtain ⟨y1, h1⟩ : ∃ y, y = arg2.view.read (Elt F) (harg2.unread x1) := ⟨_, rfl⟩
  have h : (bodyRun c i arg1 harg1 arg2 harg2 arg3 harg3 x0 x1).1
      = [stored34 y0 y1, stored33 y0 y1, stored32 y0 y1, stored31 y0 y1, stored30 y0 y1, stored24 y0 y1, stored23 y0 y1, stored22 y0 y1, stored21 y0 y1, stored20 y0 y1, stored14 y0 y1, stored13 y0 y1, stored12 y0 y1, stored11 y0 y1, stored10 y0 y1, stored04 y0 y1, stored03 y0 y1, stored02 y0 y1, stored01 y0 y1, stored00 y0 y1] := by
    subst h0 h1
    unfold bodyRun
    dsimp only
    rw [load0_00, load1_00, load0_01, load1_01, load0_02, load1_02, load0_03, load1_03, load0_04, load1_04, load0_05, load1_05, load0_06, load1_06, load0_07, load1_07, load0_10, load1_10, load0_11, load1_11, load0_12, load1_12, load0_13, load1_13, load0_14, load1_14, load0_15, load1_15, load0_16, load1_16, load0_17, load1_17, load0_20, load1_20, load0_21, load1_21, load0_22, load1_22, load0_23, load1_23, load0_24, load1_24, load0_25, load1_25, load0_26, load1_26, load0_27, load1_27, load0_30, load1_30, load0_31, load1_31, load0_32, load1_32, load0_33, load1_33, load0_34, load1_34, load0_35, load1_35, load0_36, load1_36, load0_37, load1_37]
    rfl
  rw [h]
  simp only [stored00_eq, stored01_eq, stored02_eq, stored03_eq, stored04_eq, stored10_eq, stored11_eq, stored12_eq, stored13_eq, stored14_eq, stored20_eq, stored21_eq, stored22_eq, stored23_eq, stored24_eq, stored30_eq, stored31_eq, stored32_eq, stored33_eq, stored34_eq]
  rw [h0, h1, harg1.read_unread, harg2.read_unread]
  rfl

end Cert.Table.Rows

end
-- ==== Proof.TableFrame.lean ====
/- The table's call: its run, from any memory. The blocks of its two arguments are clipped at the last point, so what the
   body leaves in the result's block is stated as a property: the words of blocks that agree with the arguments inside
   the arrays and hold anything past their ends. -/
module

public import proofs.«01_k».proof.Proof.TableStores
public import Idealize.ShloMosaic.Lib.Pipeline.KitQuiescent

@[expose] public section

set_option maxRecDepth 16384

noncomputable section

namespace Cert.Table.Rows

open Idealize.ShloMosaic Idealize.ShloMosaic.TcCoe Idealize.ShloMosaic.Tactic Cert.Table.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The arguments' blocks at point `t`, as far as they lie inside the arrays. -/
def blk0 (c : Dev nD) (t : Fin cfg0.N) : (win0_0.xblock (grid0.coords t)).Idx → Elt F .fp8e4m3 :=
  (win0_0.blk t).view.read (Elt F) (m ((c : Thread nD τ).loc main_arg0))
def blk1 (c : Dev nD) (t : Fin cfg0.N) : (win0_1.xblock (grid0.coords t)).Idx → Elt F .f32 :=
  (win0_1.blk t).view.read (Elt F) (m ((c : Thread nD τ).loc main_arg1))

def full0 (c : Dev nD) (t : Fin cfg0.N) (d : S288x4096.Idx → Elt F .fp8e4m3) : Vec F S288x4096 .fp8e4m3 := win0_0.fill (grid0.coords t) d (blk0 m c t)
def full1 (c : Dev nD) (t : Fin cfg0.N) (d : S9x4096.Idx → Elt F .f32) : Vec F S9x4096 .f32 := win0_1.fill (grid0.coords t) d (blk1 m c t)

/-- What the body leaves in the result's block at point `t`. -/
def Rl (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, X => ∃ d0 d1, X = rows (full0 m c t d0) (full1 m c t d1)

def fgt (w : Fin cfg0.W) : Bool := match w with | ⟨0, _⟩ => false | ⟨1, _⟩ => false | ⟨2, _⟩ => true

def dat (c : Dev nD) : Dat τ (Elt F) Unit ℕ (UR sig nD τ) ℕ cfg0 c where
  A w := m ((c : Thread nD τ).loc (Pipeline.arrRef spec0 w))
  after w t := match w with
    | ⟨0, _⟩ => full0 m c t (fun _ => Scalar.ofBits .fp8e4m3 0#8)
    | ⟨1, _⟩ => full1 m c t (fun _ => Scalar.ofBits .f32 0#32)
    | ⟨2, _⟩ => fun _ => (0#32 : BitVec 32)
  Φ _ := Pipeline.ΦA spec0 c
  q _ := fullShare
  owed _ := 0

theorem fetch0 : ∀ t : Fin cfg0.N, (cfg0.win 0).fetch t = true :=
  (by decide +kernel : ∀ t : Fin grid0.N, win0_0.fetch t = true)
theorem fetch1 : ∀ t : Fin cfg0.N, (cfg0.win 1).fetch t = true :=
  (by decide +kernel : ∀ t : Fin grid0.N, win0_1.fetch t = true)
theorem flush2 : ∀ t : Fin cfg0.N, (cfg0.win 2).flush t = true :=
  (by decide +kernel : ∀ t : Fin grid0.N, win0_2.flush t = true)

theorem before0 (c : Dev nD) (t : Fin cfg0.N) (d) : (dat m c).before 0 t d = full0 m c t d := by
  unfold Dat.before; rw [if_pos (fetch0 t)]; rfl
theorem before1 (c : Dev nD) (t : Fin cfg0.N) (d) : (dat m c).before 1 t d = full1 m c t d := by
  unfold Dat.before; rw [if_pos (fetch1 t)]; rfl

def bodyAt (t : Fin cfg0.N) : Prog (TpuEff nD τ sig (Elt F) Λ₀ .tc) PUnit :=
  cc0_item_table (grid0.coords t) (stage0_0 (cfg0.slots t 0)) (hstage0_0 (cfg0.slots t 0)) (stage0_1 (cfg0.slots t 1)) (hstage0_1 (cfg0.slots t 1))
    (stage0_2 (cfg0.slots t 2)) (hstage0_2 (cfg0.slots t 2))

theorem body_run (c : Dev nD) (t : Fin cfg0.N) (x0 : Vec F S288x4096 .fp8e4m3) (x1 : Vec F S9x4096 .f32) (E : Set ℕ) (K : PUnit → sProp 𝕄) :
    iprop(owns (c : Thread nD τ) (stage0_0 (cfg0.slots t 0)) fullShare x0 ∗ owns (c : Thread nD τ) (stage0_1 (cfg0.slots t 1)) fullShare x1
        ∗ (∃ d, owns (c : Thread nD τ) (stage0_2 (cfg0.slots t 2)) fullShare d)
        ∗ (iprop(owns (c : Thread nD τ) (stage0_0 (cfg0.slots t 0)) fullShare x0 ∗ owns (c : Thread nD τ) (stage0_1 (cfg0.slots t 1)) fullShare x1
            ∗ owns (c : Thread nD τ) (stage0_2 (cfg0.slots t 2)) fullShare (rows x0 x1)) -∗ K ⟨⟩))
      ⊢ wp frame (wpE (defs₀ (F := F)) Variants.none c none) E (bodyAt t) K := by
  unfold bodyAt
  iintro ⟨H0, H1, H2, Hk⟩
  iapply ((bodyRun c (grid0.coords t) _ _ _ _ _ _ x0 x1).2 E K)
  isplitl [H0]; · iexact H0
  isplitl [H1]; · iexact H1
  isplitl [H2]; · iexact H2
  iintro ⟨H0, H1, ⟨%f, H2⟩⟩
  iapply Hk
  isplitl [H0]; · iexact H0
  isplitl [H1]; · iexact H1
  rw [bodyRun_pieces, read_pieces]
  iexact H2

theorem body_obligation (c : Dev nD) :
    BodyObligationRel (dat m c) (defs₀ (F := F)) Variants.none () Set.univ fgt (Rl m c) := fun t => by
  rw [bigSep_W0, bigSep_W0]
  simp only [fgt]
  rw [show (dat m c).Φ t.succ = (dat m c).Φ t.castSucc from rfl,
    show (dat m c).owesAt () t.succ = (dat m c).owesAt () t.castSucc from rfl]
  iintro ⟨HΦ, Ho, ⟨%d0, H0⟩, ⟨%d1, H1⟩, ⟨%Y, -, H2⟩⟩
  rw [before0 m c t d0, before1 m c t d1]
  iapply (body_run c t (full0 m c t d0) (full1 m c t d1) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) (full0 m c t (fun _ => Scalar.ofBits .fp8e4m3 0#8)) = blk0 m c t := win0_0.cut_fill _ _ _
  have hy : win0_1.cut (grid0.coords t) (full1 m c t (fun _ => Scalar.ofBits .f32 0#32)) = blk1 m c t := win0_1.cut_fill _ _ _
  isplitl [H0]
  · iexists d0
    change _ ⊢ owns (c : Thread nD τ) (stage0_0 (cfg0.slots t 0)) fullShare
      (win0_0.fill (grid0.coords t) d0 (win0_0.cut (grid0.coords t) (full0 m c t (fun _ => Scalar.ofBits .fp8e4m3 0#8))))
    rw [hx]; exact Entails.refl _
  isplitl [H1]
  · iexists d1
    change _ ⊢ owns (c : Thread nD τ) (stage0_1 (cfg0.slots t 1)) fullShare
      (win0_1.fill (grid0.coords t) d1 (win0_1.cut (grid0.coords t) (full1 m c t (fun _ => Scalar.ofBits .f32 0#32))))
    rw [hy]; exact Entails.refl _
  · iexists (rows (full0 m c t d0) (full1 m c t d1))
    isplitr
    · ipureintro; exact ⟨d0, d1, rfl⟩
    · iexact H2

/-- The proof data, the result held to `Rl`. -/
def rdat (c : Dev nD) : RDat τ (Elt F) Unit ℕ (UR sig nD τ) ℕ cfg0 c := (dat m c).toRRel fgt (Rl m c)

set_option backward.isDefEq.respectTransparency.types false in
theorem run_main : θ_run defs (onTc (τ := τ) (main (F := F))) (s₀ m ρ)
    (fun r => RDat.FramePost cfg0 (rdat m) (fun c b => m ((c : Thread nD τ).loc b)) r ∧ r.2.sem = fun _ => 0) :=
  RDat.θ_run_frame cfgs (0 : Fin 1) launch0 defs₀ Variants.none (rdat m) m ρ main
    (hbody := fun c => (body_obligation m c).toRRel)
    (hshare := fun c w => (dat m c).share_full (fun _ => rfl) w) (howed := fun _ _ => rfl)
    (V := fun c b => m ((c : Thread nD τ).loc b))
    (hmain := Pipeline.hmain_region cfgs 0 defs₀ Variants.none m main fun _ => rfl)
    (hA := fun _ _ => rfl) (hΦ := fun _ _ => rfl) (Q' := _) (hQ' := fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨h.1.arr_in c 0 rfl, h.1.arr_in c 1 rfl⟩, h.2⟩) (run_main m ρ)

end Cert.Table.Rows

end
-- ==== Proof.TableItem.lean ====
/- Where the words of the table lie: row `R`, lane `L` of the table holds a word of one item, `item R L`; the rows past the
   last item's are those the mask leaves out. -/
module

public import proofs.«01_k».proof.Proof.TableWord
public import proofs.«01_k».proof.Proof.Gen.On_items

@[expose] public section

set_option maxRecDepth 16384

noncomputable section

namespace Cert.TableWord

open Idealize.ShloMosaic Idealize.ShloMosaic.ValueIdx

/-- The item whose word stands at row `R`, lane `L`, and which of its 80 words it is. -/
def item (R L : Nat) : Nat := 1024 * ((128 * R + L) / 80 / 1024) + 128 * ((128 * R + L) / 80 % 8) + (128 * R + L) / 80 % 1024 / 8
def part (R L : Nat) : Nat := (128 * R + L) % 80

theorem part_lt (R L : Nat) : part R L < 80 := Nat.mod_lt _ (by decide)
theorem item_lt (R : Fin 220160) (L : Fin 128) : item R L < 352256 := by
  have h : (128 * R.val + L.val) / 80 < 352256 := by omega
  unfold item
  generalize (128 * R.val + L.val) / 80 = r at h
  omega

/-- An array of 80 rows regrouped as the table. -/
theorem laid {α : Type} (x : (Mat 80 352256).Idx → α) (h1 : (Mat 80 352256).ShapeCasts ⟨4, ![80, 344, 8, 128]⟩)
    (h2 : (⟨4, ![80, 344, 8, 128]⟩ : Shape).Transposes [1, 3, 2, 0] ⟨4, ![344, 128, 8, 80]⟩)
    (h3 : (⟨4, ![344, 128, 8, 80]⟩ : Shape).ShapeCasts (Mat 220160 128)) (R : Fin 220160) (L : Fin 128) :
    shapeCast (Mat 220160 128) (transpose ⟨4, ![344, 128, 8, 80]⟩ [1, 3, 2, 0] (shapeCast ⟨4, ![80, 344, 8, 128]⟩ x h1) h2) h3 (ix2 R L) =
      x (ix2 (⟨part R L, part_lt R L⟩ : Fin 80) (⟨item R L, item_lt R L⟩ : Fin 352256)) := by
  have hf : (128 * R.val + L.val) / 80 < 352256 := by omega
  have hm : 80 * ((128 * R.val + L.val) / 80) + (128 * R.val + L.val) % 80 = 128 * R.val + L.val := by omega
  have hq := part_lt R L
  unfold part at hq
  have e : ∀ r : Nat, 8 * (128 * (r / 1024) + r % 1024 / 8) + r % 8 = r := by intro r; omega
  refine (shapeCast_apply _ h3 _ (ix4 (⟨(128 * R.val + L.val) / 80 / 1024, by omega⟩ : Fin 344)
    (⟨(128 * R.val + L.val) / 80 % 1024 / 8, by omega⟩ : Fin 128) (⟨(128 * R.val + L.val) / 80 % 8, by omega⟩ : Fin 8)
    (⟨(128 * R.val + L.val) % 80, hq⟩ : Fin 80)) ?_).trans ?_
  · rw [Shape.rowMajor_val_four, Shape.rowMajor_val_two]
    show ((((128 * R.val + L.val) / 80 / 1024) * 128 + (128 * R.val + L.val) / 80 % 1024 / 8) * 8 + (128 * R.val + L.val) / 80 % 8) * 80
      + (128 * R.val + L.val) % 80 = R.val * 128 + L.val
    have := e ((128 * R.val + L.val) / 80)
    omega
  refine (transpose_apply _ _ h2 _ (ix4 (⟨(128 * R.val + L.val) % 80, hq⟩ : Fin 80) (⟨(128 * R.val + L.val) / 80 / 1024, by omega⟩ : Fin 344)
    (⟨(128 * R.val + L.val) / 80 % 8, by omega⟩ : Fin 8) (⟨(128 * R.val + L.val) / 80 % 1024 / 8, by omega⟩ : Fin 128)) ?_).trans ?_
  · intro b; fin_cases b <;> rfl
  refine shapeCast_apply _ h1 _ _ ?_
  rw [Shape.rowMajor_val_four, Shape.rowMajor_val_two]
  show part R L * 352256 + item R L = ((((128 * R.val + L.val) % 80) * 344 + (128 * R.val + L.val) / 80 / 1024) * 8 + (128 * R.val + L.val) / 80 % 8) * 128
      + (128 * R.val + L.val) / 80 % 1024 / 8
  unfold part item
  omega

/-- Where the mask is set, the item is one of the arrays'. -/
theorem item_of_mask {F : FTy → Type} [FloatOps F] (a : FVec F On_items.S288x350000 .fp8e4m3) (b : FVec F On_items.S9x350000 .f32) (R : Fin 220160) (L : Fin 128)
    (h : On_items.fn a b (ix2 R L) = 1#1) : item R L < 350000 := by
  unfold On_items.fn at h
  have h := (laid _ _ _ _ R L).symm.trans h
  have hn := item_lt R L
  by_contra hc
  have e : (BitVec.ofNat 32 (item R L)).slt 350000#32 = false := by
    rw [BitVec.slt_eq_decide, decide_eq_false_iff_not, BitVec.toInt_eq_toNat_of_lt, BitVec.toInt_eq_toNat_of_lt] <;>
      simp only [BitVec.toNat_ofNat] <;> omega
  have h' : BitVec.ofBool ((BitVec.ofNat 32 (item R L)).slt 350000#32) = 1#1 := h
  rw [e] at h'
  exact absurd h' (by decide)

variable {F : FTy → Type} [BitOps F]

/-- The table of the words of the items. -/
def table (a : (Mat 288 350000).Idx → F .fp8e4m3) (b : (Mat 9 350000).Idx → F .f32) : (Mat 220160 128).Idx → BitVec 32 := fun i =>
  if h : item (i 0).val (i 1).val < 350000 then
    word (fun p => a (ix2 p (⟨item (i 0).val (i 1).val, h⟩ : Fin 350000))) (fun p => b (ix2 p (⟨item (i 0).val (i 1).val, h⟩ : Fin 350000)))
      ⟨part (i 0).val (i 1).val, part_lt _ _⟩
  else 0#32

end Cert.TableWord

end
-- ==== Proof.TableValue.lean ====
/- The table's call: its run leaves the table of the words of the items, at every index of an item. -/
module

public import proofs.«01_k».proof.Proof.TableFrame
public import proofs.«01_k».proof.Proof.TableItem
public import Idealize.ShloMosaic.Lib.Pipeline.ArrRel
public import Idealize.ShloMosaic.Lib.Pipeline.Value

@[expose] public section

set_option maxRecDepth 16384

noncomputable section

namespace Cert.Table.Rows

open Idealize.ShloMosaic Idealize.ShloMosaic.TcCoe Idealize.ShloMosaic.ValueIdx Idealize.SL.Sem Cert.Table Cert.Table.Gen Cert.TableWord
open Idealize.ShloMosaic.Pipeline (Dat RDat Cfg Window)

variable {F : FTy → Type} [BitOps F]
variable (m : (ℓ : Loc nD τ sig) → Buf (Elt F) ℓ) (ρ : Dev nD → PrngReg)

abbrev codes (c : Dev nD) : Vec F S288x350000 .fp8e4m3 := m ((c.tc : Thread nD τ).loc main_arg0)
abbrev scales (c : Dev nD) : Vec F S9x350000 .f32 := m ((c.tc : Thread nD τ).loc main_arg1)

theorem N_eq : grid0.N = 86 := by decide
theorem start (t : Fin grid0.N) : (BitVec.ofNat 32 (grid0.coords t 0).val).toNat = t.val :=
  (by decide +kernel : ∀ t : Fin grid0.N, (BitVec.ofNat 32 (grid0.coords t 0).val).toNat = t.val) t

/-- Where the items of a block stand in the arrays. -/
theorem item_col (t : Nat) (R : Fin 2560) (L : Fin 128) : item (2560 * t + R.val) L.val = 4096 * t + (col R L).val := by
  have hL := L.isLt
  have hR := R.isLt
  have e1 : (128 * (2560 * t + R.val) + L.val) / 80 = 4096 * t + 1024 * (R.val / 640) + 8 * (R.val % 640 / 5) + (128 * (R.val % 5) + L.val) / 80 := by omega
  have h1 : R.val % 640 / 5 < 128 := by omega
  have h2 : (128 * (R.val % 5) + L.val) / 80 < 8 := by omega
  show _ = 4096 * t + (1024 * (R.val / 640) + 128 * ((128 * (R.val % 5) + L.val) / 80) + R.val % 640 / 5)
  unfold item
  rw [e1]
  generalize R.val % 640 / 5 = l at h1 ⊢
  generalize (128 * (R.val % 5) + L.val) / 80 = a at h2 ⊢
  generalize R.val / 640 = g
  omega
theorem part_wd (t : Nat) (R : Fin 2560) (L : Fin 128) : part (2560 * t + R.val) L.val = (wd R L).val := by
  show (128 * (2560 * t + R.val) + L.val) % 80 = (128 * (R.val % 5) + L.val) % 80
  omega

theorem width0 (t : Fin grid0.N) : win0_0.xsize (grid0.coords t) 0 = 288 ∧ win0_0.xsize (grid0.coords t) 1 = min 4096 (350000 - 4096 * t.val) :=
  (by decide +kernel : ∀ t : Fin grid0.N, win0_0.xsize (grid0.coords t) 0 = 288 ∧ win0_0.xsize (grid0.coords t) 1 = min 4096 (350000 - 4096 * t.val)) t

theorem full0_apply (c : Dev nD) (t : Fin grid0.N) (d) (p : Fin 288) (j : Fin 4096) (n : Fin 350000) (hn : n.val = 4096 * t.val + j.val) :
    full0 m c t d (ix2 p j) = codes m c (ix2 p n) := by
  have e := start t
  have hm : win0_0.moved (grid0.coords t) (ix2 p j) = true := by
    rw [win0_0.moved_iff]
    intro a
    fin_cases a
    · exact p.isLt.trans_eq (width0 t).1.symm
    · refine Nat.lt_of_lt_of_eq ?_ (width0 t).2.symm
      show j.val < _
      omega
  unfold full0 Window.fill
  rw [dif_pos hm]
  refine congrArg (codes m c) (funext fun k => Fin.ext ?_)
  fin_cases k
  · show 0 * 288 + 1 * p.val = p.val; omega
  · show (BitVec.ofNat 32 (grid0.coords t 0).val).toNat * 4096 + 1 * j.val = n.val; omega
theorem width1 (t : Fin grid0.N) : win0_1.xsize (grid0.coords t) 0 = 9 ∧ win0_1.xsize (grid0.coords t) 1 = min 4096 (350000 - 4096 * t.val) :=
  (by decide +kernel : ∀ t : Fin grid0.N, win0_1.xsize (grid0.coords t) 0 = 9 ∧ win0_1.xsize (grid0.coords t) 1 = min 4096 (350000 - 4096 * t.val)) t

theorem full1_apply (c : Dev nD) (t : Fin grid0.N) (d) (p : Fin 9) (j : Fin 4096) (n : Fin 350000) (hn : n.val = 4096 * t.val + j.val) :
    full1 m c t d (ix2 p j) = scales m c (ix2 p n) := by
  have e := start t
  have hm : win0_1.moved (grid0.coords t) (ix2 p j) = true := by
    rw [win0_1.moved_iff]
    intro a
    fin_cases a
    · exact p.isLt.trans_eq (width1 t).1.symm
    · refine Nat.lt_of_lt_of_eq ?_ (width1 t).2.symm
      show j.val < _
      omega
  unfold full1 Window.fill
  rw [dif_pos hm]
  refine congrArg (scales m c) (funext fun k => Fin.ext ?_)
  fin_cases k
  · show 0 * 9 + 1 * p.val = p.val; omega
  · show (BitVec.ofNat 32 (grid0.coords t 0).val).toNat * 4096 + 1 * j.val = n.val; omega

theorem rows_table (c : Dev nD) (t : Fin grid0.N) (d0) (d1) (y : S2560x128.Idx) (i : (Mat 220160 128).Idx)
    (h0 : (i 0).val = 2560 * t.val + (y 0).val) (h1 : (i 1).val = (y 1).val) (hn : item (i 0).val (i 1).val < 350000) :
    rows (full0 m c t d0) (full1 m c t d1) y = table (codes m c) (scales m c) i := by
  have ei : item (i 0).val (i 1).val = 4096 * t.val + (col (y 0) (y 1)).val := by rw [h0, h1]; exact item_col _ _ _
  have ep : part (i 0).val (i 1).val = (wd (y 0) (y 1)).val := by rw [h0, h1]; exact part_wd _ _ _
  unfold rows table
  rw [dif_pos hn]
  have e0 : (fun p => full0 m c t d0 (ix2 p (col (y 0) (y 1)))) = fun p => codes m c (ix2 p ⟨item (i 0).val (i 1).val, hn⟩) :=
    funext fun p => full0_apply m c t d0 p _ _ ei
  have e1 : (fun p => full1 m c t d1 (ix2 p (col (y 0) (y 1)))) = fun p => scales m c (ix2 p ⟨item (i 0).val (i 1).val, hn⟩) :=
    funext fun p => full1_apply m c t d1 p _ _ ei
  have e2 : wd (y 0) (y 1) = ⟨part (i 0).val (i 1).val, part_lt _ _⟩ := Fin.ext ep.symm
  rw [e0, e1, e2]

theorem cover (i : S220160x128.Idx) : ∃ t : Fin cfg0.N, (cfg0.win 2).flush t = true ∧ i ∈ ((cfg0.win 2).blk t).view.set := by
  have hi : (i 0).val < 220160 := (i 0).isLt
  have h1 : (i 1).val < 128 := (i 1).isLt
  let t : Fin grid0.N := ⟨(i 0).val / 2560, by rw [N_eq]; omega⟩
  have e := start t
  have et : t.val = (i 0).val / 2560 := rfl
  refine ⟨t, flush2 t, ?_⟩
  show i ∈ ((View.whole main_v0).slice ((cfg0.win 2).rect t)).set
  erw [View.set_slice_whole]
  refine (Pipeline.Window.mem_rect_iff (cfg0.win 2) t i (by rfl)).mpr fun a => ?_
  fin_cases a
  · show (BitVec.ofNat 32 (grid0.coords t 0).val).toNat * 2560 ≤ (i 0).val ∧ (i 0).val < (BitVec.ofNat 32 (grid0.coords t 0).val).toNat * 2560 + 2560
    omega
  · show 0 * 128 ≤ (i 1).val ∧ (i 1).val < 0 * 128 + 128; omega

instance nonempty_elt (e : EltTy) : Nonempty (Elt F e) := by
  cases e
  case i1 | i4 | i8 | i16 | i32 | i64 => exact ⟨BitVec.ofNat _ 0⟩
  all_goals exact ⟨Scalar.ofBits _ 0#_⟩

theorem final (c : Dev nD) (d : Dat τ (Elt F) Unit ℕ (UR sig nD τ) ℕ cfg0 c)
    (h : ∀ t : Fin cfg0.N, ∃ d0 d1, d.after 2 t = rows (full0 m c t d0) (full1 m c t d1)) (i : S220160x128.Idx) :
    item (i 0).val (i 1).val < 350000 → (d.arrAt 2 cfg0.N : Vec F S220160x128 .i32) i = table (codes m c) (scales m c) i := by
  refine d.arrAt_forall_of_cover 2 (fun (i : S220160x128.Idx) v => item (i 0).val (i 1).val < 350000 → v = table (codes m c) (scales m c) i) ?_ cover i
  intro t _ (y : S2560x128.Idx) hn
  obtain ⟨d0, d1, e⟩ := h t
  have es := start t
  show (cfg0.win 2).cut (grid0.coords t) (d.after 2 t) y = _
  rw [e]
  refine rows_table m c t d0 d1 y _ ?_ ?_ hn
  · show (BitVec.ofNat 32 (grid0.coords t 0).val).toNat * 2560 + 1 * (y 0).val = _; omega
  · show 0 * 128 + 1 * (y 1).val = _; omega

/-- The run: at every index of an item, the result is the table's word; and the arguments end unchanged. -/
theorem run : θ_run defs (onTc (τ := τ) (main (F := F))) ⟨m, fun _ => 0, ρ⟩ (fun r => ∀ c : Dev nD,
      (∀ i : S220160x128.Idx, item (i 0).val (i 1).val < 350000 →
        (r.2.mem ((c.tc : Thread nD τ).loc main_v0) : Vec F S220160x128 .i32) i = table (codes m c) (scales m c) i)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨fun i hn => ?_, h.1.arr_in c 0 rfl, h.1.arr_in c 1 rfl⟩) (run_main m ρ)
  obtain ⟨after, hL, hA⟩ := h.1.exists_exact c
  refine (congrFun (hA 2) i).trans (final m c _ (fun t => ?_) i hn)
  exact Dat.toRRel_leaves (dat m c) (w := (2 : Fin cfg0.W)) rfl (hL 2 t (flush2 t))

end Cert.Table.Rows

end
-- ==== Proof.TableRef.lean ====
/- The reference of the table's call: its run leaves the table of the words of the items. -/
module

public import proofs.«01_k».proof.Proof.TableItem
public import proofs.«01_k».proof.Proof.Gen.TableReference.Frame
public import Idealize.ShloMosaic.Lib.StableHlo.RunRead
public import Idealize.ShloMosaic.Lib.KernelVsHost
public import Idealize.ShloMosaic.Lib.Pipeline.ValueKit.Geometry

@[expose] public section

set_option maxRecDepth 65536

noncomputable section

namespace Cert.TableReference.Value

open Idealize.ShloMosaic Idealize.ShloMosaic.TcCoe Idealize.ShloMosaic.ValueIdx Idealize.SL.Sem Cert.TableReference Cert.TableReference.Gen Cert.TableWord
open Idealize.ShloMosaic.Pipeline (Dat)

variable {F : FTy → Type} [BitOps F]
variable (m : (ℓ : Loc nD τ sig) → Buf (Elt F) ℓ) (ρ : Dev nD → PrngReg) (c : Dev nD)

/-- The one grid point. -/
abbrev pt : Fin cfg0.N := ⟨0, by decide⟩

abbrev codes : Vec F S288x350000 .fp8e4m3 := m ((c.tc : Thread nD τ).loc main_arg0)
abbrev scales : Vec F S9x350000 .f32 := m ((c.tc : Thread nD τ).loc main_arg1)

theorem load0 : View.ld (iblk m c 0 pt) r0_1 = codes m c := by
  funext (y : S288x350000.Idx)
  refine congrArg (codes m c) (funext fun k => Fin.ext ?_)
  fin_cases k
  · show 0 * 288 + 1 * (0 + 1 * (y 0).val) = (y 0).val; omega
  · show 0 * 350000 + 1 * (0 + 1 * (y 1).val) = (y 1).val; omega
theorem load1 : View.ld (iblk m c 1 pt) r0_0 = scales m c := by
  funext (y : S9x350000.Idx)
  refine congrArg (scales m c) (funext fun k => Fin.ext ?_)
  fin_cases k
  · show 0 * 9 + 1 * (0 + 1 * (y 0).val) = (y 0).val; omega
  · show 0 * 350000 + 1 * (0 + 1 * (y 1).val) = (y 1).val; omega

/-- A whole-array store is the array stored. -/
theorem canon_2 (P : Vec F S80x350000 .i32) (y : S80x350000.Idx) : View.canon (Val := Elt F) [⟨r0_2, P⟩] y = P y := by
  refine View.canon_apply_of_pieces (Val := Elt F) P _ ?_ y (cover0_2 _ y)
  intro pc hpc
  rcases List.mem_cons.mp hpc with rfl | hpc
  · intro x
    refine congrArg P (funext fun k => Fin.ext ?_)
    fin_cases k
    · show (x 0).val = 0 + 1 * (x 0).val; omega
    · show (x 1).val = 0 + 1 * (x 1).val; omega
  · nomatch hpc

theorem flush2 : (cfg0.win 2).flush pt = true := (by decide +kernel : win0_2.flush (⟨0, by decide⟩ : Fin grid0.N) = true)

theorem N_one (t : Fin cfg0.N) : t = pt := Fin.ext (Nat.lt_one_iff.mp (t.isLt.trans_eq (by decide)))

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ h => absurd ((N_one t).trans (N_one t').symm) h

theorem after_apply (q : Fin 80) (n : Fin 350000) :
    out0_2 (iblk m c 0 pt) (iblk m c 1 pt) (ix2 q n) = word (fun p => codes m c (ix2 p n)) (fun p => scales m c (ix2 p n)) q := by
  unfold out0_2
  rw [canon_2, load0, load1]
  exact reference_word _ _ q n

section
variable {c} (d : Dat τ (Elt F) Unit ℕ (UR sig nD τ) ℕ cfg0 c)

theorem cover (i : S80x350000.Idx) : ∃ t : Fin cfg0.N, (cfg0.win 2).flush t = true ∧ i ∈ ((cfg0.win 2).blk t).view.set := by
  have h0 : (i 0).val < 80 := (i 0).isLt
  have h1 : (i 1).val < 350000 := (i 1).isLt
  refine ⟨pt, flush2, ?_⟩
  show i ∈ ((View.whole main_v0).slice ((cfg0.win 2).rect pt)).set
  erw [View.set_slice_whole]
  refine (Pipeline.Window.mem_rect_iff (cfg0.win 2) pt i (by rfl)).mpr fun a => ?_
  fin_cases a
  · show 0 * 80 ≤ (i 0).val ∧ (i 0).val < 0 * 80 + 80; omega
  · show 0 * 350000 ≤ (i 1).val ∧ (i 1).val < 0 * 350000 + 350000; omega

theorem read_out (X : Vec F S80x350000 .i32) (h : d.after 2 pt = X) (i : S80x350000.Idx) :
    (d.arrAt 2 cfg0.N : Vec F S80x350000 .i32) i = X i := by
  refine d.arrAt_forall_of_cover 2 (fun (i : S80x350000.Idx) v => v = X i) ?_ cover i
  intro t _ (y : S80x350000.Idx)
  obtain rfl := N_one t
  show (cfg0.win 2).cut (grid0.coords pt) (d.after 2 pt) y = _
  rw [h]
  show X ((cfg0.win 2).xinj (grid0.coords pt) y) = X (((cfg0.win 2).blk pt).view.emb y)
  refine congrArg X (funext fun k => Fin.ext ?_)
  fin_cases k
  · show (y 0).val = 0 * 80 + 1 * (y 0).val; omega
  · show (y 1).val = 0 * 350000 + 1 * (y 1).val; omega
end

theorem words_out (q : Fin 80) (n : Fin 350000) :
    ((dats m 0 c).arrAt 2 cfg0.N : Vec F S80x350000 .i32) (ix2 q n) = word (fun p => codes m c (ix2 p n)) (fun p => scales m c (ix2 p n)) q :=
  (read_out (dats m 0 c) _ (after0_2 m c pt) (ix2 q n)).trans (after_apply m c q n)

theorem arrays_inj : Function.Injective (Pipeline.arrRef spec0) := by decide

theorem tail (D : (p : Fin 1) → (c : Dev nD) → Dat τ (Elt F) Unit ℕ (UR sig nD τ) ℕ (cfgs p) c) (W : Vec F S80x350000 .i32)
    (h : (D 0 c).arrAt 2 cfg0.N = W) (R : Fin 220160) (L : Fin 128) (hn : item R L < 350000) :
    (Pipeline.afterTail₀ cfgs D 0 (V0 m) [hostOps1] c main_v4 : Vec F S220160x128 .i32) (ix2 R L) = W (ix2 ⟨part R L, part_lt R L⟩ ⟨item R L, hn⟩) := by
  unfold Pipeline.afterTail₀
  after_reads_simp
  refine (laid _ _ _ _ R L).trans ?_
  refine (pad_apply_of_inside _ _ _ _ _ _ _ _ (ix2 ⟨part R L, part_lt R L⟩ ⟨item R L, hn⟩) ?_).trans ?_
  · intro a; fin_cases a
    · show part R L = 0 + part R L * (0 + 1); omega
    · show item R L = 0 + item R L * (0 + 1); omega
  refine (congrFun (Pipeline.withArrays_arr spec0 arrays_inj c (V0 m c) _ 2) _).trans ?_
  exact congrFun h _

/-- The run: at every index of an item, the result is the table's word; and the arguments end unchanged. -/
theorem run : θ_run defs (onTc (τ := τ) (main (F := F))) ⟨m, fun _ => 0, ρ⟩ (fun r => ∀ c : Dev nD,
      (∀ (R : Fin 220160) (L : Fin 128), item R L < 350000 →
        (r.2.mem ((c.tc : Thread nD τ).loc main_v4) : Vec F S220160x128 .i32) (ix2 R L) = table (codes m c) (scales m c) (ix2 R L))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨fun R L hn => ?_, h.2 c⟩) (θ_run_and (run_main m ρ) (unchanged m ρ))
  refine (congrFun ((h.1 c).2 main_v4 (by decide)) (ix2 R L)).trans ?_
  refine (tail m c (dats m) _ rfl R L hn).trans ((words_out m c _ _).trans ?_)
  unfold table
  rw [dif_pos (show item ((ix2 R L : (Mat 220160 128).Idx) 0).val ((ix2 R L : (Mat 220160 128).Idx) 1).val < 350000 from hn)]

end Cert.TableReference.Value

end
-- ==== Proof.TableClaim.lean ====
/- The table's call and its reference leave the same words at every index of an item. -/
module

public import proofs.«01_k».proof.Defs
public import proofs.«01_k».proof.Proof.TableValue
public import proofs.«01_k».proof.Proof.TableRef

@[expose] public section

set_option maxRecDepth 16384

noncomputable section

namespace Cert.TableWord

open Idealize.ShloMosaic Idealize.ShloMosaic.TcCoe Idealize.ShloMosaic.ValueIdx Idealize.SL.Sem

/-- Where the mask is set, at any index. -/
theorem item_of_set {F : FTy → Type} [FloatOps F] (a : FVec F On_items.S288x350000 .fp8e4m3) (b : FVec F On_items.S9x350000 .f32) (i : (Mat 220160 128).Idx)
    (h : On_items.fn a b i = 1#1) : item (i 0).val (i 1).val < 350000 :=
  item_of_mask a b (i 0) (i 1) ((congrArg (On_items.fn a b) (eq_ix2 i)).symm.trans h)

theorem bitexact : Cert.bitexact_Table_TableReference_on_items := by
  intro m g m' g' _ hag
  refine ⟨fun c => table (Table.Rows.codes m c) (Table.Rows.scales m c), ?_, ?_⟩
  · refine (θ_run _ _ _).mono (fun r h c => ⟨fun i hi => ?_, (h c).2⟩) (Table.Rows.run m g)
    exact (h c).1 i (item_of_set _ _ i hi)
  · refine (θ_run _ _ _).mono (fun r h c => ⟨fun i hi => ?_, (h c).2⟩) (TableReference.Value.run m' g')
    have e0 : TableReference.Value.codes m' c = Table.Rows.codes m c := (hag c).1
    have e1 : TableReference.Value.scales m' c = Table.Rows.scales m c := (hag c).2
    have e := (h c).1 (i 0) (i 1) (item_of_set _ _ i hi)
    rw [e0, e1] at e
    have k : ∀ j : (Mat 220160 128).Idx, j = i → (r.2.mem ((c.tc : Thread TableReference.nD TableReference.τ).loc TableReference.main_v4) : (Mat 220160 128).Idx → BitVec 32) j
        = table (Table.Rows.codes m c) (Table.Rows.scales m c) j →
      (r.2.mem ((c.tc : Thread TableReference.nD TableReference.τ).loc TableReference.main_v4) : (Mat 220160 128).Idx → BitVec 32) i
        = table (Table.Rows.codes m c) (Table.Rows.scales m c) i := fun j hj hX => hj ▸ hX
    exact k _ (eq_ix2 i).symm e

end Cert.TableWord

end
-- ==== Proof.lean ====
/- The certificate: the frame of the table's call is that of `Proof/TableFrame.lean`, the other frames are the generated ones,
   no operation was rewritten, and the value claims are those of `Proof/Chunks.lean` and `Proof/TableClaim.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelBIdeal.Frame
public import proofs.«01_k».proof.Proof.Gen.KernelCIdeal.Frame
public import proofs.«01_k».proof.Proof.Gen.KernelDIdeal.Frame
public import proofs.«01_k».proof.Proof.Gen.ReferenceBIdeal.Frame
public import proofs.«01_k».proof.Proof.Gen.ReferenceCIdeal.Frame
public import proofs.«01_k».proof.Proof.Gen.ReferenceDIdeal.Frame
public import proofs.«01_k».proof.Proof.Gen.KernelB.Frame
public import proofs.«01_k».proof.Proof.Gen.KernelC.Frame
public import proofs.«01_k».proof.Proof.Gen.KernelD.Frame
public import proofs.«01_k».proof.Proof.Gen.ReferenceBIdeal.Value
public import proofs.«01_k».proof.Proof.Gen.ReferenceCIdeal.Value
public import proofs.«01_k».proof.Proof.Gen.ReferenceDIdeal.Value
public import proofs.«01_k».proof.Proof.Chunks
public import proofs.«01_k».proof.Proof.Gen.Table.Launch
public import proofs.«01_k».proof.Proof.Gen.Table.Skeleton
public import proofs.«01_k».proof.Proof.Gen.TableReference.Frame
public import proofs.«01_k».proof.Proof.Gen.On_items
public import proofs.«01_k».proof.Proof.TableClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelB.Gen.facts, Cert.KernelBIdeal.Gen.facts, Cert.ReferenceBIdeal.Gen.facts,
  Cert.KernelC.Gen.facts, Cert.KernelCIdeal.Gen.facts, Cert.ReferenceCIdeal.Gen.facts,
  Cert.KernelD.Gen.facts, Cert.KernelDIdeal.Gen.facts, Cert.ReferenceDIdeal.Gen.facts,
  Cert.Table.Gen.facts, Cert.TableReference.Gen.facts,
  Cert.Pre_packed.facts, Cert.On_items.Gen.facts,
  fun m ρ _ => Cert.Kernel.Gen.frame m ρ trivial,
  fun m ρ _ => Cert.KernelIdeal.Gen.frame m ρ trivial,
  fun m ρ _ => Cert.KernelIdeal.Gen.frame m ρ trivial,
  fun m ρ _ => Cert.ReferenceIdeal.Gen.frame m ρ,
  fun m ρ _ => Cert.ReferenceIdeal.Gen.frame m ρ,
  fun m ρ _ => Cert.KernelB.Gen.frame m ρ trivial,
  fun m ρ _ => Cert.KernelBIdeal.Gen.frame m ρ trivial,
  fun m ρ _ => Cert.KernelBIdeal.Gen.frame m ρ trivial,
  fun m ρ _ => Cert.ReferenceBIdeal.Gen.frame m ρ,
  fun m ρ _ => Cert.ReferenceBIdeal.Gen.frame m ρ,
  fun m ρ _ => Cert.KernelC.Gen.frame m ρ trivial,
  fun m ρ _ => Cert.KernelCIdeal.Gen.frame m ρ trivial,
  fun m ρ _ => Cert.KernelCIdeal.Gen.frame m ρ trivial,
  fun m ρ _ => Cert.ReferenceCIdeal.Gen.frame m ρ,
  fun m ρ _ => Cert.ReferenceCIdeal.Gen.frame m ρ,
  fun m ρ _ => Cert.KernelD.Gen.frame m ρ trivial,
  fun m ρ _ => Cert.KernelDIdeal.Gen.frame m ρ trivial,
  fun m ρ _ => Cert.KernelDIdeal.Gen.frame m ρ trivial,
  fun m ρ _ => Cert.ReferenceDIdeal.Gen.frame m ρ,
  fun m ρ _ => Cert.ReferenceDIdeal.Gen.frame m ρ,
  fun m ρ _ => Cert.Table.Rows.frame m ρ,
  fun m ρ _ => Cert.TableReference.Gen.frame m ρ,
  trivial, Cert.KernelIdeal.Attn.algebraic,
  trivial, Cert.KernelBIdeal.Attn.algebraic,
  trivial, Cert.KernelCIdeal.Attn.algebraic,
  trivial, Cert.KernelDIdeal.Attn.algebraic,
  Cert.TableWord.bitexact⟩

end Cert.Proof

end
